-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReference (m : (ℓ : Loc Cert.QuantReference.nD Cert.QuantReference.τ Cert.QuantReference.sig) → Buf (Elt Bits) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def Pre_PrepKV (m : (ℓ : Loc Cert.PrepKV.nD Cert.PrepKV.τ Cert.PrepKV.sig) → Buf (Elt Bits) ℓ) : Prop :=
  True

def Pre_PrepKVIdeal (m : (ℓ : Loc Cert.PrepKVIdeal.nD Cert.PrepKVIdeal.τ Cert.PrepKVIdeal.sig) → Buf (Elt Ideal) ℓ) : Prop :=
  True

def Pre_PrepKVReferenceIdeal (m : (ℓ : Loc Cert.PrepKVReferenceIdeal.nD Cert.PrepKVReferenceIdeal.τ Cert.PrepKVReferenceIdeal.sig) → Buf (Elt Ideal) ℓ) : Prop :=
  True

def Pre_PrepQ (m : (ℓ : Loc Cert.PrepQ.nD Cert.PrepQ.τ Cert.PrepQ.sig) → Buf (Elt Bits) ℓ) : Prop :=
  True

def Pre_PrepQIdeal (m : (ℓ : Loc Cert.PrepQIdeal.nD Cert.PrepQIdeal.τ Cert.PrepQIdeal.sig) → Buf (Elt Ideal) ℓ) : Prop :=
  True

def Pre_PrepQReferenceIdeal (m : (ℓ : Loc Cert.PrepQReferenceIdeal.nD Cert.PrepQReferenceIdeal.τ Cert.PrepQReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0)
      ∧ r.2.mem ((c.tc : Thread Cert.Amax.nD Cert.Amax.τ).loc Cert.Amax.main_arg1) = m ((c.tc : Thread Cert.Amax.nD Cert.Amax.τ).loc Cert.Amax.main_arg1)
      ∧ r.2.mem ((c.tc : Thread Cert.Amax.nD Cert.Amax.τ).loc Cert.Amax.main_arg2) = m ((c.tc : Thread Cert.Amax.nD Cert.Amax.τ).loc Cert.Amax.main_arg2)
      ∧ r.2.mem ((c.tc : Thread Cert.Amax.nD Cert.Amax.τ).loc Cert.Amax.main_arg3) = m ((c.tc : Thread Cert.Amax.nD Cert.Amax.τ).loc Cert.Amax.main_arg3)
      ∧ r.2.mem ((c.tc : Thread Cert.Amax.nD Cert.Amax.τ).loc Cert.Amax.main_arg4) = m ((c.tc : Thread Cert.Amax.nD Cert.Amax.τ).loc Cert.Amax.main_arg4))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
      ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1)
      ∧ r.2.mem ((c.tc : Thread Cert.AmaxIdeal.nD Cert.AmaxIdeal.τ).loc Cert.AmaxIdeal.main_arg2) = m ((c.tc : Thread Cert.AmaxIdeal.nD Cert.AmaxIdeal.τ).loc Cert.AmaxIdeal.main_arg2)
      ∧ r.2.mem ((c.tc : Thread Cert.AmaxIdeal.nD Cert.AmaxIdeal.τ).loc Cert.AmaxIdeal.main_arg3) = m ((c.tc : Thread Cert.AmaxIdeal.nD Cert.AmaxIdeal.τ).loc Cert.AmaxIdeal.main_arg3)
      ∧ r.2.mem ((c.tc : Thread Cert.AmaxIdeal.nD Cert.AmaxIdeal.τ).loc Cert.AmaxIdeal.main_arg4) = m ((c.tc : Thread Cert.AmaxIdeal.nD Cert.AmaxIdeal.τ).loc Cert.AmaxIdeal.main_arg4))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0)
      ∧ r.2.mem ((c.tc : Thread Cert.AmaxReferenceIdeal.nD Cert.AmaxReferenceIdeal.τ).loc Cert.AmaxReferenceIdeal.main_arg1) = m ((c.tc : Thread Cert.AmaxReferenceIdeal.nD Cert.AmaxReferenceIdeal.τ).loc Cert.AmaxReferenceIdeal.main_arg1)
      ∧ r.2.mem ((c.tc : Thread Cert.AmaxReferenceIdeal.nD Cert.AmaxReferenceIdeal.τ).loc Cert.AmaxReferenceIdeal.main_arg2) = m ((c.tc : Thread Cert.AmaxReferenceIdeal.nD Cert.AmaxReferenceIdeal.τ).loc Cert.AmaxReferenceIdeal.main_arg2)
      ∧ r.2.mem ((c.tc : Thread Cert.AmaxReferenceIdeal.nD Cert.AmaxReferenceIdeal.τ).loc Cert.AmaxReferenceIdeal.main_arg3) = m ((c.tc : Thread Cert.AmaxReferenceIdeal.nD Cert.AmaxReferenceIdeal.τ).loc Cert.AmaxReferenceIdeal.main_arg3)
      ∧ r.2.mem ((c.tc : Thread Cert.AmaxReferenceIdeal.nD Cert.AmaxReferenceIdeal.τ).loc Cert.AmaxReferenceIdeal.main_arg4) = m ((c.tc : Thread Cert.AmaxReferenceIdeal.nD Cert.AmaxReferenceIdeal.τ).loc Cert.AmaxReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3)
      ∧ r.2.mem ((c.tc : Thread Cert.Quant.nD Cert.Quant.τ).loc Cert.Quant.main_arg4) = m ((c.tc : Thread Cert.Quant.nD Cert.Quant.τ).loc Cert.Quant.main_arg4)
      ∧ r.2.mem ((c.tc : Thread Cert.Quant.nD Cert.Quant.τ).loc Cert.Quant.main_arg5) = m ((c.tc : Thread Cert.Quant.nD Cert.Quant.τ).loc Cert.Quant.main_arg5))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
      ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
      ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ r.2.sem = fun _ => 0)

def quiescent_QuantReference [hQuantReference : Cert.QuantReference.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0)
      ∧ r.2.mem ((c.tc : Thread Cert.QuantReference.nD Cert.QuantReference.τ).loc Cert.QuantReference.main_arg1) = m ((c.tc : Thread Cert.QuantReference.nD Cert.QuantReference.τ).loc Cert.QuantReference.main_arg1)
      ∧ r.2.mem ((c.tc : Thread Cert.QuantReference.nD Cert.QuantReference.τ).loc Cert.QuantReference.main_arg2) = m ((c.tc : Thread Cert.QuantReference.nD Cert.QuantReference.τ).loc Cert.QuantReference.main_arg2)
      ∧ r.2.mem ((c.tc : Thread Cert.QuantReference.nD Cert.QuantReference.τ).loc Cert.QuantReference.main_arg3) = m ((c.tc : Thread Cert.QuantReference.nD Cert.QuantReference.τ).loc Cert.QuantReference.main_arg3)
      ∧ r.2.mem ((c.tc : Thread Cert.QuantReference.nD Cert.QuantReference.τ).loc Cert.QuantReference.main_arg4) = m ((c.tc : Thread Cert.QuantReference.nD Cert.QuantReference.τ).loc Cert.QuantReference.main_arg4)
      ∧ r.2.mem ((c.tc : Thread Cert.QuantReference.nD Cert.QuantReference.τ).loc Cert.QuantReference.main_arg5) = m ((c.tc : Thread Cert.QuantReference.nD Cert.QuantReference.τ).loc Cert.QuantReference.main_arg5))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2)
      ∧ r.2.mem ((c.tc : Thread Cert.QuantReferenceIdeal.nD Cert.QuantReferenceIdeal.τ).loc Cert.QuantReferenceIdeal.main_arg3) = m ((c.tc : Thread Cert.QuantReferenceIdeal.nD Cert.QuantReferenceIdeal.τ).loc Cert.QuantReferenceIdeal.main_arg3)
      ∧ r.2.mem ((c.tc : Thread Cert.QuantReferenceIdeal.nD Cert.QuantReferenceIdeal.τ).loc Cert.QuantReferenceIdeal.main_arg4) = m ((c.tc : Thread Cert.QuantReferenceIdeal.nD Cert.QuantReferenceIdeal.τ).loc Cert.QuantReferenceIdeal.main_arg4)
      ∧ r.2.mem ((c.tc : Thread Cert.QuantReferenceIdeal.nD Cert.QuantReferenceIdeal.τ).loc Cert.QuantReferenceIdeal.main_arg5) = m ((c.tc : Thread Cert.QuantReferenceIdeal.nD Cert.QuantReferenceIdeal.τ).loc Cert.QuantReferenceIdeal.main_arg5))
      ∧ r.2.sem = fun _ => 0)

def quiescent_PrepKV [hPrepKV : Cert.PrepKV.Facts] : Prop :=
  ∀ (m : (ℓ : Loc Cert.PrepKV.nD Cert.PrepKV.τ Cert.PrepKV.sig) → Buf (Elt Bits) ℓ) (g : Dev Cert.PrepKV.nD → PrngReg), Pre_PrepKV m →
    θ_run (Cert.PrepKV.defs (F := Bits)) (onTc (τ := Cert.PrepKV.τ) (Cert.PrepKV.main (F := Bits))) ⟨m, fun _ => 0, g⟩ (fun r => (∀ c : Dev Cert.PrepKV.nD,
      r.2.mem ((c.tc : Thread Cert.PrepKV.nD Cert.PrepKV.τ).loc Cert.PrepKV.main_arg0) = m ((c.tc : Thread Cert.PrepKV.nD Cert.PrepKV.τ).loc Cert.PrepKV.main_arg0)
      ∧ r.2.mem ((c.tc : Thread Cert.PrepKV.nD Cert.PrepKV.τ).loc Cert.PrepKV.main_arg1) = m ((c.tc : Thread Cert.PrepKV.nD Cert.PrepKV.τ).loc Cert.PrepKV.main_arg1)
      ∧ r.2.mem ((c.tc : Thread Cert.PrepKV.nD Cert.PrepKV.τ).loc Cert.PrepKV.main_arg2) = m ((c.tc : Thread Cert.PrepKV.nD Cert.PrepKV.τ).loc Cert.PrepKV.main_arg2))
      ∧ r.2.sem = fun _ => 0)

def quiescent_PrepKVIdeal [hPrepKVIdeal : Cert.PrepKVIdeal.Facts] : Prop :=
  ∀ (m : (ℓ : Loc Cert.PrepKVIdeal.nD Cert.PrepKVIdeal.τ Cert.PrepKVIdeal.sig) → Buf (Elt Ideal) ℓ) (g : Dev Cert.PrepKVIdeal.nD → PrngReg), Pre_PrepKVIdeal m →
    θ_run (Cert.PrepKVIdeal.defs (F := Ideal)) (onTc (τ := Cert.PrepKVIdeal.τ) (Cert.PrepKVIdeal.main (F := Ideal))) ⟨m, fun _ => 0, g⟩ (fun r => (∀ c : Dev Cert.PrepKVIdeal.nD,
      r.2.mem ((c.tc : Thread Cert.PrepKVIdeal.nD Cert.PrepKVIdeal.τ).loc Cert.PrepKVIdeal.main_arg0) = m ((c.tc : Thread Cert.PrepKVIdeal.nD Cert.PrepKVIdeal.τ).loc Cert.PrepKVIdeal.main_arg0)
      ∧ r.2.mem ((c.tc : Thread Cert.PrepKVIdeal.nD Cert.PrepKVIdeal.τ).loc Cert.PrepKVIdeal.main_arg1) = m ((c.tc : Thread Cert.PrepKVIdeal.nD Cert.PrepKVIdeal.τ).loc Cert.PrepKVIdeal.main_arg1)
      ∧ r.2.mem ((c.tc : Thread Cert.PrepKVIdeal.nD Cert.PrepKVIdeal.τ).loc Cert.PrepKVIdeal.main_arg2) = m ((c.tc : Thread Cert.PrepKVIdeal.nD Cert.PrepKVIdeal.τ).loc Cert.PrepKVIdeal.main_arg2))
      ∧ r.2.sem = fun _ => 0)

def quiescent_PrepKVReferenceIdeal [hPrepKVReferenceIdeal : Cert.PrepKVReferenceIdeal.Facts] : Prop :=
  ∀ (m : (ℓ : Loc Cert.PrepKVReferenceIdeal.nD Cert.PrepKVReferenceIdeal.τ Cert.PrepKVReferenceIdeal.sig) → Buf (Elt Ideal) ℓ) (g : Dev Cert.PrepKVReferenceIdeal.nD → PrngReg), Pre_PrepKVReferenceIdeal m →
    θ_run (Cert.PrepKVReferenceIdeal.defs (F := Ideal)) (onTc (τ := Cert.PrepKVReferenceIdeal.τ) (Cert.PrepKVReferenceIdeal.main (F := Ideal))) ⟨m, fun _ => 0, g⟩ (fun r => (∀ c : Dev Cert.PrepKVReferenceIdeal.nD,
      r.2.mem ((c.tc : Thread Cert.PrepKVReferenceIdeal.nD Cert.PrepKVReferenceIdeal.τ).loc Cert.PrepKVReferenceIdeal.main_arg0) = m ((c.tc : Thread Cert.PrepKVReferenceIdeal.nD Cert.PrepKVReferenceIdeal.τ).loc Cert.PrepKVReferenceIdeal.main_arg0)
      ∧ r.2.mem ((c.tc : Thread Cert.PrepKVReferenceIdeal.nD Cert.PrepKVReferenceIdeal.τ).loc Cert.PrepKVReferenceIdeal.main_arg1) = m ((c.tc : Thread Cert.PrepKVReferenceIdeal.nD Cert.PrepKVReferenceIdeal.τ).loc Cert.PrepKVReferenceIdeal.main_arg1)
      ∧ r.2.mem ((c.tc : Thread Cert.PrepKVReferenceIdeal.nD Cert.PrepKVReferenceIdeal.τ).loc Cert.PrepKVReferenceIdeal.main_arg2) = m ((c.tc : Thread Cert.PrepKVReferenceIdeal.nD Cert.PrepKVReferenceIdeal.τ).loc Cert.PrepKVReferenceIdeal.main_arg2))
      ∧ r.2.sem = fun _ => 0)

def quiescent_PrepQ [hPrepQ : Cert.PrepQ.Facts] : Prop :=
  ∀ (m : (ℓ : Loc Cert.PrepQ.nD Cert.PrepQ.τ Cert.PrepQ.sig) → Buf (Elt Bits) ℓ) (g : Dev Cert.PrepQ.nD → PrngReg), Pre_PrepQ m →
    θ_run (Cert.PrepQ.defs (F := Bits)) (onTc (τ := Cert.PrepQ.τ) (Cert.PrepQ.main (F := Bits))) ⟨m, fun _ => 0, g⟩ (fun r => (∀ c : Dev Cert.PrepQ.nD,
      r.2.mem ((c.tc : Thread Cert.PrepQ.nD Cert.PrepQ.τ).loc Cert.PrepQ.main_arg0) = m ((c.tc : Thread Cert.PrepQ.nD Cert.PrepQ.τ).loc Cert.PrepQ.main_arg0)
      ∧ r.2.mem ((c.tc : Thread Cert.PrepQ.nD Cert.PrepQ.τ).loc Cert.PrepQ.main_arg1) = m ((c.tc : Thread Cert.PrepQ.nD Cert.PrepQ.τ).loc Cert.PrepQ.main_arg1))
      ∧ r.2.sem = fun _ => 0)

def quiescent_PrepQIdeal [hPrepQIdeal : Cert.PrepQIdeal.Facts] : Prop :=
  ∀ (m : (ℓ : Loc Cert.PrepQIdeal.nD Cert.PrepQIdeal.τ Cert.PrepQIdeal.sig) → Buf (Elt Ideal) ℓ) (g : Dev Cert.PrepQIdeal.nD → PrngReg), Pre_PrepQIdeal m →
    θ_run (Cert.PrepQIdeal.defs (F := Ideal)) (onTc (τ := Cert.PrepQIdeal.τ) (Cert.PrepQIdeal.main (F := Ideal))) ⟨m, fun _ => 0, g⟩ (fun r => (∀ c : Dev Cert.PrepQIdeal.nD,
      r.2.mem ((c.tc : Thread Cert.PrepQIdeal.nD Cert.PrepQIdeal.τ).loc Cert.PrepQIdeal.main_arg0) = m ((c.tc : Thread Cert.PrepQIdeal.nD Cert.PrepQIdeal.τ).loc Cert.PrepQIdeal.main_arg0)
      ∧ r.2.mem ((c.tc : Thread Cert.PrepQIdeal.nD Cert.PrepQIdeal.τ).loc Cert.PrepQIdeal.main_arg1) = m ((c.tc : Thread Cert.PrepQIdeal.nD Cert.PrepQIdeal.τ).loc Cert.PrepQIdeal.main_arg1))
      ∧ r.2.sem = fun _ => 0)

def quiescent_PrepQReferenceIdeal [hPrepQReferenceIdeal : Cert.PrepQReferenceIdeal.Facts] : Prop :=
  ∀ (m : (ℓ : Loc Cert.PrepQReferenceIdeal.nD Cert.PrepQReferenceIdeal.τ Cert.PrepQReferenceIdeal.sig) → Buf (Elt Ideal) ℓ) (g : Dev Cert.PrepQReferenceIdeal.nD → PrngReg), Pre_PrepQReferenceIdeal m →
    θ_run (Cert.PrepQReferenceIdeal.defs (F := Ideal)) (onTc (τ := Cert.PrepQReferenceIdeal.τ) (Cert.PrepQReferenceIdeal.main (F := Ideal))) ⟨m, fun _ => 0, g⟩ (fun r => (∀ c : Dev Cert.PrepQReferenceIdeal.nD,
      r.2.mem ((c.tc : Thread Cert.PrepQReferenceIdeal.nD Cert.PrepQReferenceIdeal.τ).loc Cert.PrepQReferenceIdeal.main_arg0) = m ((c.tc : Thread Cert.PrepQReferenceIdeal.nD Cert.PrepQReferenceIdeal.τ).loc Cert.PrepQReferenceIdeal.main_arg0)
      ∧ r.2.mem ((c.tc : Thread Cert.PrepQReferenceIdeal.nD Cert.PrepQReferenceIdeal.τ).loc Cert.PrepQReferenceIdeal.main_arg1) = m ((c.tc : Thread Cert.PrepQReferenceIdeal.nD Cert.PrepQReferenceIdeal.τ).loc Cert.PrepQReferenceIdeal.main_arg1))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Amax_AmaxIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)
      ∧ m' ((c.tc : Thread Cert.AmaxReferenceIdeal.nD Cert.AmaxReferenceIdeal.τ).loc Cert.AmaxReferenceIdeal.main_arg1) = m ((c.tc : Thread Cert.AmaxIdeal.nD Cert.AmaxIdeal.τ).loc Cert.AmaxIdeal.main_arg1)
      ∧ m' ((c.tc : Thread Cert.AmaxReferenceIdeal.nD Cert.AmaxReferenceIdeal.τ).loc Cert.AmaxReferenceIdeal.main_arg2) = m ((c.tc : Thread Cert.AmaxIdeal.nD Cert.AmaxIdeal.τ).loc Cert.AmaxIdeal.main_arg2)
      ∧ m' ((c.tc : Thread Cert.AmaxReferenceIdeal.nD Cert.AmaxReferenceIdeal.τ).loc Cert.AmaxReferenceIdeal.main_arg3) = m ((c.tc : Thread Cert.AmaxIdeal.nD Cert.AmaxIdeal.τ).loc Cert.AmaxIdeal.main_arg3)
      ∧ m' ((c.tc : Thread Cert.AmaxReferenceIdeal.nD Cert.AmaxReferenceIdeal.τ).loc Cert.AmaxReferenceIdeal.main_arg4) = m ((c.tc : Thread Cert.AmaxIdeal.nD Cert.AmaxIdeal.τ).loc Cert.AmaxIdeal.main_arg4)) →
    ∃ (v0 : (c : Dev Cert.AmaxIdeal.nD) → Buf (Elt Ideal) ((c.tc : Thread Cert.AmaxIdeal.nD Cert.AmaxIdeal.τ).loc Cert.AmaxIdeal.main_v0_0)) (v1 : (c : Dev Cert.AmaxIdeal.nD) → Buf (Elt Ideal) ((c.tc : Thread Cert.AmaxIdeal.nD Cert.AmaxIdeal.τ).loc Cert.AmaxIdeal.main_v0_1)) (v2 : (c : Dev Cert.AmaxIdeal.nD) → Buf (Elt Ideal) ((c.tc : Thread Cert.AmaxIdeal.nD Cert.AmaxIdeal.τ).loc Cert.AmaxIdeal.main_v0_2)) (v3 : (c : Dev Cert.AmaxIdeal.nD) → Buf (Elt Ideal) ((c.tc : Thread Cert.AmaxIdeal.nD Cert.AmaxIdeal.τ).loc Cert.AmaxIdeal.main_v0_3)) (v4 : (c : Dev Cert.AmaxIdeal.nD) → Buf (Elt Ideal) ((c.tc : Thread Cert.AmaxIdeal.nD Cert.AmaxIdeal.τ).loc Cert.AmaxIdeal.main_v0_4)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v0_0) = v0 c
          ∧ r.2.mem ((c.tc : Thread Cert.AmaxIdeal.nD Cert.AmaxIdeal.τ).loc Cert.AmaxIdeal.main_v0_1) = v1 c
          ∧ r.2.mem ((c.tc : Thread Cert.AmaxIdeal.nD Cert.AmaxIdeal.τ).loc Cert.AmaxIdeal.main_v0_2) = v2 c
          ∧ r.2.mem ((c.tc : Thread Cert.AmaxIdeal.nD Cert.AmaxIdeal.τ).loc Cert.AmaxIdeal.main_v0_3) = v3 c
          ∧ r.2.mem ((c.tc : Thread Cert.AmaxIdeal.nD Cert.AmaxIdeal.τ).loc Cert.AmaxIdeal.main_v0_4) = v4 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
          ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1)
          ∧ r.2.mem ((c.tc : Thread Cert.AmaxIdeal.nD Cert.AmaxIdeal.τ).loc Cert.AmaxIdeal.main_arg2) = m ((c.tc : Thread Cert.AmaxIdeal.nD Cert.AmaxIdeal.τ).loc Cert.AmaxIdeal.main_arg2)
          ∧ r.2.mem ((c.tc : Thread Cert.AmaxIdeal.nD Cert.AmaxIdeal.τ).loc Cert.AmaxIdeal.main_arg3) = m ((c.tc : Thread Cert.AmaxIdeal.nD Cert.AmaxIdeal.τ).loc Cert.AmaxIdeal.main_arg3)
          ∧ r.2.mem ((c.tc : Thread Cert.AmaxIdeal.nD Cert.AmaxIdeal.τ).loc Cert.AmaxIdeal.main_arg4) = m ((c.tc : Thread Cert.AmaxIdeal.nD Cert.AmaxIdeal.τ).loc Cert.AmaxIdeal.main_arg4))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v1) = v0 c
          ∧ r.2.mem ((c.tc : Thread Cert.AmaxReferenceIdeal.nD Cert.AmaxReferenceIdeal.τ).loc Cert.AmaxReferenceIdeal.main_v3) = v1 c
          ∧ r.2.mem ((c.tc : Thread Cert.AmaxReferenceIdeal.nD Cert.AmaxReferenceIdeal.τ).loc Cert.AmaxReferenceIdeal.main_v5) = v2 c
          ∧ r.2.mem ((c.tc : Thread Cert.AmaxReferenceIdeal.nD Cert.AmaxReferenceIdeal.τ).loc Cert.AmaxReferenceIdeal.main_v7) = v3 c
          ∧ r.2.mem ((c.tc : Thread Cert.AmaxReferenceIdeal.nD Cert.AmaxReferenceIdeal.τ).loc Cert.AmaxReferenceIdeal.main_v9) = v4 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0)
          ∧ r.2.mem ((c.tc : Thread Cert.AmaxReferenceIdeal.nD Cert.AmaxReferenceIdeal.τ).loc Cert.AmaxReferenceIdeal.main_arg1) = m' ((c.tc : Thread Cert.AmaxReferenceIdeal.nD Cert.AmaxReferenceIdeal.τ).loc Cert.AmaxReferenceIdeal.main_arg1)
          ∧ r.2.mem ((c.tc : Thread Cert.AmaxReferenceIdeal.nD Cert.AmaxReferenceIdeal.τ).loc Cert.AmaxReferenceIdeal.main_arg2) = m' ((c.tc : Thread Cert.AmaxReferenceIdeal.nD Cert.AmaxReferenceIdeal.τ).loc Cert.AmaxReferenceIdeal.main_arg2)
          ∧ r.2.mem ((c.tc : Thread Cert.AmaxReferenceIdeal.nD Cert.AmaxReferenceIdeal.τ).loc Cert.AmaxReferenceIdeal.main_arg3) = m' ((c.tc : Thread Cert.AmaxReferenceIdeal.nD Cert.AmaxReferenceIdeal.τ).loc Cert.AmaxReferenceIdeal.main_arg3)
          ∧ r.2.mem ((c.tc : Thread Cert.AmaxReferenceIdeal.nD Cert.AmaxReferenceIdeal.τ).loc Cert.AmaxReferenceIdeal.main_arg4) = m' ((c.tc : Thread Cert.AmaxReferenceIdeal.nD Cert.AmaxReferenceIdeal.τ).loc Cert.AmaxReferenceIdeal.main_arg4))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)
      ∧ m' ((c.tc : Thread Cert.QuantReferenceIdeal.nD Cert.QuantReferenceIdeal.τ).loc Cert.QuantReferenceIdeal.main_arg2) = m ((c.tc : Thread Cert.QuantIdeal.nD Cert.QuantIdeal.τ).loc Cert.QuantIdeal.main_arg2)
      ∧ m' ((c.tc : Thread Cert.QuantReferenceIdeal.nD Cert.QuantReferenceIdeal.τ).loc Cert.QuantReferenceIdeal.main_arg3) = m ((c.tc : Thread Cert.QuantIdeal.nD Cert.QuantIdeal.τ).loc Cert.QuantIdeal.main_arg3)
      ∧ m' ((c.tc : Thread Cert.QuantReferenceIdeal.nD Cert.QuantReferenceIdeal.τ).loc Cert.QuantReferenceIdeal.main_arg4) = m ((c.tc : Thread Cert.QuantIdeal.nD Cert.QuantIdeal.τ).loc Cert.QuantIdeal.main_arg4)
      ∧ m' ((c.tc : Thread Cert.QuantReferenceIdeal.nD Cert.QuantReferenceIdeal.τ).loc Cert.QuantReferenceIdeal.main_arg5) = m ((c.tc : Thread Cert.QuantIdeal.nD Cert.QuantIdeal.τ).loc Cert.QuantIdeal.main_arg5)) →
    ∃ (v0 : (c : Dev Cert.QuantIdeal.nD) → Buf (Elt Ideal) ((c.tc : Thread Cert.QuantIdeal.nD Cert.QuantIdeal.τ).loc Cert.QuantIdeal.main_v4)) (v1 : (c : Dev Cert.QuantIdeal.nD) → Buf (Elt Ideal) ((c.tc : Thread Cert.QuantIdeal.nD Cert.QuantIdeal.τ).loc Cert.QuantIdeal.main_v9)) (v2 : (c : Dev Cert.QuantIdeal.nD) → Buf (Elt Ideal) ((c.tc : Thread Cert.QuantIdeal.nD Cert.QuantIdeal.τ).loc Cert.QuantIdeal.main_v14)) (v3 : (c : Dev Cert.QuantIdeal.nD) → Buf (Elt Ideal) ((c.tc : Thread Cert.QuantIdeal.nD Cert.QuantIdeal.τ).loc Cert.QuantIdeal.main_v19)) (v4 : (c : Dev Cert.QuantIdeal.nD) → Buf (Elt Ideal) ((c.tc : Thread Cert.QuantIdeal.nD Cert.QuantIdeal.τ).loc Cert.QuantIdeal.main_v27)) (v5 : (c : Dev Cert.QuantIdeal.nD) → Buf (Elt Ideal) ((c.tc : Thread Cert.QuantIdeal.nD Cert.QuantIdeal.τ).loc Cert.QuantIdeal.main_v24)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v4) = v0 c
          ∧ r.2.mem ((c.tc : Thread Cert.QuantIdeal.nD Cert.QuantIdeal.τ).loc Cert.QuantIdeal.main_v9) = v1 c
          ∧ r.2.mem ((c.tc : Thread Cert.QuantIdeal.nD Cert.QuantIdeal.τ).loc Cert.QuantIdeal.main_v14) = v2 c
          ∧ r.2.mem ((c.tc : Thread Cert.QuantIdeal.nD Cert.QuantIdeal.τ).loc Cert.QuantIdeal.main_v19) = v3 c
          ∧ r.2.mem ((c.tc : Thread Cert.QuantIdeal.nD Cert.QuantIdeal.τ).loc Cert.QuantIdeal.main_v27) = v4 c
          ∧ r.2.mem ((c.tc : Thread Cert.QuantIdeal.nD Cert.QuantIdeal.τ).loc Cert.QuantIdeal.main_v24) = v5 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
          ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
          ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v4) = v0 c
          ∧ r.2.mem ((c.tc : Thread Cert.QuantReferenceIdeal.nD Cert.QuantReferenceIdeal.τ).loc Cert.QuantReferenceIdeal.main_v9) = v1 c
          ∧ r.2.mem ((c.tc : Thread Cert.QuantReferenceIdeal.nD Cert.QuantReferenceIdeal.τ).loc Cert.QuantReferenceIdeal.main_v14) = v2 c
          ∧ r.2.mem ((c.tc : Thread Cert.QuantReferenceIdeal.nD Cert.QuantReferenceIdeal.τ).loc Cert.QuantReferenceIdeal.main_v19) = v3 c
          ∧ r.2.mem ((c.tc : Thread Cert.QuantReferenceIdeal.nD Cert.QuantReferenceIdeal.τ).loc Cert.QuantReferenceIdeal.main_v27) = v4 c
          ∧ r.2.mem ((c.tc : Thread Cert.QuantReferenceIdeal.nD Cert.QuantReferenceIdeal.τ).loc Cert.QuantReferenceIdeal.main_v24) = v5 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2)
          ∧ r.2.mem ((c.tc : Thread Cert.QuantReferenceIdeal.nD Cert.QuantReferenceIdeal.τ).loc Cert.QuantReferenceIdeal.main_arg3) = m' ((c.tc : Thread Cert.QuantReferenceIdeal.nD Cert.QuantReferenceIdeal.τ).loc Cert.QuantReferenceIdeal.main_arg3)
          ∧ r.2.mem ((c.tc : Thread Cert.QuantReferenceIdeal.nD Cert.QuantReferenceIdeal.τ).loc Cert.QuantReferenceIdeal.main_arg4) = m' ((c.tc : Thread Cert.QuantReferenceIdeal.nD Cert.QuantReferenceIdeal.τ).loc Cert.QuantReferenceIdeal.main_arg4)
          ∧ r.2.mem ((c.tc : Thread Cert.QuantReferenceIdeal.nD Cert.QuantReferenceIdeal.τ).loc Cert.QuantReferenceIdeal.main_arg5) = m' ((c.tc : Thread Cert.QuantReferenceIdeal.nD Cert.QuantReferenceIdeal.τ).loc Cert.QuantReferenceIdeal.main_arg5))

def bitexact_Quant_QuantReference [hQuant : Cert.Quant.Facts] [hQuantReference : Cert.QuantReference.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)
      ∧ m' ((c.tc : Thread Cert.QuantReference.nD Cert.QuantReference.τ).loc Cert.QuantReference.main_arg1) = m ((c.tc : Thread Cert.Quant.nD Cert.Quant.τ).loc Cert.Quant.main_arg1)
      ∧ m' ((c.tc : Thread Cert.QuantReference.nD Cert.QuantReference.τ).loc Cert.QuantReference.main_arg2) = m ((c.tc : Thread Cert.Quant.nD Cert.Quant.τ).loc Cert.Quant.main_arg2)
      ∧ m' ((c.tc : Thread Cert.QuantReference.nD Cert.QuantReference.τ).loc Cert.QuantReference.main_arg3) = m ((c.tc : Thread Cert.Quant.nD Cert.Quant.τ).loc Cert.Quant.main_arg3)
      ∧ m' ((c.tc : Thread Cert.QuantReference.nD Cert.QuantReference.τ).loc Cert.QuantReference.main_arg4) = m ((c.tc : Thread Cert.Quant.nD Cert.Quant.τ).loc Cert.Quant.main_arg4)
      ∧ m' ((c.tc : Thread Cert.QuantReference.nD Cert.QuantReference.τ).loc Cert.QuantReference.main_arg5) = m ((c.tc : Thread Cert.Quant.nD Cert.Quant.τ).loc Cert.Quant.main_arg5)) →
    ∃ (v0 : (c : Dev Cert.Quant.nD) → Buf (Elt Bits) ((c.tc : Thread Cert.Quant.nD Cert.Quant.τ).loc Cert.Quant.main_v4)) (v1 : (c : Dev Cert.Quant.nD) → Buf (Elt Bits) ((c.tc : Thread Cert.Quant.nD Cert.Quant.τ).loc Cert.Quant.main_v9)) (v2 : (c : Dev Cert.Quant.nD) → Buf (Elt Bits) ((c.tc : Thread Cert.Quant.nD Cert.Quant.τ).loc Cert.Quant.main_v14)) (v3 : (c : Dev Cert.Quant.nD) → Buf (Elt Bits) ((c.tc : Thread Cert.Quant.nD Cert.Quant.τ).loc Cert.Quant.main_v19)) (v4 : (c : Dev Cert.Quant.nD) → Buf (Elt Bits) ((c.tc : Thread Cert.Quant.nD Cert.Quant.τ).loc Cert.Quant.main_v27)) (v5 : (c : Dev Cert.Quant.nD) → Buf (Elt Bits) ((c.tc : Thread Cert.Quant.nD Cert.Quant.τ).loc Cert.Quant.main_v24)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v4) = v0 c
          ∧ r.2.mem ((c.tc : Thread Cert.Quant.nD Cert.Quant.τ).loc Cert.Quant.main_v9) = v1 c
          ∧ r.2.mem ((c.tc : Thread Cert.Quant.nD Cert.Quant.τ).loc Cert.Quant.main_v14) = v2 c
          ∧ r.2.mem ((c.tc : Thread Cert.Quant.nD Cert.Quant.τ).loc Cert.Quant.main_v19) = v3 c
          ∧ r.2.mem ((c.tc : Thread Cert.Quant.nD Cert.Quant.τ).loc Cert.Quant.main_v27) = v4 c
          ∧ r.2.mem ((c.tc : Thread Cert.Quant.nD Cert.Quant.τ).loc Cert.Quant.main_v24) = v5 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1)
          ∧ r.2.mem ((c.tc : Thread Cert.Quant.nD Cert.Quant.τ).loc Cert.Quant.main_arg2) = m ((c.tc : Thread Cert.Quant.nD Cert.Quant.τ).loc Cert.Quant.main_arg2)
          ∧ r.2.mem ((c.tc : Thread Cert.Quant.nD Cert.Quant.τ).loc Cert.Quant.main_arg3) = m ((c.tc : Thread Cert.Quant.nD Cert.Quant.τ).loc Cert.Quant.main_arg3)
          ∧ r.2.mem ((c.tc : Thread Cert.Quant.nD Cert.Quant.τ).loc Cert.Quant.main_arg4) = m ((c.tc : Thread Cert.Quant.nD Cert.Quant.τ).loc Cert.Quant.main_arg4)
          ∧ r.2.mem ((c.tc : Thread Cert.Quant.nD Cert.Quant.τ).loc Cert.Quant.main_arg5) = m ((c.tc : Thread Cert.Quant.nD Cert.Quant.τ).loc Cert.Quant.main_arg5))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v4) = v0 c
          ∧ r.2.mem ((c.tc : Thread Cert.QuantReference.nD Cert.QuantReference.τ).loc Cert.QuantReference.main_v9) = v1 c
          ∧ r.2.mem ((c.tc : Thread Cert.QuantReference.nD Cert.QuantReference.τ).loc Cert.QuantReference.main_v14) = v2 c
          ∧ r.2.mem ((c.tc : Thread Cert.QuantReference.nD Cert.QuantReference.τ).loc Cert.QuantReference.main_v19) = v3 c
          ∧ r.2.mem ((c.tc : Thread Cert.QuantReference.nD Cert.QuantReference.τ).loc Cert.QuantReference.main_v27) = v4 c
          ∧ r.2.mem ((c.tc : Thread Cert.QuantReference.nD Cert.QuantReference.τ).loc Cert.QuantReference.main_v24) = v5 c
          ∧ r.2.mem ((c.tc : Thread Cert.QuantReference.nD Cert.QuantReference.τ).loc Cert.QuantReference.main_arg0) = m' ((c.tc : Thread Cert.QuantReference.nD Cert.QuantReference.τ).loc Cert.QuantReference.main_arg0)
          ∧ r.2.mem ((c.tc : Thread Cert.QuantReference.nD Cert.QuantReference.τ).loc Cert.QuantReference.main_arg1) = m' ((c.tc : Thread Cert.QuantReference.nD Cert.QuantReference.τ).loc Cert.QuantReference.main_arg1)
          ∧ r.2.mem ((c.tc : Thread Cert.QuantReference.nD Cert.QuantReference.τ).loc Cert.QuantReference.main_arg2) = m' ((c.tc : Thread Cert.QuantReference.nD Cert.QuantReference.τ).loc Cert.QuantReference.main_arg2)
          ∧ r.2.mem ((c.tc : Thread Cert.QuantReference.nD Cert.QuantReference.τ).loc Cert.QuantReference.main_arg3) = m' ((c.tc : Thread Cert.QuantReference.nD Cert.QuantReference.τ).loc Cert.QuantReference.main_arg3)
          ∧ r.2.mem ((c.tc : Thread Cert.QuantReference.nD Cert.QuantReference.τ).loc Cert.QuantReference.main_arg4) = m' ((c.tc : Thread Cert.QuantReference.nD Cert.QuantReference.τ).loc Cert.QuantReference.main_arg4)
          ∧ r.2.mem ((c.tc : Thread Cert.QuantReference.nD Cert.QuantReference.τ).loc Cert.QuantReference.main_arg5) = m' ((c.tc : Thread Cert.QuantReference.nD Cert.QuantReference.τ).loc Cert.QuantReference.main_arg5))

def preserves_PrepKV_PrepKVIdeal : Prop :=
  IdealRules.bf16_pair.Statement Cert.PrepKVIdeal.S1x1024x2x128 Cert.PrepKVIdeal.S1x1024x1x128
  ∧ IdealRules.bf16_pair.Statement Cert.PrepKVIdeal.S2048x128 Cert.PrepKVIdeal.S1024x128

def algebraic_PrepKVIdeal_PrepKVReferenceIdeal [hPrepKVIdeal : Cert.PrepKVIdeal.Facts] [hPrepKVReferenceIdeal : Cert.PrepKVReferenceIdeal.Facts] : Prop :=
  ∀ (m : (ℓ : Loc Cert.PrepKVIdeal.nD Cert.PrepKVIdeal.τ Cert.PrepKVIdeal.sig) → Buf (Elt Ideal) ℓ) (g : Dev Cert.PrepKVIdeal.nD → PrngReg)
    (m' : (ℓ : Loc Cert.PrepKVReferenceIdeal.nD Cert.PrepKVReferenceIdeal.τ Cert.PrepKVReferenceIdeal.sig) → Buf (Elt Ideal) ℓ) (g' : Dev Cert.PrepKVReferenceIdeal.nD → PrngReg), Pre_PrepKVIdeal m →
    (∀ c : Dev Cert.PrepKVIdeal.nD,
      m' ((c.tc : Thread Cert.PrepKVReferenceIdeal.nD Cert.PrepKVReferenceIdeal.τ).loc Cert.PrepKVReferenceIdeal.main_arg0) = m ((c.tc : Thread Cert.PrepKVIdeal.nD Cert.PrepKVIdeal.τ).loc Cert.PrepKVIdeal.main_arg0)
      ∧ m' ((c.tc : Thread Cert.PrepKVReferenceIdeal.nD Cert.PrepKVReferenceIdeal.τ).loc Cert.PrepKVReferenceIdeal.main_arg1) = m ((c.tc : Thread Cert.PrepKVIdeal.nD Cert.PrepKVIdeal.τ).loc Cert.PrepKVIdeal.main_arg1)
      ∧ m' ((c.tc : Thread Cert.PrepKVReferenceIdeal.nD Cert.PrepKVReferenceIdeal.τ).loc Cert.PrepKVReferenceIdeal.main_arg2) = m ((c.tc : Thread Cert.PrepKVIdeal.nD Cert.PrepKVIdeal.τ).loc Cert.PrepKVIdeal.main_arg2)) →
    ∃ (v0 : (c : Dev Cert.PrepKVIdeal.nD) → Buf (Elt Ideal) ((c.tc : Thread Cert.PrepKVIdeal.nD Cert.PrepKVIdeal.τ).loc Cert.PrepKVIdeal.main_v23_0)) (v1 : (c : Dev Cert.PrepKVIdeal.nD) → Buf (Elt Ideal) ((c.tc : Thread Cert.PrepKVIdeal.nD Cert.PrepKVIdeal.τ).loc Cert.PrepKVIdeal.main_v23_1)) (v2 : (c : Dev Cert.PrepKVIdeal.nD) → Buf (Elt Ideal) ((c.tc : Thread Cert.PrepKVIdeal.nD Cert.PrepKVIdeal.τ).loc Cert.PrepKVIdeal.main_v23_2)) (v3 : (c : Dev Cert.PrepKVIdeal.nD) → Buf (Elt Ideal) ((c.tc : Thread Cert.PrepKVIdeal.nD Cert.PrepKVIdeal.τ).loc Cert.PrepKVIdeal.main_v23_3)),
      θ_run (Cert.PrepKVIdeal.defs (F := Ideal)) (onTc (τ := Cert.PrepKVIdeal.τ) (Cert.PrepKVIdeal.main (F := Ideal))) ⟨m, fun _ => 0, g⟩ (fun r => ∀ c : Dev Cert.PrepKVIdeal.nD,
          r.2.mem ((c.tc : Thread Cert.PrepKVIdeal.nD Cert.PrepKVIdeal.τ).loc Cert.PrepKVIdeal.main_v23_0) = v0 c
          ∧ r.2.mem ((c.tc : Thread Cert.PrepKVIdeal.nD Cert.PrepKVIdeal.τ).loc Cert.PrepKVIdeal.main_v23_1) = v1 c
          ∧ r.2.mem ((c.tc : Thread Cert.PrepKVIdeal.nD Cert.PrepKVIdeal.τ).loc Cert.PrepKVIdeal.main_v23_2) = v2 c
          ∧ r.2.mem ((c.tc : Thread Cert.PrepKVIdeal.nD Cert.PrepKVIdeal.τ).loc Cert.PrepKVIdeal.main_v23_3) = v3 c
          ∧ r.2.mem ((c.tc : Thread Cert.PrepKVIdeal.nD Cert.PrepKVIdeal.τ).loc Cert.PrepKVIdeal.main_arg0) = m ((c.tc : Thread Cert.PrepKVIdeal.nD Cert.PrepKVIdeal.τ).loc Cert.PrepKVIdeal.main_arg0)
          ∧ r.2.mem ((c.tc : Thread Cert.PrepKVIdeal.nD Cert.PrepKVIdeal.τ).loc Cert.PrepKVIdeal.main_arg1) = m ((c.tc : Thread Cert.PrepKVIdeal.nD Cert.PrepKVIdeal.τ).loc Cert.PrepKVIdeal.main_arg1)
          ∧ r.2.mem ((c.tc : Thread Cert.PrepKVIdeal.nD Cert.PrepKVIdeal.τ).loc Cert.PrepKVIdeal.main_arg2) = m ((c.tc : Thread Cert.PrepKVIdeal.nD Cert.PrepKVIdeal.τ).loc Cert.PrepKVIdeal.main_arg2))
      ∧ θ_run (Cert.PrepKVReferenceIdeal.defs (F := Ideal)) (onTc (τ := Cert.PrepKVReferenceIdeal.τ) (Cert.PrepKVReferenceIdeal.main (F := Ideal))) ⟨m', fun _ => 0, g'⟩ (fun r => ∀ c : Dev Cert.PrepKVReferenceIdeal.nD,
          r.2.mem ((c.tc : Thread Cert.PrepKVReferenceIdeal.nD Cert.PrepKVReferenceIdeal.τ).loc Cert.PrepKVReferenceIdeal.main_v46) = v0 c
          ∧ r.2.mem ((c.tc : Thread Cert.PrepKVReferenceIdeal.nD Cert.PrepKVReferenceIdeal.τ).loc Cert.PrepKVReferenceIdeal.main_v47) = v1 c
          ∧ r.2.mem ((c.tc : Thread Cert.PrepKVReferenceIdeal.nD Cert.PrepKVReferenceIdeal.τ).loc Cert.PrepKVReferenceIdeal.main_v48) = v2 c
          ∧ r.2.mem ((c.tc : Thread Cert.PrepKVReferenceIdeal.nD Cert.PrepKVReferenceIdeal.τ).loc Cert.PrepKVReferenceIdeal.main_v49) = v3 c
          ∧ r.2.mem ((c.tc : Thread Cert.PrepKVReferenceIdeal.nD Cert.PrepKVReferenceIdeal.τ).loc Cert.PrepKVReferenceIdeal.main_arg0) = m' ((c.tc : Thread Cert.PrepKVReferenceIdeal.nD Cert.PrepKVReferenceIdeal.τ).loc Cert.PrepKVReferenceIdeal.main_arg0)
          ∧ r.2.mem ((c.tc : Thread Cert.PrepKVReferenceIdeal.nD Cert.PrepKVReferenceIdeal.τ).loc Cert.PrepKVReferenceIdeal.main_arg1) = m' ((c.tc : Thread Cert.PrepKVReferenceIdeal.nD Cert.PrepKVReferenceIdeal.τ).loc Cert.PrepKVReferenceIdeal.main_arg1)
          ∧ r.2.mem ((c.tc : Thread Cert.PrepKVReferenceIdeal.nD Cert.PrepKVReferenceIdeal.τ).loc Cert.PrepKVReferenceIdeal.main_arg2) = m' ((c.tc : Thread Cert.PrepKVReferenceIdeal.nD Cert.PrepKVReferenceIdeal.τ).loc Cert.PrepKVReferenceIdeal.main_arg2))

def preserves_PrepQ_PrepQIdeal : Prop :=
  IdealRules.bf16_pair.Statement Cert.PrepQIdeal.S1x256x2x128 Cert.PrepQIdeal.S1x256x1x128
  ∧ IdealRules.bf16_pair.Statement Cert.PrepQIdeal.S512x128 Cert.PrepQIdeal.S256x128

def algebraic_PrepQIdeal_PrepQReferenceIdeal [hPrepQIdeal : Cert.PrepQIdeal.Facts] [hPrepQReferenceIdeal : Cert.PrepQReferenceIdeal.Facts] : Prop :=
  ∀ (m : (ℓ : Loc Cert.PrepQIdeal.nD Cert.PrepQIdeal.τ Cert.PrepQIdeal.sig) → Buf (Elt Ideal) ℓ) (g : Dev Cert.PrepQIdeal.nD → PrngReg)
    (m' : (ℓ : Loc Cert.PrepQReferenceIdeal.nD Cert.PrepQReferenceIdeal.τ Cert.PrepQReferenceIdeal.sig) → Buf (Elt Ideal) ℓ) (g' : Dev Cert.PrepQReferenceIdeal.nD → PrngReg), Pre_PrepQIdeal m →
    (∀ c : Dev Cert.PrepQIdeal.nD,
      m' ((c.tc : Thread Cert.PrepQReferenceIdeal.nD Cert.PrepQReferenceIdeal.τ).loc Cert.PrepQReferenceIdeal.main_arg0) = m ((c.tc : Thread Cert.PrepQIdeal.nD Cert.PrepQIdeal.τ).loc Cert.PrepQIdeal.main_arg0)
      ∧ m' ((c.tc : Thread Cert.PrepQReferenceIdeal.nD Cert.PrepQReferenceIdeal.τ).loc Cert.PrepQReferenceIdeal.main_arg1) = m ((c.tc : Thread Cert.PrepQIdeal.nD Cert.PrepQIdeal.τ).loc Cert.PrepQIdeal.main_arg1)) →
    ∃ (v0 : (c : Dev Cert.PrepQIdeal.nD) → Buf (Elt Ideal) ((c.tc : Thread Cert.PrepQIdeal.nD Cert.PrepQIdeal.τ).loc Cert.PrepQIdeal.main_v23_0)) (v1 : (c : Dev Cert.PrepQIdeal.nD) → Buf (Elt Ideal) ((c.tc : Thread Cert.PrepQIdeal.nD Cert.PrepQIdeal.τ).loc Cert.PrepQIdeal.main_v23_1)),
      θ_run (Cert.PrepQIdeal.defs (F := Ideal)) (onTc (τ := Cert.PrepQIdeal.τ) (Cert.PrepQIdeal.main (F := Ideal))) ⟨m, fun _ => 0, g⟩ (fun r => ∀ c : Dev Cert.PrepQIdeal.nD,
          r.2.mem ((c.tc : Thread Cert.PrepQIdeal.nD Cert.PrepQIdeal.τ).loc Cert.PrepQIdeal.main_v23_0) = v0 c
          ∧ r.2.mem ((c.tc : Thread Cert.PrepQIdeal.nD Cert.PrepQIdeal.τ).loc Cert.PrepQIdeal.main_v23_1) = v1 c
          ∧ r.2.mem ((c.tc : Thread Cert.PrepQIdeal.nD Cert.PrepQIdeal.τ).loc Cert.PrepQIdeal.main_arg0) = m ((c.tc : Thread Cert.PrepQIdeal.nD Cert.PrepQIdeal.τ).loc Cert.PrepQIdeal.main_arg0)
          ∧ r.2.mem ((c.tc : Thread Cert.PrepQIdeal.nD Cert.PrepQIdeal.τ).loc Cert.PrepQIdeal.main_arg1) = m ((c.tc : Thread Cert.PrepQIdeal.nD Cert.PrepQIdeal.τ).loc Cert.PrepQIdeal.main_arg1))
      ∧ θ_run (Cert.PrepQReferenceIdeal.defs (F := Ideal)) (onTc (τ := Cert.PrepQReferenceIdeal.τ) (Cert.PrepQReferenceIdeal.main (F := Ideal))) ⟨m', fun _ => 0, g'⟩ (fun r => ∀ c : Dev Cert.PrepQReferenceIdeal.nD,
          r.2.mem ((c.tc : Thread Cert.PrepQReferenceIdeal.nD Cert.PrepQReferenceIdeal.τ).loc Cert.PrepQReferenceIdeal.main_v43) = v0 c
          ∧ r.2.mem ((c.tc : Thread Cert.PrepQReferenceIdeal.nD Cert.PrepQReferenceIdeal.τ).loc Cert.PrepQReferenceIdeal.main_v44) = v1 c
          ∧ r.2.mem ((c.tc : Thread Cert.PrepQReferenceIdeal.nD Cert.PrepQReferenceIdeal.τ).loc Cert.PrepQReferenceIdeal.main_arg0) = m' ((c.tc : Thread Cert.PrepQReferenceIdeal.nD Cert.PrepQReferenceIdeal.τ).loc Cert.PrepQReferenceIdeal.main_arg0)
          ∧ r.2.mem ((c.tc : Thread Cert.PrepQReferenceIdeal.nD Cert.PrepQReferenceIdeal.τ).loc Cert.PrepQReferenceIdeal.main_arg1) = m' ((c.tc : Thread Cert.PrepQReferenceIdeal.nD Cert.PrepQReferenceIdeal.τ).loc Cert.PrepQReferenceIdeal.main_arg1))

def Claim : Prop :=
  ∃ (hKernel : Cert.Kernel.Facts) (hKernelIdeal : Cert.KernelIdeal.Facts) (hReferenceIdeal : Cert.ReferenceIdeal.Facts) (hAmax : Cert.Amax.Facts) (hAmaxIdeal : Cert.AmaxIdeal.Facts) (hAmaxReferenceIdeal : Cert.AmaxReferenceIdeal.Facts) (hQuant : Cert.Quant.Facts) (hQuantIdeal : Cert.QuantIdeal.Facts) (hQuantReference : Cert.QuantReference.Facts) (hQuantReferenceIdeal : Cert.QuantReferenceIdeal.Facts) (hPrepKV : Cert.PrepKV.Facts) (hPrepKVIdeal : Cert.PrepKVIdeal.Facts) (hPrepKVReferenceIdeal : Cert.PrepKVReferenceIdeal.Facts) (hPrepQ : Cert.PrepQ.Facts) (hPrepQIdeal : Cert.PrepQIdeal.Facts) (hPrepQReferenceIdeal : Cert.PrepQReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Amax (hAmax := hAmax)
    ∧ quiescent_AmaxIdeal (hAmaxIdeal := hAmaxIdeal)
    ∧ quiescent_AmaxReferenceIdeal (hAmaxReferenceIdeal := hAmaxReferenceIdeal)
    ∧ quiescent_Quant (hQuant := hQuant)
    ∧ quiescent_QuantIdeal (hQuantIdeal := hQuantIdeal)
    ∧ quiescent_QuantReference (hQuantReference := hQuantReference)
    ∧ quiescent_QuantReferenceIdeal (hQuantReferenceIdeal := hQuantReferenceIdeal)
    ∧ quiescent_PrepKV (hPrepKV := hPrepKV)
    ∧ quiescent_PrepKVIdeal (hPrepKVIdeal := hPrepKVIdeal)
    ∧ quiescent_PrepKVReferenceIdeal (hPrepKVReferenceIdeal := hPrepKVReferenceIdeal)
    ∧ quiescent_PrepQ (hPrepQ := hPrepQ)
    ∧ quiescent_PrepQIdeal (hPrepQIdeal := hPrepQIdeal)
    ∧ quiescent_PrepQReferenceIdeal (hPrepQReferenceIdeal := hPrepQReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Amax_AmaxIdeal
    ∧ algebraic_AmaxIdeal_AmaxReferenceIdeal (hAmaxIdeal := hAmaxIdeal) (hAmaxReferenceIdeal := hAmaxReferenceIdeal)
    ∧ preserves_Quant_QuantIdeal
    ∧ algebraic_QuantIdeal_QuantReferenceIdeal (hQuantIdeal := hQuantIdeal) (hQuantReferenceIdeal := hQuantReferenceIdeal)
    ∧ bitexact_Quant_QuantReference (hQuant := hQuant) (hQuantReference := hQuantReference)
    ∧ preserves_PrepKV_PrepKVIdeal
    ∧ algebraic_PrepKVIdeal_PrepKVReferenceIdeal (hPrepKVIdeal := hPrepKVIdeal) (hPrepKVReferenceIdeal := hPrepKVReferenceIdeal)
    ∧ preserves_PrepQ_PrepQIdeal
    ∧ algebraic_PrepQIdeal_PrepQReferenceIdeal (hPrepQIdeal := hPrepQIdeal) (hPrepQReferenceIdeal := hPrepQReferenceIdeal)
-- ==== Pre_finite_scores.lean ====
abbrev S2x56x128x12288 : Shape := ⟨4, ![2, 56, 128, 12288]⟩
abbrev S2x8x12288x128 : Shape := ⟨4, ![2, 8, 12288, 128]⟩
abbrev S2x8x128x12288 : Shape := ⟨4, ![2, 8, 128, 12288]⟩
abbrev S_ : Shape := ⟨0, ![]⟩

class Facts : Prop where
  bitsLt_bf16_f32 : FTy.bits .bf16 < FTy.bits .f32
  bcast_S_S2x56x128x12288 : S_.BroadcastsInDim S2x56x128x12288 (![] : Fin 0 → Fin S2x56x128x12288.rank)
  reducesTo_S2x56x128x12288_S_d0_1_2_3 : S2x56x128x12288.ReducesTo [0, 1, 2, 3] S_
  h_S_ : 0 < S_.numel
  bcast_S_S2x8x12288x128 : S_.BroadcastsInDim S2x8x12288x128 (![] : Fin 0 → Fin S2x8x12288x128.rank)
  reducesTo_S2x8x12288x128_S_d0_1_2_3 : S2x8x12288x128.ReducesTo [0, 1, 2, 3] S_

variable [Facts]

def fn {F : FTy → Type} [FloatOps F] (main_arg0 : FVec F S2x56x128x12288 .bf16) (main_arg1 : FVec F S2x8x12288x128 .bf16) (main_arg2 : FVec F S2x8x128x12288 .bf16) : IVec S_ 1 :=
  let main_v0 : FVec F S2x56x128x12288 .f32 := (extf .f32 · bitsLt_bf16_f32) main_arg0
  let main_v1 : FVec F S2x56x128x12288 .f32 := Host.absf main_v0
  let main_cst : FVec F S_ .f32 := constant S_ .f32 0x7F800000#32
  let main_v2 : FVec F S2x56x128x12288 .f32 := broadcastInDim S2x56x128x12288 ![] bcast_S_S2x56x128x12288 main_cst
  let main_v3 : IVec S2x56x128x12288 1 := cmpf .olt main_v1 main_v2
  let main_c : IVec S_ 1 := constantI S_ 1 1#1
  let main_v4 : IVec S_ 1 := (fun x v => Host.reduce IntOp.andi x v reducesTo_S2x56x128x12288_S_d0_1_2_3 h_S_) main_v3 main_c
  let main_v5 : FVec F S2x8x12288x128 .f32 := (extf .f32 · bitsLt_bf16_f32) main_arg1
  let main_v6 : FVec F S2x8x12288x128 .f32 := Host.absf main_v5
  let main_cst_0 : FVec F S_ .f32 := constant S_ .f32 0x7F800000#32
  let main_v7 : FVec F S2x8x12288x128 .f32 := broadcastInDim S2x8x12288x128 ![] bcast_S_S2x8x12288x128 main_cst_0
  let main_v8 : IVec S2x8x12288x128 1 := cmpf .olt main_v6 main_v7
  let main_c_1 : IVec S_ 1 := constantI S_ 1 1#1
  let main_v9 : IVec S_ 1 := (fun x v => Host.reduce IntOp.andi x v reducesTo_S2x8x12288x128_S_d0_1_2_3 h_S_) main_v8 main_c_1
  let main_v10 : IVec S_ 1 := andi main_v4 main_v9
  main_v10
-- ==== Kernel.lean ====
abbrev S2x56x128x12288 : Shape := ⟨4, ![2, 56, 128, 12288]⟩
abbrev S2x8x12288x128 : Shape := ⟨4, ![2, 8, 12288, 128]⟩
abbrev S2x8x128x12288 : Shape := ⟨4, ![2, 8, 128, 12288]⟩
abbrev S2x8x7x12288 : Shape := ⟨4, ![2, 8, 7, 12288]⟩
abbrev S1x7x128x512 : Shape := ⟨4, ![1, 7, 128, 512]⟩
abbrev S1x1x12288x128 : Shape := ⟨4, ![1, 1, 12288, 128]⟩
abbrev S1x1x128x12288 : Shape := ⟨4, ![1, 1, 128, 12288]⟩
abbrev S1x1x7x512 : Shape := ⟨4, ![1, 1, 7, 512]⟩
abbrev S1x512 : Shape := ⟨2, ![1, 512]⟩
abbrev S128x512 : Shape := ⟨2, ![128, 512]⟩
abbrev S1x1x512x128 : Shape := ⟨4, ![1, 1, 512, 128]⟩
abbrev S512x128 : Shape := ⟨2, ![512, 128]⟩
abbrev S1x1x128x512 : Shape := ⟨4, ![1, 1, 128, 512]⟩
abbrev S512x512 : Shape := ⟨2, ![512, 512]⟩
abbrev S512 : Shape := ⟨1, ![512]⟩
abbrev S1x1x1x512 : Shape := ⟨4, ![1, 1, 1, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x56x128x12288, .bf16⟩
  | .hbm, ⟨1, _⟩ => ⟨S2x8x12288x128, .bf16⟩
  | .hbm, ⟨2, _⟩ => ⟨S2x8x128x12288, .bf16⟩
  | .hbm, ⟨3, _⟩ => ⟨S2x56x128x12288, .f32⟩
  | .hbm, ⟨4, _⟩ => ⟨S2x8x7x12288, .f32⟩
  | .hbm, ⟨5, _⟩ => ⟨S2x8x7x12288, .f32⟩
  | .local _ .vmem, ⟨0, _⟩ => ⟨S1x7x128x512, .bf16⟩
  | .local _ .vmem, ⟨1, _⟩ => ⟨S1x7x128x512, .bf16⟩
  | .local _ .vmem, ⟨2, _⟩ => ⟨S1x1x12288x128, .bf16⟩
  | .local _ .vmem, ⟨3, _⟩ => ⟨S1x1x12288x128, .bf16⟩
  | .local _ .vmem, ⟨4, _⟩ => ⟨S1x1x128x12288, .bf16⟩
  | .local _ .vmem, ⟨5, _⟩ => ⟨S1x1x128x12288, .bf16⟩
  | .local _ .vmem, ⟨6, _⟩ => ⟨S1x7x128x512, .f32⟩
  | .local _ .vmem, ⟨7, _⟩ => ⟨S1x7x128x512, .f32⟩
  | .local _ .vmem, ⟨8, _⟩ => ⟨S1x1x7x512, .f32⟩
  | .local _ .vmem, ⟨9, _⟩ => ⟨S1x1x7x512, .f32⟩
  | .local _ .vmem, ⟨10, _⟩ => ⟨S1x1x7x512, .f32⟩
  | .local _ .vmem, ⟨11, _⟩ => ⟨S1x1x7x512, .f32⟩
  | _, _ => ⟨S2x56x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 24], ![false, false, false]⟩

@[reducible] def k0_t1_loop : Scf.Loop 32 :=
  let c0_i32 : BitVec 32 := 0#32
  let c7_i32 : BitVec 32 := 7#32
  let v0 : BitVec 32 := Scalar.addi c0_i32 c7_i32
  let c1_i32 : BitVec 32 := 1#32
  ⟨c0_i32, v0, c1_i32⟩
def k0_mult1 (i : grid0.Coords) : BitVec 32 :=
  let arg2 : BitVec 32 := BitVec.ofNat 32 (i 2).val
  let c512_i32 : BitVec 32 := 512#32
  let v5 : BitVec 32 := Scalar.muli arg2 c512_i32
  v5
def k0_off1 (i : grid0.Coords) : Fin 4 → Nat :=
  let c0 : Index := 0#32
  let c0_4 : Index := 0#32
  let arg2 : BitVec 32 := BitVec.ofNat 32 (i 2).val
  let c512_i32 : BitVec 32 := 512#32
  let v5 : BitVec 32 := Scalar.muli arg2 c512_i32
  let v6 : BitVec 32 := v5
  let v7 : Index := Scalar.indexCast v6
  let c0_5 : Index := 0#32
  ![0, 0, v7.toNat, 0]
def k0_off2 (i : grid0.Coords) : Fin 4 → Nat :=
  let c0_6 : Index := 0#32
  let c0_7 : Index := 0#32
  let c0_8 : Index := 0#32
  let arg2 : BitVec 32 := BitVec.ofNat 32 (i 2).val
  let c512_i32 : BitVec 32 := 512#32
  let v5 : BitVec 32 := Scalar.muli arg2 c512_i32
  let v6 : BitVec 32 := v5
  let v10 : Index := Scalar.indexCast v6
  ![0, 0, 0, v10.toNat]
def k0_off3 (k0_t1 : Fin k0_t1_loop.trips) : Fin 4 → Nat :=
  let c0_9 : Index := 0#32
  let c0_i32 : BitVec 32 := 0#32
  let c1_i32 : BitVec 32 := 1#32
  let arg9 : BitVec 32 := Scf.iv c0_i32 c1_i32 k0_t1
  let v13 : Index := Scalar.indexCast arg9
  let c0_10 : Index := 0#32
  let c0_11 : Index := 0#32
  ![0, v13.toNat, 0, 0]
@[reducible] def k0_t2_loop (i : grid0.Coords) : Scf.Loop 32 :=
  let c0_i32_22 : BitVec 32 := 0#32
  let arg2 : BitVec 32 := BitVec.ofNat 32 (i 2).val
  let v50 : BitVec 32 := Scalar.subi arg2 c0_i32_22
  let c1_i32_23 : BitVec 32 := 1#32
  let v52 : BitVec 32 := Scalar.divsi v50 c1_i32_23
  let v53 : BitVec 32 := Scalar.muli v52 c1_i32_23
  let v54 : BitVec 32 := Scalar.addi c0_i32_22 v53
  let c1_i32_24 : BitVec 32 := 1#32
  ⟨c0_i32_22, v54, c1_i32_24⟩
def k0_mult2 (i : grid0.Coords) (k0_t2 : Fin (k0_t2_loop i).trips) : BitVec 32 :=
  let c0_i32_22 : BitVec 32 := 0#32
  let c1_i32_24 : BitVec 32 := 1#32
  let arg10 : BitVec 32 := Scf.iv c0_i32_22 c1_i32_24 k0_t2
  let c512_i32_38 : BitVec 32 := 512#32
  let v79 : BitVec 32 := Scalar.muli arg10 c512_i32_38
  v79
def k0_off4 (i : grid0.Coords) (k0_t2 : Fin (k0_t2_loop i).trips) : Fin 4 → Nat :=
  let c0_39 : Index := 0#32
  let c0_40 : Index := 0#32
  let c0_i32_22 : BitVec 32 := 0#32
  let c1_i32_24 : BitVec 32 := 1#32
  let arg10 : BitVec 32 := Scf.iv c0_i32_22 c1_i32_24 k0_t2
  let c512_i32_38 : BitVec 32 := 512#32
  let v79 : BitVec 32 := Scalar.muli arg10 c512_i32_38
  let v80 : BitVec 32 := v79
  let v81 : Index := Scalar.indexCast v80
  let c0_41 : Index := 0#32
  ![0, 0, v81.toNat, 0]
def k0_off5 (i : grid0.Coords) (k0_t2 : Fin (k0_t2_loop i).trips) : Fin 4 → Nat :=
  let c0_42 : Index := 0#32
  let c0_43 : Index := 0#32
  let c0_44 : Index := 0#32
  let c0_i32_22 : BitVec 32 := 0#32
  let c1_i32_24 : BitVec 32 := 1#32
  let arg10 : BitVec 32 := Scf.iv c0_i32_22 c1_i32_24 k0_t2
  let c512_i32_38 : BitVec 32 := 512#32
  let v79 : BitVec 32 := Scalar.muli arg10 c512_i32_38
  let v80 : BitVec 32 := v79
  let v84 : Index := Scalar.indexCast v80
  ![0, 0, 0, v84.toNat]
def k0_off6 (k0_t1 : Fin k0_t1_loop.trips) : Fin 4 → Nat :=
  let c0_45 : Index := 0#32
  let c0_i32 : BitVec 32 := 0#32
  let c1_i32 : BitVec 32 := 1#32
  let arg9 : BitVec 32 := Scf.iv c0_i32 c1_i32 k0_t1
  let v87 : Index := Scalar.indexCast arg9
  let c0_46 : Index := 0#32
  let c0_47 : Index := 0#32
  ![0, v87.toNat, 0, 0]
@[reducible] def k0_t3_loop (i : grid0.Coords) : Scf.Loop 32 :=
  let c0_i32_22 : BitVec 32 := 0#32
  let arg2 : BitVec 32 := BitVec.ofNat 32 (i 2).val
  let v50 : BitVec 32 := Scalar.subi arg2 c0_i32_22
  let c1_i32_23 : BitVec 32 := 1#32
  let v52 : BitVec 32 := Scalar.divsi v50 c1_i32_23
  let v53 : BitVec 32 := Scalar.muli v52 c1_i32_23
  let v54 : BitVec 32 := Scalar.addi c0_i32_22 v53
  let v51 : BitVec 32 := Scalar.addi c0_i32_22 v50
  let c1_i32_25 : BitVec 32 := 1#32
  ⟨v54, v51, c1_i32_25⟩
def k0_mult3 (i : grid0.Coords) (k0_t3 : Fin (k0_t3_loop i).trips) : BitVec 32 :=
  let c0_i32_22 : BitVec 32 := 0#32
  let arg2 : BitVec 32 := BitVec.ofNat 32 (i 2).val
  let v50 : BitVec 32 := Scalar.subi arg2 c0_i32_22
  let c1_i32_23 : BitVec 32 := 1#32
  let v52 : BitVec 32 := Scalar.divsi v50 c1_i32_23
  let v53 : BitVec 32 := Scalar.muli v52 c1_i32_23
  let v54 : BitVec 32 := Scalar.addi c0_i32_22 v53
  let c1_i32_25 : BitVec 32 := 1#32
  let arg10 : BitVec 32 := Scf.iv v54 c1_i32_25 k0_t3
  let c512_i32_38 : BitVec 32 := 512#32
  let v79 : BitVec 32 := Scalar.muli arg10 c512_i32_38
  v79
def k0_off7 (i : grid0.Coords) (k0_t3 : Fin (k0_t3_loop i).trips) : Fin 4 → Nat :=
  let c0_39 : Index := 0#32
  let c0_40 : Index := 0#32
  let c0_i32_22 : BitVec 32 := 0#32
  let arg2 : BitVec 32 := BitVec.ofNat 32 (i 2).val
  let v50 : BitVec 32 := Scalar.subi arg2 c0_i32_22
  let c1_i32_23 : BitVec 32 := 1#32
  let v52 : BitVec 32 := Scalar.divsi v50 c1_i32_23
  let v53 : BitVec 32 := Scalar.muli v52 c1_i32_23
  let v54 : BitVec 32 := Scalar.addi c0_i32_22 v53
  let c1_i32_25 : BitVec 32 := 1#32
  let arg10 : BitVec 32 := Scf.iv v54 c1_i32_25 k0_t3
  let c512_i32_38 : BitVec 32 := 512#32
  let v79 : BitVec 32 := Scalar.muli arg10 c512_i32_38
  let v80 : BitVec 32 := v79
  let v81 : Index := Scalar.indexCast v80
  let c0_41 : Index := 0#32
  ![0, 0, v81.toNat, 0]
def k0_off8 (i : grid0.Coords) (k0_t3 : Fin (k0_t3_loop i).trips) : Fin 4 → Nat :=
  let c0_42 : Index := 0#32
  let c0_43 : Index := 0#32
  let c0_44 : Index := 0#32
  let c0_i32_22 : BitVec 32 := 0#32
  let arg2 : BitVec 32 := BitVec.ofNat 32 (i 2).val
  let v50 : BitVec 32 := Scalar.subi arg2 c0_i32_22
  let c1_i32_23 : BitVec 32 := 1#32
  let v52 : BitVec 32 := Scalar.divsi v50 c1_i32_23
  let v53 : BitVec 32 := Scalar.muli v52 c1_i32_23
  let v54 : BitVec 32 := Scalar.addi c0_i32_22 v53
  let c1_i32_25 : BitVec 32 := 1#32
  let arg10 : BitVec 32 := Scf.iv v54 c1_i32_25 k0_t3
  let c512_i32_38 : BitVec 32 := 512#32
  let v79 : BitVec 32 := Scalar.muli arg10 c512_i32_38
  let v80 : BitVec 32 := v79
  let v84 : Index := Scalar.indexCast v80
  ![0, 0, 0, v84.toNat]
def k0_off9 (k0_t1 : Fin k0_t1_loop.trips) : Fin 4 → Nat :=
  let c0_45 : Index := 0#32
  let c0_i32 : BitVec 32 := 0#32
  let c1_i32 : BitVec 32 := 1#32
  let arg9 : BitVec 32 := Scf.iv c0_i32 c1_i32 k0_t1
  let v87 : Index := Scalar.indexCast arg9
  let c0_46 : Index := 0#32
  let c0_47 : Index := 0#32
  ![0, v87.toNat, 0, 0]
def k0_off10 (k0_t1 : Fin k0_t1_loop.trips) : Fin 4 → Nat :=
  let c0_31 : Index := 0#32
  let c0_32 : Index := 0#32
  let c0_i32 : BitVec 32 := 0#32
  let c1_i32 : BitVec 32 := 1#32
  let arg9 : BitVec 32 := Scf.iv c0_i32 c1_i32 k0_t1
  let v68 : Index := Scalar.indexCast arg9
  let c0_33 : Index := 0#32
  ![0, 0, v68.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x7x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x12288x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x7x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x7x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x7x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S2x56x128x12288 : Shape := ⟨4, ![2, 56, 128, 12288]⟩
abbrev S2x8x12288x128 : Shape := ⟨4, ![2, 8, 12288, 128]⟩
abbrev S2x8x128x12288 : Shape := ⟨4, ![2, 8, 128, 12288]⟩
abbrev S2x8x7x128x12288 : Shape := ⟨5, ![2, 8, 7, 128, 12288]⟩
abbrev S12288 : Shape := ⟨1, ![12288]⟩
abbrev S1x12288 : Shape := ⟨2, ![1, 12288]⟩
abbrev S12288x1 : Shape := ⟨2, ![12288, 1]⟩
abbrev S12288x12288 : Shape := ⟨2, ![12288, 12288]⟩
abbrev S2x8x7x12288x12288 : Shape := ⟨5, ![2, 8, 7, 12288, 12288]⟩
abbrev S_ : Shape := ⟨0, ![]⟩
abbrev S2x8x7x12288 : Shape := ⟨4, ![2, 8, 7, 12288]⟩
abbrev S2x8x7x12288x1 : Shape := ⟨5, ![2, 8, 7, 12288, 1]⟩
abbrev S2x8x128x7x12288 : Shape := ⟨5, ![2, 8, 128, 7, 12288]⟩

abbrev nBuf : Space → Nat
  | .hbm => 48
  | .vmem => 0
  | .smem => 0
  | _ => 0

abbrev bufTy : (tb : Table) → Fin (tcTables nBuf tb) → BufTy
  | .hbm, ⟨0, _⟩ => ⟨S2x56x128x12288, .bf16⟩
  | .hbm, ⟨1, _⟩ => ⟨S2x8x12288x128, .bf16⟩
  | .hbm, ⟨2, _⟩ => ⟨S2x8x128x12288, .bf16⟩
  | .hbm, ⟨3, _⟩ => ⟨S2x8x7x128x12288, .bf16⟩
  | .hbm, ⟨4, _⟩ => ⟨S12288, .i32⟩
  | .hbm, ⟨5, _⟩ => ⟨S1x12288, .i32⟩
  | .hbm, ⟨6, _⟩ => ⟨S12288x1, .i32⟩
  | .hbm, ⟨7, _⟩ => ⟨S12288x12288, .i32⟩
  | .hbm, ⟨8, _⟩ => ⟨S12288x12288, .i32⟩
  | .hbm, ⟨9, _⟩ => ⟨S12288x12288, .i1⟩
  | .hbm, ⟨10, _⟩ => ⟨S2x8x7x12288x12288, .f32⟩
  | .hbm, ⟨11, _⟩ => ⟨S_, .f32⟩
  | .hbm, ⟨12, _⟩ => ⟨S2x8x7x12288x12288, .f32⟩
  | .hbm, ⟨13, _⟩ => ⟨S2x8x7x12288x12288, .f32⟩
  | .hbm, ⟨14, _⟩ => ⟨S2x8x7x12288x12288, .f32⟩
  | .hbm, ⟨15, _⟩ => ⟨S_, .f32⟩
  | .hbm, ⟨16, _⟩ => ⟨S_, .f32⟩
  | .hbm, ⟨17, _⟩ => ⟨S2x8x7x12288x12288, .i1⟩
  | .hbm, ⟨18, _⟩ => ⟨S2x8x7x12288x12288, .f32⟩
  | .hbm, ⟨19, _⟩ => ⟨S2x8x7x12288x12288, .f32⟩
  | .hbm, ⟨20, _⟩ => ⟨S_, .f32⟩
  | .hbm, ⟨21, _⟩ => ⟨S2x8x7x12288, .f32⟩
  | .hbm, ⟨22, _⟩ => ⟨S_, .f32⟩
  | .hbm, ⟨23, _⟩ => ⟨S_, .f32⟩
  | .hbm, ⟨24, _⟩ => ⟨S2x8x7x12288x12288, .i1⟩
  | .hbm, ⟨25, _⟩ => ⟨S2x8x7x12288x12288, .f32⟩
  | .hbm, ⟨26, _⟩ => ⟨S2x8x7x12288x12288, .f32⟩
  | .hbm, ⟨27, _⟩ => ⟨S_, .f32⟩
  | .hbm, ⟨28, _⟩ => ⟨S2x8x7x12288, .f32⟩
  | .hbm, ⟨29, _⟩ => ⟨S_, .f32⟩
  | .hbm, ⟨30, _⟩ => ⟨S2x8x7x12288, .f32⟩
  | .hbm, ⟨31, _⟩ => ⟨S2x8x7x12288, .f32⟩
  | .hbm, ⟨32, _⟩ => ⟨S2x8x7x12288x1, .f32⟩
  | .hbm, ⟨33, _⟩ => ⟨S2x8x7x12288x12288, .f32⟩
  | .hbm, ⟨34, _⟩ => ⟨S2x8x7x12288x12288, .f32⟩
  | .hbm, ⟨35, _⟩ => ⟨S2x8x7x12288x12288, .f32⟩
  | .hbm, ⟨36, _⟩ => ⟨S_, .f32⟩
  | .hbm, ⟨37, _⟩ => ⟨S2x8x7x12288, .f32⟩
  | .hbm, ⟨38, _⟩ => ⟨S2x8x7x12288x1, .f32⟩
  | .hbm, ⟨39, _⟩ => ⟨S2x8x7x12288x12288, .f32⟩
  | .hbm, ⟨40, _⟩ => ⟨S2x8x7x12288x12288, .f32⟩
  | .hbm, ⟨41, _⟩ => ⟨S2x8x7x12288x12288, .bf16⟩
  | .hbm, ⟨42, _⟩ => ⟨S2x8x128x7x12288, .f32⟩
  | .hbm, ⟨43, _⟩ => ⟨S2x8x7x128x12288, .f32⟩
  | .hbm, ⟨44, _⟩ => ⟨S2x8x7x128x12288, .f32⟩
  | .hbm, ⟨45, _⟩ => ⟨S_, .f32⟩
  | .hbm, ⟨46, _⟩ => ⟨S2x8x7x12288, .f32⟩
  | .hbm, ⟨47, _⟩ => ⟨S2x56x128x12288, .f32⟩
  | _, _ => ⟨S2x56x128x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Amax.lean ====
abbrev S2x56x12288 : Shape := ⟨3, ![2, 56, 12288]⟩
abbrev S2x8x12288 : Shape := ⟨3, ![2, 8, 12288]⟩
abbrev S56x1 : Shape := ⟨2, ![56, 1]⟩
abbrev S8x1 : Shape := ⟨2, ![8, 1]⟩
abbrev S1x56x12288 : Shape := ⟨3, ![1, 56, 12288]⟩
abbrev S1x8x12288 : Shape := ⟨3, ![1, 8, 12288]⟩
abbrev S56x12288 : Shape := ⟨2, ![56, 12288]⟩
abbrev S56 : Shape := ⟨1, ![56]⟩
abbrev S8x12288 : Shape := ⟨2, ![8, 12288]⟩
abbrev S8 : Shape := ⟨1, ![8]⟩

abbrev nBuf : Space → Nat
  | .hbm => 10
  | .vmem => 15
  | .smem => 0
  | _ => 0

abbrev bufTy : (tb : Table) → Fin (tcTables nBuf tb) → BufTy
  | .hbm, ⟨0, _⟩ => ⟨S2x56x12288, .f32⟩
  | .hbm, ⟨1, _⟩ => ⟨S2x8x12288, .f32⟩
  | .hbm, ⟨2, _⟩ => ⟨S2x8x12288, .f32⟩
  | .hbm, ⟨3, _⟩ => ⟨S2x56x12288, .f32⟩
  | .hbm, ⟨4, _⟩ => ⟨S2x56x12288, .f32⟩
  | .hbm, ⟨5, _⟩ => ⟨S56x1, .f32⟩
  | .hbm, ⟨6, _⟩ => ⟨S8x1, .f32⟩
  | .hbm, ⟨7, _⟩ => ⟨S8x1, .f32⟩
  | .hbm, ⟨8, _⟩ => ⟨S56x1, .f32⟩
  | .hbm, ⟨9, _⟩ => ⟨S56x1, .f32⟩
  | .local _ .vmem, ⟨0, _⟩ => ⟨S1x56x12288, .f32⟩
  | .local _ .vmem, ⟨1, _⟩ => ⟨S1x56x12288, .f32⟩
  | .local _ .vmem, ⟨2, _⟩ => ⟨S1x8x12288, .f32⟩
  | .local _ .vmem, ⟨3, _⟩ => ⟨S1x8x12288, .f32⟩
  | .local _ .vmem, ⟨4, _⟩ => ⟨S1x8x12288, .f32⟩
  | .local _ .vmem, ⟨5, _⟩ => ⟨S1x8x12288, .f32⟩
  | .local _ .vmem, ⟨6, _⟩ => ⟨S1x56x12288, .f32⟩
  | .local _ .vmem, ⟨7, _⟩ => ⟨S1x56x12288, .f32⟩
  | .local _ .vmem, ⟨8, _⟩ => ⟨S1x56x12288, .f32⟩
  | .local _ .vmem, ⟨9, _⟩ => ⟨S1x56x12288, .f32⟩
  | .local _ .vmem, ⟨10, _⟩ => ⟨S56x1, .f32⟩
  | .local _ .vmem, ⟨11, _⟩ => ⟨S8x1, .f32⟩
  | .local _ .vmem, ⟨12, _⟩ => ⟨S8x1, .f32⟩
  | .local _ .vmem, ⟨13, _⟩ => ⟨S56x1, .f32⟩
  | .local _ .vmem, ⟨14, _⟩ => ⟨S56x1, .f32⟩
  | _, _ => ⟨S2x56x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_2 : BitVec 32 := 0#32
  let v6 : BitVec 1 := Scalar.cmpi .ne v5 c0_i32_2
  v6

def k0_cond2 (i : grid0.Coords) : BitVec 1 :=
  let arg0 : BitVec 32 := BitVec.ofNat 32 (i 0).val
  let c0_i32_3 : BitVec 32 := 0#32
  let v7 : BitVec 1 := Scalar.cmpi .sgt arg0 c0_i32_3
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c0_i32_9 : BitVec 32 := 0#32
  let v14 : BitVec 1 := Scalar.cmpi .eq arg0 c0_i32_9
  let v15 : BitVec 32 := Scalar.extui v14
  let c0_i32_10 : BitVec 32 := 0#32
  let v16 : BitVec 1 := Scalar.cmpi .ne v15 c0_i32_10
  v16

def k0_cond4 (i : grid0.Coords) : BitVec 1 :=
  let arg0 : BitVec 32 := BitVec.ofNat 32 (i 0).val
  let c0_i32_11 : BitVec 32 := 0#32
  let v17 : BitVec 1 := Scalar.cmpi .sgt arg0 c0_i32_11
  let v18 : BitVec 32 := Scalar.extui v17
  let c0_i32_12 : BitVec 32 := 0#32
  let v19 : BitVec 1 := Scalar.cmpi .ne v18 c0_i32_12
  v19

def k0_cond5 (i : grid0.Coords) : BitVec 1 :=
  let arg0 : BitVec 32 := BitVec.ofNat 32 (i 0).val
  let c0_i32_17 : BitVec 32 := 0#32
  let v24 : BitVec 1 := Scalar.cmpi .eq arg0 c0_i32_17
  let v25 : BitVec 32 := Scalar.extui v24
  let c0_i32_18 : BitVec 32 := 0#32
  let v26 : BitVec 1 := Scalar.cmpi .ne v25 c0_i32_18
  v26

def k0_cond6 (i : grid0.Coords) : BitVec 1 :=
  let arg0 : BitVec 32 := BitVec.ofNat 32 (i 0).val
  let c0_i32_19 : BitVec 32 := 0#32
  let v27 : BitVec 1 := Scalar.cmpi .sgt arg0 c0_i32_19
  let v28 : BitVec 32 := Scalar.extui v27
  let c0_i32_20 : BitVec 32 := 0#32
  let v29 : BitVec 1 := Scalar.cmpi .ne v28 c0_i32_20
  v29

def k0_cond7 (i : grid0.Coords) : BitVec 1 :=
  let arg0 : BitVec 32 := BitVec.ofNat 32 (i 0).val
  let c0_i32_25 : BitVec 32 := 0#32
  let v34 : BitVec 1 := Scalar.cmpi .eq arg0 c0_i32_25
  let v35 : BitVec 32 := Scalar.extui v34
  let c0_i32_26 : BitVec 32 := 0#32
  let v36 : BitVec 1 := Scalar.cmpi .ne v35 c0_i32_26
  v36

def k0_cond8 (i : grid0.Coords) : BitVec 1 :=
  let arg0 : BitVec 32 := BitVec.ofNat 32 (i 0).val
  let c0_i32_27 : BitVec 32 := 0#32
  let v37 : BitVec 1 := Scalar.cmpi .sgt arg0 c0_i32_27
  let v38 : BitVec 32 := Scalar.extui v37
  let c0_i32_28 : BitVec 32 := 0#32
  let v39 : BitVec 1 := Scalar.cmpi .ne v38 c0_i32_28
  v39

def k0_cond9 (i : grid0.Coords) : BitVec 1 :=
  let arg0 : BitVec 32 := BitVec.ofNat 32 (i 0).val
  let c0_i32_33 : BitVec 32 := 0#32
  let v44 : BitVec 1 := Scalar.cmpi .eq arg0 c0_i32_33
  let v45 : BitVec 32 := Scalar.extui v44
  let c0_i32_34 : BitVec 32 := 0#32
  let v46 : BitVec 1 := Scalar.cmpi .ne v45 c0_i32_34
  v46

def k0_cond10 (i : grid0.Coords) : BitVec 1 :=
  let arg0 : BitVec 32 := BitVec.ofNat 32 (i 0).val
  let c0_i32_35 : BitVec 32 := 0#32
  let v47 : BitVec 1 := Scalar.cmpi .sgt arg0 c0_i32_35
  let v48 : BitVec 32 := Scalar.extui v47
  let c0_i32_36 : BitVec 32 := 0#32
  let v49 : BitVec 1 := Scalar.cmpi .ne v48 c0_i32_36
  v49

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x56x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x56x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x56x12288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S56x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S56x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S56x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AmaxReferenceIdeal.lean ====
abbrev S2x56x12288 : Shape := ⟨3, ![2, 56, 12288]⟩
abbrev S2x8x12288 : Shape := ⟨3, ![2, 8, 12288]⟩
abbrev S_ : Shape := ⟨0, ![]⟩
abbrev S56 : Shape := ⟨1, ![56]⟩
abbrev S56x1 : Shape := ⟨2, ![56, 1]⟩
abbrev S8 : Shape := ⟨1, ![8]⟩
abbrev S8x1 : Shape := ⟨2, ![8, 1]⟩

abbrev nBuf : Space → Nat
  | .hbm => 20
  | .vmem => 0
  | .smem => 0
  | _ => 0

abbrev bufTy : (tb : Table) → Fin (tcTables nBuf tb) → BufTy
  | .hbm, ⟨0, _⟩ => ⟨S2x56x12288, .f32⟩
  | .hbm, ⟨1, _⟩ => ⟨S2x8x12288, .f32⟩
  | .hbm, ⟨2, _⟩ => ⟨S2x8x12288, .f32⟩
  | .hbm, ⟨3, _⟩ => ⟨S2x56x12288, .f32⟩
  | .hbm, ⟨4, _⟩ => ⟨S2x56x12288, .f32⟩
  | .hbm, ⟨5, _⟩ => ⟨S_, .f32⟩
  | .hbm, ⟨6, _⟩ => ⟨S56, .f32⟩
  | .hbm, ⟨7, _⟩ => ⟨S56x1, .f32⟩
  | .hbm, ⟨8, _⟩ => ⟨S_, .f32⟩
  | .hbm, ⟨9, _⟩ => ⟨S8, .f32⟩
  | .hbm, ⟨10, _⟩ => ⟨S8x1, .f32⟩
  | .hbm, ⟨11, _⟩ => ⟨S_, .f32⟩
  | .hbm, ⟨12, _⟩ => ⟨S8, .f32⟩
  | .hbm, ⟨13, _⟩ => ⟨S8x1, .f32⟩
  | .hbm, ⟨14, _⟩ => ⟨S_, .f32⟩
  | .hbm, ⟨15, _⟩ => ⟨S56, .f32⟩
  | .hbm, ⟨16, _⟩ => ⟨S56x1, .f32⟩
  | .hbm, ⟨17, _⟩ => ⟨S_, .f32⟩
  | .hbm, ⟨18, _⟩ => ⟨S56, .f32⟩
  | .hbm, ⟨19, _⟩ => ⟨S56x1, .f32⟩
  | _, _ => ⟨S2x56x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Quant.lean ====
abbrev S2x56x128x12288 : Shape := ⟨4, ![2, 56, 128, 12288]⟩
abbrev S56 : Shape := ⟨1, ![56]⟩
abbrev S8 : Shape := ⟨1, ![8]⟩
abbrev S_ : Shape := ⟨0, ![]⟩
abbrev S56x1 : Shape := ⟨2, ![56, 1]⟩
abbrev S56x128 : Shape := ⟨2, ![56, 128]⟩
abbrev S2x12288x56x128 : Shape := ⟨4, ![2, 12288, 56, 128]⟩
abbrev S1x56x128x128 : Shape := ⟨4, ![1, 56, 128, 128]⟩
abbrev S1x128x56x128 : Shape := ⟨4, ![1, 128, 56, 128]⟩
abbrev S128x56x128 : Shape := ⟨3, ![128, 56, 128]⟩
abbrev S1x1x128x128 : Shape := ⟨4, ![1, 1, 128, 128]⟩
abbrev S128x128 : Shape := ⟨2, ![128, 128]⟩
abbrev S1x128 : Shape := ⟨2, ![1, 128]⟩
abbrev S128x1x128 : Shape := ⟨3, ![128, 1, 128]⟩

abbrev nBuf : Space → Nat
  | .hbm => 59
  | .vmem => 6
  | .smem => 0
  | _ => 0

abbrev bufTy : (tb : Table) → Fin (tcTables nBuf tb) → BufTy
  | .hbm, ⟨0, _⟩ => ⟨S2x56x128x12288, .f32⟩
  | .hbm, ⟨1, _⟩ => ⟨S56, .f32⟩
  | .hbm, ⟨2, _⟩ => ⟨S8, .f32⟩
  | .hbm, ⟨3, _⟩ => ⟨S8, .f32⟩
  | .hbm, ⟨4, _⟩ => ⟨S56, .f32⟩
  | .hbm, ⟨5, _⟩ => ⟨S56, .f32⟩
  | .hbm, ⟨6, _⟩ => ⟨S_, .f32⟩
  | .hbm, ⟨7, _⟩ => ⟨S56, .f32⟩
  | .hbm, ⟨8, _⟩ => ⟨S56, .i1⟩
  | .hbm, ⟨9, _⟩ => ⟨S_, .f32⟩
  | .hbm, ⟨10, _⟩ => ⟨S56, .f32⟩
  | .hbm, ⟨11, _⟩ => ⟨S56, .f32⟩
  | .hbm, ⟨12, _⟩ => ⟨S_, .f32⟩
  | .hbm, ⟨13, _⟩ => ⟨S_, .f32⟩
  | .hbm, ⟨14, _⟩ => ⟨S56, .f32⟩
  | .hbm, ⟨15, _⟩ => ⟨S56, .f32⟩
  | .hbm, ⟨16, _⟩ => ⟨S_, .f32⟩
  | .hbm, ⟨17, _⟩ => ⟨S8, .f32⟩
  | .hbm, ⟨18, _⟩ => ⟨S8, .i1⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .i1⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S56, .f32⟩
  | .hbm, ⟨38, _⟩ => ⟨S56, .i1⟩
  | .hbm, ⟨39, _⟩ => ⟨S_, .f32⟩
  | .hbm, ⟨40, _⟩ => ⟨S56, .f32⟩
  | .hbm, ⟨41, _⟩ => ⟨S56, .f32⟩
  | .hbm, ⟨42, _⟩ => ⟨S_, .f32⟩
  | .hbm, ⟨43, _⟩ => ⟨S_, .f32⟩
  | .hbm, ⟨44, _⟩ => ⟨S56, .f32⟩
  | .hbm, ⟨45, _⟩ => ⟨S56, .f32⟩
  | .hbm, ⟨46, _⟩ => ⟨S_, .f32⟩
  | .hbm, ⟨47, _⟩ => ⟨S56, .f32⟩
  | .hbm, ⟨48, _⟩ => ⟨S56, .i1⟩
  | .hbm, ⟨49, _⟩ => ⟨S_, .f32⟩
  | .hbm, ⟨50, _⟩ => ⟨S56, .f32⟩
  | .hbm, ⟨51, _⟩ => ⟨S56, .f32⟩
  | .hbm, ⟨52, _⟩ => ⟨S_, .f32⟩
  | .hbm, ⟨53, _⟩ => ⟨S_, .f32⟩
  | .hbm, ⟨54, _⟩ => ⟨S56, .f32⟩
  | .hbm, ⟨55, _⟩ => ⟨S56, .f32⟩
  | .hbm, ⟨56, _⟩ => ⟨S56x1, .f32⟩
  | .hbm, ⟨57, _⟩ => ⟨S56x128, .f32⟩
  | .hbm, ⟨58, _⟩ => ⟨S2x12288x56x128, .fp8e4m3⟩
  | .local _ .vmem, ⟨0, _⟩ => ⟨S1x56x128x128, .f32⟩
  | .local _ .vmem, ⟨1, _⟩ => ⟨S1x56x128x128, .f32⟩
  | .local _ .vmem, ⟨2, _⟩ => ⟨S56x128, .f32⟩
  | .local _ .vmem, ⟨3, _⟩ => ⟨S1x128x56x128, .fp8e4m3⟩
  | .local _ .vmem, ⟨4, _⟩ => ⟨S1x128x56x128, .fp8e4m3⟩
  | .local _ .vmem, ⟨5, _⟩ => ⟨S128x56x128, .f32⟩
  | _, _ => ⟨S2x56x128x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_v11 : Ref sig .tc := ⟨.hbm, 28, rfl⟩
abbrev main_cst_6 : Ref sig .tc := ⟨.hbm, 29, rfl⟩
abbrev main_v12 : Ref sig .tc := ⟨.hbm, 30, rfl⟩
abbrev main_v13 : Ref sig .tc := ⟨.hbm, 31, rfl⟩
abbrev main_cst_7 : Ref sig .tc := ⟨.hbm, 32, rfl⟩
abbrev main_call2_v0 : Ref sig .tc := ⟨.hbm, 33, rfl⟩
abbrev main_call2_v1 : Ref sig .tc := ⟨.hbm, 34, rfl⟩
abbrev main_v14 : Ref sig .tc := ⟨.hbm, 35, rfl⟩
abbrev main_cst_8 : Ref sig .tc := ⟨.hbm, 36, rfl⟩
abbrev main_v15 : Ref sig .tc := ⟨.hbm, 37, rfl⟩
abbrev main_v16 : Ref sig .tc := ⟨.hbm, 38, rfl⟩
abbrev main_cst_9 : Ref sig .tc := ⟨.hbm, 39, rfl⟩
abbrev main_v17 : Ref sig .tc := ⟨.hbm, 40, rfl⟩
abbrev main_v18 : Ref sig .tc := ⟨.hbm, 41, rfl⟩
abbrev main_cst_10 : Ref sig .tc := ⟨.hbm, 42, rfl⟩
abbrev main_call3_v0 : Ref sig .tc := ⟨.hbm, 43, rfl⟩
abbrev main_call3_v1 : Ref sig .tc := ⟨.hbm, 44, rfl⟩
abbrev main_v19 : Ref sig .tc := ⟨.hbm, 45, rfl⟩
abbrev main_cst_11 : Ref sig .tc := ⟨.hbm, 46, rfl⟩
abbrev main_v20 : Ref sig .tc := ⟨.hbm, 47, rfl⟩
abbrev main_v21 : Ref sig .tc := ⟨.hbm, 48, rfl⟩
abbrev main_cst_12 : Ref sig .tc := ⟨.hbm, 49, rfl⟩
abbrev main_v22 : Ref sig .tc := ⟨.hbm, 50, rfl⟩
abbrev main_v23 : Ref sig .tc := ⟨.hbm, 51, rfl⟩
abbrev main_cst_13 : Ref sig .tc := ⟨.hbm, 52, rfl⟩
abbrev main_call4_v0 : Ref sig .tc := ⟨.hbm, 53, rfl⟩
abbrev main_call4_v1 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 96], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x56x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S56x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x56x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QuantReference.lean ====
abbrev S2x56x128x12288 : Shape := ⟨4, ![2, 56, 128, 12288]⟩
abbrev S56 : Shape := ⟨1, ![56]⟩
abbrev S8 : Shape := ⟨1, ![8]⟩
abbrev S_ : Shape := ⟨0, ![]⟩
abbrev S2x12288x56x128 : Shape := ⟨4, ![2, 12288, 56, 128]⟩
abbrev S56x1 : Shape := ⟨2, ![56, 1]⟩
abbrev S1x1x56x1 : Shape := ⟨4, ![1, 1, 56, 1]⟩

abbrev nBuf : Space → Nat
  | .hbm => 59
  | .vmem => 3
  | .smem => 0
  | _ => 0

abbrev bufTy : (tb : Table) → Fin (tcTables nBuf tb) → BufTy
  | .hbm, ⟨0, _⟩ => ⟨S2x56x128x12288, .f32⟩
  | .hbm, ⟨1, _⟩ => ⟨S56, .f32⟩
  | .hbm, ⟨2, _⟩ => ⟨S8, .f32⟩
  | .hbm, ⟨3, _⟩ => ⟨S8, .f32⟩
  | .hbm, ⟨4, _⟩ => ⟨S56, .f32⟩
  | .hbm, ⟨5, _⟩ => ⟨S56, .f32⟩
  | .hbm, ⟨6, _⟩ => ⟨S_, .f32⟩
  | .hbm, ⟨7, _⟩ => ⟨S56, .f32⟩
  | .hbm, ⟨8, _⟩ => ⟨S56, .i1⟩
  | .hbm, ⟨9, _⟩ => ⟨S_, .f32⟩
  | .hbm, ⟨10, _⟩ => ⟨S56, .f32⟩
  | .hbm, ⟨11, _⟩ => ⟨S56, .f32⟩
  | .hbm, ⟨12, _⟩ => ⟨S_, .f32⟩
  | .hbm, ⟨13, _⟩ => ⟨S_, .f32⟩
  | .hbm, ⟨14, _⟩ => ⟨S56, .f32⟩
  | .hbm, ⟨15, _⟩ => ⟨S56, .f32⟩
  | .hbm, ⟨16, _⟩ => ⟨S_, .f32⟩
  | .hbm, ⟨17, _⟩ => ⟨S8, .f32⟩
  | .hbm, ⟨18, _⟩ => ⟨S8, .i1⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .i1⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S56, .f32⟩
  | .hbm, ⟨38, _⟩ => ⟨S56, .i1⟩
  | .hbm, ⟨39, _⟩ => ⟨S_, .f32⟩
  | .hbm, ⟨40, _⟩ => ⟨S56, .f32⟩
  | .hbm, ⟨41, _⟩ => ⟨S56, .f32⟩
  | .hbm, ⟨42, _⟩ => ⟨S_, .f32⟩
  | .hbm, ⟨43, _⟩ => ⟨S_, .f32⟩
  | .hbm, ⟨44, _⟩ => ⟨S56, .f32⟩
  | .hbm, ⟨45, _⟩ => ⟨S56, .f32⟩
  | .hbm, ⟨46, _⟩ => ⟨S_, .f32⟩
  | .hbm, ⟨47, _⟩ => ⟨S56, .f32⟩
  | .hbm, ⟨48, _⟩ => ⟨S56, .i1⟩
  | .hbm, ⟨49, _⟩ => ⟨S_, .f32⟩
  | .hbm, ⟨50, _⟩ => ⟨S56, .f32⟩
  | .hbm, ⟨51, _⟩ => ⟨S56, .f32⟩
  | .hbm, ⟨52, _⟩ => ⟨S_, .f32⟩
  | .hbm, ⟨53, _⟩ => ⟨S_, .f32⟩
  | .hbm, ⟨54, _⟩ => ⟨S56, .f32⟩
  | .hbm, ⟨55, _⟩ => ⟨S56, .f32⟩
  | .hbm, ⟨56, _⟩ => ⟨S2x12288x56x128, .f32⟩
  | .hbm, ⟨57, _⟩ => ⟨S56x1, .f32⟩
  | .hbm, ⟨58, _⟩ => ⟨S2x12288x56x128, .fp8e4m3⟩
  | .local _ .vmem, ⟨0, _⟩ => ⟨S2x12288x56x128, .f32⟩
  | .local _ .vmem, ⟨1, _⟩ => ⟨S56x1, .f32⟩
  | .local _ .vmem, ⟨2, _⟩ => ⟨S2x12288x56x128, .fp8e4m3⟩
  | _, _ => ⟨S2x56x128x12288, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_v11 : Ref sig .tc := ⟨.hbm, 28, rfl⟩
abbrev main_cst_6 : Ref sig .tc := ⟨.hbm, 29, rfl⟩
abbrev main_v12 : Ref sig .tc := ⟨.hbm, 30, rfl⟩
abbrev main_v13 : Ref sig .tc := ⟨.hbm, 31, rfl⟩
abbrev main_cst_7 : Ref sig .tc := ⟨.hbm, 32, rfl⟩
abbrev main_call2_v0 : Ref sig .tc := ⟨.hbm, 33, rfl⟩
abbrev main_call2_v1 : Ref sig .tc := ⟨.hbm, 34, rfl⟩
abbrev main_v14 : Ref sig .tc := ⟨.hbm, 35, rfl⟩
abbrev main_cst_8 : Ref sig .tc := ⟨.hbm, 36, rfl⟩
abbrev main_v15 : Ref sig .tc := ⟨.hbm, 37, rfl⟩
abbrev main_v16 : Ref sig .tc := ⟨.hbm, 38, rfl⟩
abbrev main_cst_9 : Ref sig .tc := ⟨.hbm, 39, rfl⟩
abbrev main_v17 : Ref sig .tc := ⟨.hbm, 40, rfl⟩
abbrev main_v18 : Ref sig .tc := ⟨.hbm, 41, rfl⟩
abbrev main_cst_10 : Ref sig .tc := ⟨.hbm, 42, rfl⟩
abbrev main_call3_v0 : Ref sig .tc := ⟨.hbm, 43, rfl⟩
abbrev main_call3_v1 : Ref sig .tc := ⟨.hbm, 44, rfl⟩
abbrev main_v19 : Ref sig .tc := ⟨.hbm, 45, rfl⟩
abbrev main_cst_11 : Ref sig .tc := ⟨.hbm, 46, rfl⟩
abbrev main_v20 : Ref sig .tc := ⟨.hbm, 47, rfl⟩
abbrev main_v21 : Ref sig .tc := ⟨.hbm, 48, rfl⟩
abbrev main_cst_12 : Ref sig .tc := ⟨.hbm, 49, rfl⟩
abbrev main_v22 : Ref sig .tc := ⟨.hbm, 50, rfl⟩
abbrev main_v23 : Ref sig .tc := ⟨.hbm, 51, rfl⟩
abbrev main_cst_13 : Ref sig .tc := ⟨.hbm, 52, rfl⟩
abbrev main_call4_v0 : Ref sig .tc := ⟨.hbm, 53, rfl⟩
abbrev main_call4_v1 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x12288x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288x56x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PrepKV.lean ====
abbrev S2x12288x8x128 : Shape := ⟨4, ![2, 12288, 8, 128]⟩
abbrev S2 : Shape := ⟨1, ![2]⟩
abbrev S2x1 : Shape := ⟨2, ![2, 1]⟩
abbrev S12288 : Shape := ⟨1, ![12288]⟩
abbrev S1x12288 : Shape := ⟨2, ![1, 12288]⟩
abbrev S2x12288 : Shape := ⟨2, ![2, 12288]⟩
abbrev S64 : Shape := ⟨1, ![64]⟩
abbrev S_ : Shape := ⟨0, ![]⟩
abbrev S2x1x12288 : Shape := ⟨3, ![2, 1, 12288]⟩
abbrev S64x1 : Shape := ⟨2, ![64, 1]⟩
abbrev S1x64x1 : Shape := ⟨3, ![1, 64, 1]⟩
abbrev S2x64x12288 : Shape := ⟨3, ![2, 64, 12288]⟩
abbrev S2x8x12288x128 : Shape := ⟨4, ![2, 8, 12288, 128]⟩
abbrev S2x8x128x12288 : Shape := ⟨4, ![2, 8, 128, 12288]⟩
abbrev S2x8x12288 : Shape := ⟨3, ![2, 8, 12288]⟩
abbrev S1x1024x8x128 : Shape := ⟨4, ![1, 1024, 8, 128]⟩
abbrev S1x64x1024 : Shape := ⟨3, ![1, 64, 1024]⟩
abbrev S1x8x1024x128 : Shape := ⟨4, ![1, 8, 1024, 128]⟩
abbrev S1x8x128x1024 : Shape := ⟨4, ![1, 8, 128, 1024]⟩
abbrev S1x8x1024 : Shape := ⟨3, ![1, 8, 1024]⟩
abbrev S64x1024 : Shape := ⟨2, ![64, 1024]⟩
abbrev S1x1024x4x128 : Shape := ⟨4, ![1, 1024, 4, 128]⟩
abbrev S1x1024x1x128 : Shape := ⟨4, ![1, 1024, 1, 128]⟩
abbrev S1x1024x2x128 : Shape := ⟨4, ![1, 1024, 2, 128]⟩
abbrev S1024x128 : Shape := ⟨2, ![1024, 128]⟩
abbrev S128x1024 : Shape := ⟨2, ![128, 1024]⟩
abbrev S1x1x1024x128 : Shape := ⟨4, ![1, 1, 1024, 128]⟩
abbrev S1024 : Shape := ⟨1, ![1024]⟩
abbrev S1x1024 : Shape := ⟨2, ![1, 1024]⟩
abbrev S1x1x1024 : Shape := ⟨3, ![1, 1, 1024]⟩
abbrev S1x1x128x1024 : Shape := ⟨4, ![1, 1, 128, 1024]⟩

abbrev nBuf : Space → Nat
  | .hbm => 33
  | .vmem => 16
  | .smem => 0
  | _ => 0

abbrev bufTy : (tb : Table) → Fin (tcTables nBuf tb) → BufTy
  | .hbm, ⟨0, _⟩ => ⟨S2x12288x8x128, .bf16⟩
  | .hbm, ⟨1, _⟩ => ⟨S2x12288x8x128, .bf16⟩
  | .hbm, ⟨2, _⟩ => ⟨S2, .i32⟩
  | .hbm, ⟨3, _⟩ => ⟨S2x1, .i32⟩
  | .hbm, ⟨4, _⟩ => ⟨S12288, .i32⟩
  | .hbm, ⟨5, _⟩ => ⟨S1x12288, .i32⟩
  | .hbm, ⟨6, _⟩ => ⟨S2x12288, .i32⟩
  | .hbm, ⟨7, _⟩ => ⟨S2x12288, .i32⟩
  | .hbm, ⟨8, _⟩ => ⟨S2x12288, .i32⟩
  | .hbm, ⟨9, _⟩ => ⟨S2x12288, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2x1x12288, .f32⟩
  | .hbm, ⟨22, _⟩ => ⟨S64x1, .f32⟩
  | .hbm, ⟨23, _⟩ => ⟨S1x64x1, .f32⟩
  | .hbm, ⟨24, _⟩ => ⟨S2x64x12288, .f32⟩
  | .hbm, ⟨25, _⟩ => ⟨S2x64x12288, .f32⟩
  | .hbm, ⟨26, _⟩ => ⟨S2x64x12288, .f32⟩
  | .hbm, ⟨27, _⟩ => ⟨S2x64x12288, .f32⟩
  | .hbm, ⟨28, _⟩ => ⟨S2x64x12288, .f32⟩
  | .hbm, ⟨29, _⟩ => ⟨S2x8x12288x128, .bf16⟩
  | .hbm, ⟨30, _⟩ => ⟨S2x8x128x12288, .bf16⟩
  | .hbm, ⟨31, _⟩ => ⟨S2x8x12288, .f32⟩
  | .hbm, ⟨32, _⟩ => ⟨S2x8x12288, .f32⟩
  | .local _ .vmem, ⟨0, _⟩ => ⟨S1x1024x8x128, .bf16⟩
  | .local _ .vmem, ⟨1, _⟩ => ⟨S1x1024x8x128, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x8x1024x128, .bf16⟩
  | .local _ .vmem, ⟨9, _⟩ => ⟨S1x8x1024x128, .bf16⟩
  | .local _ .vmem, ⟨10, _⟩ => ⟨S1x8x128x1024, .bf16⟩
  | .local _ .vmem, ⟨11, _⟩ => ⟨S1x8x128x1024, .bf16⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x8x1024, .f32⟩
  | _, _ => ⟨S2x12288x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![2, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PrepKVIdeal.lean ====
abbrev S2048x128 : Shape := ⟨2, ![2048, 128]⟩
variable {F : FTy → Type} [FloatOps F]
-- ==== PrepKVReferenceIdeal.lean ====
abbrev S2x12288x8x128 : Shape := ⟨4, ![2, 12288, 8, 128]⟩
abbrev S2 : Shape := ⟨1, ![2]⟩
abbrev S2x1 : Shape := ⟨2, ![2, 1]⟩
abbrev S12288 : Shape := ⟨1, ![12288]⟩
abbrev S1x12288 : Shape := ⟨2, ![1, 12288]⟩
abbrev S2x12288 : Shape := ⟨2, ![2, 12288]⟩
abbrev S64 : Shape := ⟨1, ![64]⟩
abbrev S_ : Shape := ⟨0, ![]⟩
abbrev S2x12288x1 : Shape := ⟨3, ![2, 12288, 1]⟩
abbrev S1x1x64 : Shape := ⟨3, ![1, 1, 64]⟩
abbrev S2x12288x64 : Shape := ⟨3, ![2, 12288, 64]⟩
abbrev S2x12288x1x64 : Shape := ⟨4, ![2, 12288, 1, 64]⟩
abbrev S2x12288x8x64 : Shape := ⟨4, ![2, 12288, 8, 64]⟩
abbrev S2x12288x8 : Shape := ⟨3, ![2, 12288, 8]⟩
abbrev S2x8x12288x128 : Shape := ⟨4, ![2, 8, 12288, 128]⟩
abbrev S2x8x128x12288 : Shape := ⟨4, ![2, 8, 128, 12288]⟩
abbrev S2x8x12288 : Shape := ⟨3, ![2, 8, 12288]⟩

abbrev nBuf : Space → Nat
  | .hbm => 58
  | .vmem => 0
  | .smem => 0
  | _ => 0

abbrev bufTy : (tb : Table) → Fin (tcTables nBuf tb) → BufTy
  | .hbm, ⟨0, _⟩ => ⟨S2x12288x8x128, .bf16⟩
  | .hbm, ⟨1, _⟩ => ⟨S2x12288x8x128, .bf16⟩
  | .hbm, ⟨2, _⟩ => ⟨S2, .i32⟩
  | .hbm, ⟨3, _⟩ => ⟨S2x1, .i32⟩
  | .hbm, ⟨4, _⟩ => ⟨S12288, .i32⟩
  | .hbm, ⟨5, _⟩ => ⟨S1x12288, .i32⟩
  | .hbm, ⟨6, _⟩ => ⟨S2x12288, .i32⟩
  | .hbm, ⟨7, _⟩ => ⟨S2x12288, .i32⟩
  | .hbm, ⟨8, _⟩ => ⟨S2x12288, .i32⟩
  | .hbm, ⟨9, _⟩ => ⟨S2x12288, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2x12288x1, .f32⟩
  | .hbm, ⟨22, _⟩ => ⟨S1x1x64, .f32⟩
  | .hbm, ⟨23, _⟩ => ⟨S2x12288x64, .f32⟩
  | .hbm, ⟨24, _⟩ => ⟨S2x12288x64, .f32⟩
  | .hbm, ⟨25, _⟩ => ⟨S2x12288x64, .f32⟩
  | .hbm, ⟨26, _⟩ => ⟨S2x12288x64, .f32⟩
  | .hbm, ⟨27, _⟩ => ⟨S2x12288x1x64, .f32⟩
  | .hbm, ⟨28, _⟩ => ⟨S2x12288x64, .f32⟩
  | .hbm, ⟨29, _⟩ => ⟨S2x12288x1x64, .f32⟩
  | .hbm, ⟨30, _⟩ => ⟨S2x12288x8x64, .bf16⟩
  | .hbm, ⟨31, _⟩ => ⟨S2x12288x8x64, .f32⟩
  | .hbm, ⟨32, _⟩ => ⟨S2x12288x8x64, .bf16⟩
  | .hbm, ⟨33, _⟩ => ⟨S2x12288x8x64, .f32⟩
  | .hbm, ⟨34, _⟩ => ⟨S2x12288x8x64, .f32⟩
  | .hbm, ⟨35, _⟩ => ⟨S2x12288x8x64, .f32⟩
  | .hbm, ⟨36, _⟩ => ⟨S2x12288x8x64, .f32⟩
  | .hbm, ⟨37, _⟩ => ⟨S2x12288x8x64, .f32⟩
  | .hbm, ⟨38, _⟩ => ⟨S2x12288x8x64, .f32⟩
  | .hbm, ⟨39, _⟩ => ⟨S2x12288x8x64, .f32⟩
  | .hbm, ⟨40, _⟩ => ⟨S2x12288x8x64, .f32⟩
  | .hbm, ⟨41, _⟩ => ⟨S2x12288x8x64, .f32⟩
  | .hbm, ⟨42, _⟩ => ⟨S2x12288x8x64, .f32⟩
  | .hbm, ⟨43, _⟩ => ⟨S2x12288x8x64, .f32⟩
  | .hbm, ⟨44, _⟩ => ⟨S2x12288x8x128, .f32⟩
  | .hbm, ⟨45, _⟩ => ⟨S2x12288x8x128, .bf16⟩
  | .hbm, ⟨46, _⟩ => ⟨S2x12288x8x128, .bf16⟩
  | .hbm, ⟨47, _⟩ => ⟨S_, .bf16⟩
  | .hbm, ⟨48, _⟩ => ⟨S2x12288x8, .bf16⟩
  | .hbm, ⟨49, _⟩ => ⟨S2x12288x8, .f32⟩
  | .hbm, ⟨50, _⟩ => ⟨S2x12288x8x128, .bf16⟩
  | .hbm, ⟨51, _⟩ => ⟨S_, .bf16⟩
  | .hbm, ⟨52, _⟩ => ⟨S2x12288x8, .bf16⟩
  | .hbm, ⟨53, _⟩ => ⟨S2x12288x8, .f32⟩
  | .hbm, ⟨54, _⟩ => ⟨S2x8x12288x128, .bf16⟩
  | .hbm, ⟨55, _⟩ => ⟨S2x8x128x12288, .bf16⟩
  | .hbm, ⟨56, _⟩ => ⟨S2x8x12288, .f32⟩
  | .hbm, ⟨57, _⟩ => ⟨S2x8x12288, .f32⟩
  | _, _ => ⟨S2x12288x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== PrepQ.lean ====
abbrev S2x12288x56x128 : Shape := ⟨4, ![2, 12288, 56, 128]⟩
abbrev S2 : Shape := ⟨1, ![2]⟩
abbrev S2x1 : Shape := ⟨2, ![2, 1]⟩
abbrev S12288 : Shape := ⟨1, ![12288]⟩
abbrev S1x12288 : Shape := ⟨2, ![1, 12288]⟩
abbrev S2x12288 : Shape := ⟨2, ![2, 12288]⟩
abbrev S64 : Shape := ⟨1, ![64]⟩
abbrev S_ : Shape := ⟨0, ![]⟩
abbrev S2x1x12288 : Shape := ⟨3, ![2, 1, 12288]⟩
abbrev S64x1 : Shape := ⟨2, ![64, 1]⟩
abbrev S1x64x1 : Shape := ⟨3, ![1, 64, 1]⟩
abbrev S2x64x12288 : Shape := ⟨3, ![2, 64, 12288]⟩
abbrev S2x56x128x12288 : Shape := ⟨4, ![2, 56, 128, 12288]⟩
abbrev S2x56x12288 : Shape := ⟨3, ![2, 56, 12288]⟩
abbrev S1x256x56x128 : Shape := ⟨4, ![1, 256, 56, 128]⟩
abbrev S1x64x256 : Shape := ⟨3, ![1, 64, 256]⟩
abbrev S1x56x128x256 : Shape := ⟨4, ![1, 56, 128, 256]⟩
abbrev S1x56x256 : Shape := ⟨3, ![1, 56, 256]⟩
abbrev S64x256 : Shape := ⟨2, ![64, 256]⟩
abbrev S1x256x28x128 : Shape := ⟨4, ![1, 256, 28, 128]⟩
abbrev S1x256x1x128 : Shape := ⟨4, ![1, 256, 1, 128]⟩
abbrev S1x256x2x128 : Shape := ⟨4, ![1, 256, 2, 128]⟩
abbrev S256x128 : Shape := ⟨2, ![256, 128]⟩
abbrev S128x256 : Shape := ⟨2, ![128, 256]⟩
abbrev S1x1x128x256 : Shape := ⟨4, ![1, 1, 128, 256]⟩
abbrev S256 : Shape := ⟨1, ![256]⟩
abbrev S1x256 : Shape := ⟨2, ![1, 256]⟩
abbrev S1x1x256 : Shape := ⟨3, ![1, 1, 256]⟩

abbrev nBuf : Space → Nat
  | .hbm => 30
  | .vmem => 10
  | .smem => 0
  | _ => 0

abbrev bufTy : (tb : Table) → Fin (tcTables nBuf tb) → BufTy
  | .hbm, ⟨0, _⟩ => ⟨S2x12288x56x128, .bf16⟩
  | .hbm, ⟨1, _⟩ => ⟨S2, .i32⟩
  | .hbm, ⟨2, _⟩ => ⟨S2x1, .i32⟩
  | .hbm, ⟨3, _⟩ => ⟨S12288, .i32⟩
  | .hbm, ⟨4, _⟩ => ⟨S1x12288, .i32⟩
  | .hbm, ⟨5, _⟩ => ⟨S2x12288, .i32⟩
  | .hbm, ⟨6, _⟩ => ⟨S2x12288, .i32⟩
  | .hbm, ⟨7, _⟩ => ⟨S2x12288, .i32⟩
  | .hbm, ⟨8, _⟩ => ⟨S2x12288, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S2x1x12288, .f32⟩
  | .hbm, ⟨21, _⟩ => ⟨S64x1, .f32⟩
  | .hbm, ⟨22, _⟩ => ⟨S1x64x1, .f32⟩
  | .hbm, ⟨23, _⟩ => ⟨S2x64x12288, .f32⟩
  | .hbm, ⟨24, _⟩ => ⟨S2x64x12288, .f32⟩
  | .hbm, ⟨25, _⟩ => ⟨S2x64x12288, .f32⟩
  | .hbm, ⟨26, _⟩ => ⟨S2x64x12288, .f32⟩
  | .hbm, ⟨27, _⟩ => ⟨S2x64x12288, .f32⟩
  | .hbm, ⟨28, _⟩ => ⟨S2x56x128x12288, .bf16⟩
  | .hbm, ⟨29, _⟩ => ⟨S2x56x12288, .f32⟩
  | .local _ .vmem, ⟨0, _⟩ => ⟨S1x256x56x128, .bf16⟩
  | .local _ .vmem, ⟨1, _⟩ => ⟨S1x256x56x128, .bf16⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x56x128x256, .bf16⟩
  | .local _ .vmem, ⟨7, _⟩ => ⟨S1x56x128x256, .bf16⟩
  | .local _ .vmem, ⟨8, _⟩ => ⟨S1x56x256, .f32⟩
  | .local _ .vmem, ⟨9, _⟩ => ⟨S1x56x256, .f32⟩
  | _, _ => ⟨S2x12288x56x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![2, 48], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x56x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x56x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x56x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PrepQIdeal.lean ====
abbrev S512x128 : Shape := ⟨2, ![512, 128]⟩
variable {F : FTy → Type} [FloatOps F]
-- ==== PrepQReferenceIdeal.lean ====
abbrev S2x12288x56x128 : Shape := ⟨4, ![2, 12288, 56, 128]⟩
abbrev S2 : Shape := ⟨1, ![2]⟩
abbrev S2x1 : Shape := ⟨2, ![2, 1]⟩
abbrev S12288 : Shape := ⟨1, ![12288]⟩
abbrev S1x12288 : Shape := ⟨2, ![1, 12288]⟩
abbrev S2x12288 : Shape := ⟨2, ![2, 12288]⟩
abbrev S64 : Shape := ⟨1, ![64]⟩
abbrev S_ : Shape := ⟨0, ![]⟩
abbrev S2x12288x1 : Shape := ⟨3, ![2, 12288, 1]⟩
abbrev S1x1x64 : Shape := ⟨3, ![1, 1, 64]⟩
abbrev S2x12288x64 : Shape := ⟨3, ![2, 12288, 64]⟩
abbrev S2x12288x1x64 : Shape := ⟨4, ![2, 12288, 1, 64]⟩
abbrev S2x12288x56x64 : Shape := ⟨4, ![2, 12288, 56, 64]⟩
abbrev S2x12288x56 : Shape := ⟨3, ![2, 12288, 56]⟩
abbrev S2x56x128x12288 : Shape := ⟨4, ![2, 56, 128, 12288]⟩
abbrev S2x56x12288 : Shape := ⟨3, ![2, 56, 12288]⟩

abbrev nBuf : Space → Nat
  | .hbm => 51
  | .vmem => 0
  | .smem => 0
  | _ => 0

abbrev bufTy : (tb : Table) → Fin (tcTables nBuf tb) → BufTy
  | .hbm, ⟨0, _⟩ => ⟨S2x12288x56x128, .bf16⟩
  | .hbm, ⟨1, _⟩ => ⟨S2, .i32⟩
  | .hbm, ⟨2, _⟩ => ⟨S2x1, .i32⟩
  | .hbm, ⟨3, _⟩ => ⟨S12288, .i32⟩
  | .hbm, ⟨4, _⟩ => ⟨S1x12288, .i32⟩
  | .hbm, ⟨5, _⟩ => ⟨S2x12288, .i32⟩
  | .hbm, ⟨6, _⟩ => ⟨S2x12288, .i32⟩
  | .hbm, ⟨7, _⟩ => ⟨S2x12288, .i32⟩
  | .hbm, ⟨8, _⟩ => ⟨S2x12288, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S2x12288x1, .f32⟩
  | .hbm, ⟨21, _⟩ => ⟨S1x1x64, .f32⟩
  | .hbm, ⟨22, _⟩ => ⟨S2x12288x64, .f32⟩
  | .hbm, ⟨23, _⟩ => ⟨S2x12288x64, .f32⟩
  | .hbm, ⟨24, _⟩ => ⟨S2x12288x64, .f32⟩
  | .hbm, ⟨25, _⟩ => ⟨S2x12288x64, .f32⟩
  | .hbm, ⟨26, _⟩ => ⟨S2x12288x1x64, .f32⟩
  | .hbm, ⟨27, _⟩ => ⟨S2x12288x64, .f32⟩
  | .hbm, ⟨28, _⟩ => ⟨S2x12288x1x64, .f32⟩
  | .hbm, ⟨29, _⟩ => ⟨S2x12288x56x64, .bf16⟩
  | .hbm, ⟨30, _⟩ => ⟨S2x12288x56x64, .f32⟩
  | .hbm, ⟨31, _⟩ => ⟨S2x12288x56x64, .bf16⟩
  | .hbm, ⟨32, _⟩ => ⟨S2x12288x56x64, .f32⟩
  | .hbm, ⟨33, _⟩ => ⟨S2x12288x56x64, .f32⟩
  | .hbm, ⟨34, _⟩ => ⟨S2x12288x56x64, .f32⟩
  | .hbm, ⟨35, _⟩ => ⟨S2x12288x56x64, .f32⟩
  | .hbm, ⟨36, _⟩ => ⟨S2x12288x56x64, .f32⟩
  | .hbm, ⟨37, _⟩ => ⟨S2x12288x56x64, .f32⟩
  | .hbm, ⟨38, _⟩ => ⟨S2x12288x56x64, .f32⟩
  | .hbm, ⟨39, _⟩ => ⟨S2x12288x56x64, .f32⟩
  | .hbm, ⟨40, _⟩ => ⟨S2x12288x56x64, .f32⟩
  | .hbm, ⟨41, _⟩ => ⟨S2x12288x56x64, .f32⟩
  | .hbm, ⟨42, _⟩ => ⟨S2x12288x56x64, .f32⟩
  | .hbm, ⟨43, _⟩ => ⟨S2x12288x56x128, .f32⟩
  | .hbm, ⟨44, _⟩ => ⟨S2x12288x56x128, .bf16⟩
  | .hbm, ⟨45, _⟩ => ⟨S2x12288x56x128, .bf16⟩
  | .hbm, ⟨46, _⟩ => ⟨S_, .bf16⟩
  | .hbm, ⟨47, _⟩ => ⟨S2x12288x56, .bf16⟩
  | .hbm, ⟨48, _⟩ => ⟨S2x12288x56, .f32⟩
  | .hbm, ⟨49, _⟩ => ⟨S2x56x128x12288, .bf16⟩
  | .hbm, ⟨50, _⟩ => ⟨S2x56x12288, .f32⟩
  | _, _ => ⟨S2x12288x56x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_2 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== Proof.Body.lean ====
/- The kernel body at one grid point, run through its loops over the heads and over the key blocks: what each output
   window holds afterwards, as a function of the input blocks, and the run of the whole program from it. -/
module

public import proofs.«01_k».proof.Proof.Gen.Kernel.Frame
public import proofs.«01_k».proof.Proof.Gen.Kernel.Skeleton
public import Idealize.ShloMosaic.Lib.LoopRemainder
public import Idealize.ShloMosaic.Lib.Exec
public import Idealize.ShloMosaic.Lib.ValueIdxCoords
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.ShloMosaic.ValueIdx (ix4 eq_ix4)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- What the key loop carries: the running maximum and minimum of the scores, the sum of the weights and the weighted
    sum of the values. -/
abbrev Carry (F : FTy → Type) : Type := FVec F S1x512 .f32 × FVec F S1x512 .f32 × FVec F S1x512 .f32 × FVec F S128x512 .f32

/-- The query rows of head `h`. -/
def qAt (x3 : Vec F S1x7x128x512 .bf16) (h : Fin k0_t1_loop.trips) : Vec F S1x1x128x512 .bf16 :=
  View.ld x3 (Rect.unit (s := S1x7x128x512) (k0_off3 h) S1x1x128x512.size (k0_off3_inb h))

/-- The carry after the diagonal key block. -/
def start (i : grid0.Coords) (x3 : Vec F S1x7x128x512 .bf16) (x4 : Vec F S1x1x12288x128 .bf16) (x5 : Vec F S1x1x128x12288 .bf16)
    (h : Fin k0_t1_loop.trips) : Carry F :=
  let v8 : Vec F S1x1x512x128 .bf16 := View.ld x4 (Rect.unit (s := S1x1x12288x128) (k0_off1 i) S1x1x512x128.size (k0_off1_inb i))
  let v11 : Vec F S1x1x128x512 .bf16 := View.ld x5 (Rect.unit (s := S1x1x128x12288) (k0_off2 i) S1x1x128x512.size (k0_off2_inb i))
  let v14 : Vec F S1x1x128x512 .bf16 := qAt x3 h
  (k0_pay9 v8 v14, k0_pay10 v8 v14,
    k0_pay14 k0_pay3 (k0_pay11 v8 v14) (k0_pay12 v8 v14) (Scalar.ofBits .f32 0x3E0293EE#32),
    k0_pay15 k0_pay4 (k0_pay5 v11) (k0_pay11 v8 v14) (k0_pay12 v8 v14) (Scalar.ofBits .f32 0x3E0293EE#32))

/-- One earlier key block taken into the carry. -/
def next (i : grid0.Coords) (x3 : Vec F S1x7x128x512 .bf16) (x4 : Vec F S1x1x12288x128 .bf16) (x5 : Vec F S1x1x128x12288 .bf16)
    (h : Fin k0_t1_loop.trips) (k : Fin (k0_t2_loop i).trips) (a : Carry F) : Carry F :=
  let v82 : Vec F S1x1x512x128 .bf16 := View.ld x4 (Rect.unit (s := S1x1x12288x128) (k0_off4 i k) S1x1x512x128.size (k0_off4_inb i k))
  let v85 : Vec F S1x1x128x512 .bf16 := View.ld x5 (Rect.unit (s := S1x1x128x12288) (k0_off5 i k) S1x1x128x512.size (k0_off5_inb i k))
  let v88 : Vec F S1x1x128x512 .bf16 := View.ld x3 (Rect.unit (s := S1x7x128x512) (k0_off6 h) S1x1x128x512.size (k0_off6_inb h))
  (k0_pay17 a.1 v82 v88, k0_pay18 a.2.1 v82 v88, k0_pay21 a.1 a.2.2.1 v82 v88, k0_pay22 a.1 a.2.2.2 v82 v85 v88)

/-- The carry before trip `k` of the key loop, from `a`. -/
def upTo (i : grid0.Coords) (x3 : Vec F S1x7x128x512 .bf16) (x4 : Vec F S1x1x12288x128 .bf16) (x5 : Vec F S1x1x128x12288 .bf16)
    (h : Fin k0_t1_loop.trips) (a : Carry F) : ℕ → Carry F
  | 0 => a
  | k + 1 => if hk : k < (k0_t2_loop i).trips then next i x3 x4 x5 h ⟨k, hk⟩ (upTo i x3 x4 x5 h a k) else upTo i x3 x4 x5 h a k

theorem upTo_succ (i : grid0.Coords) (x3 : Vec F S1x7x128x512 .bf16) (x4 : Vec F S1x1x12288x128 .bf16) (x5 : Vec F S1x1x128x12288 .bf16)
    (h : Fin k0_t1_loop.trips) (a : Carry F) (k : Fin (k0_t2_loop i).trips) :
    upTo i x3 x4 x5 h a (k.val + 1) = next i x3 x4 x5 h k (upTo i x3 x4 x5 h a k.val) := by
  rw [upTo, dif_pos k.isLt]

/-- The carry of head `h` after all its key blocks. -/
def last (i : grid0.Coords) (x3 : Vec F S1x7x128x512 .bf16) (x4 : Vec F S1x1x12288x128 .bf16) (x5 : Vec F S1x1x128x12288 .bf16)
    (h : Fin k0_t1_loop.trips) : Carry F :=
  upTo i x3 x4 x5 h (start i x3 x4 x5 h) (k0_t2_loop i).trips

/-- The store of head `h` into the first output, -/
def piece6 (i : grid0.Coords) (x3 : Vec F S1x7x128x512 .bf16) (x4 : Vec F S1x1x12288x128 .bf16) (x5 : Vec F S1x1x128x12288 .bf16)
    (h : Fin k0_t1_loop.trips) : View.Piece (Elt F) S1x7x128x512 .f32 :=
  ⟨Rect.unit (s := S1x7x128x512) (k0_off3 h) S1x1x128x512.size (k0_off3_inb h),
    k0_pay31 (last i x3 x4 x5 h).2.2.1 (last i x3 x4 x5 h).2.2.2⟩

/-- into the second -/
def piece7 (i : grid0.Coords) (x3 : Vec F S1x7x128x512 .bf16) (x4 : Vec F S1x1x12288x128 .bf16) (x5 : Vec F S1x1x128x12288 .bf16)
    (h : Fin k0_t1_loop.trips) : View.Piece (Elt F) S1x1x7x512 .f32 :=
  ⟨Rect.unit (s := S1x1x7x512) (k0_off10 h) S1x1x1x512.size (k0_off10_inb h),
    k0_pay32 (last i x3 x4 x5 h).1 (last i x3 x4 x5 h).2.1⟩

/-- The row maxima of the output of head `h`. -/
@[irreducible] def row8 (i : grid0.Coords) (x3 : Vec F S1x7x128x512 .bf16) (x4 : Vec F S1x1x12288x128 .bf16) (x5 : Vec F S1x1x128x12288 .bf16)
    (h : Fin k0_t1_loop.trips) : Vec F S1x1x1x512 .f32 :=
  k0_pay1 (k0_pay33 (last i x3 x4 x5 h).2.2.1 (last i x3 x4 x5 h).2.2.2)

/-- and into the third. -/
def piece8 (i : grid0.Coords) (x3 : Vec F S1x7x128x512 .bf16) (x4 : Vec F S1x1x12288x128 .bf16) (x5 : Vec F S1x1x128x12288 .bf16)
    (h : Fin k0_t1_loop.trips) : View.Piece (Elt F) S1x1x7x512 .f32 :=
  ⟨Rect.unit (s := S1x1x7x512) (k0_off10 h) S1x1x1x512.size (k0_off10_inb h), row8 i x3 x4 x5 h⟩

/-- The pieces of the heads before `k`, the last one first. -/
def pieces {s : Shape} {e : EltTy} (p : Fin k0_t1_loop.trips → View.Piece (Elt F) s e) : ℕ → List (View.Piece (Elt F) s e)
  | 0 => []
  | k + 1 => if hk : k < k0_t1_loop.trips then p ⟨k, hk⟩ :: pieces p k else pieces p k

theorem pieces_succ {s : Shape} {e : EltTy} (p : Fin k0_t1_loop.trips → View.Piece (Elt F) s e) (k : Fin k0_t1_loop.trips) :
    pieces p (k.val + 1) = p k :: pieces p k.val := by
  rw [pieces, dif_pos k.isLt]

/-! ## The key loop -/

section Loops

variable (c : Dev nD) (i : grid0.Coords) (arg3 : Memref sig .tc .vmem S1x7x128x512 .bf16) (harg3 : arg3.IsWhole)
  (arg4 : Memref sig .tc .vmem S1x1x12288x128 .bf16) (harg4 : arg4.IsWhole) (arg5 : Memref sig .tc .vmem S1x1x128x12288 .bf16) (harg5 : arg5.IsWhole)
  (arg6 : Memref sig .tc .vmem S1x7x128x512 .f32) (harg6 : arg6.IsWhole) (arg7 : Memref sig .tc .vmem S1x1x7x512 .f32) (harg7 : arg7.IsWhole)
  (arg8 : Memref sig .tc .vmem S1x1x7x512 .f32) (harg8 : arg8.IsWhole) (arg2 : BitVec 32)

/-- The three input blocks, held at their contents. -/
abbrev Ins (X3 : BufTy.Contents (Elt F) arg3.view.ty) (X4 : BufTy.Contents (Elt F) arg4.view.ty) (X5 : BufTy.Contents (Elt F) arg5.view.ty) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5))

/-- One trip of the key loop. -/
theorem trip2 (E : Set ℕ) (h : Fin k0_t1_loop.trips) (arg9 : BitVec 32) (v3 : FVec F S1x512 .f32) (v4 : FVec F S128x512 .f32)
    (v12 : FVec F S128x512 .bf16) (v26 : FVec F S1x512 .f32) (v29 : FVec F S1x512 .f32) (v36 : FVec F S512x512 .f32) (v37 : FVec F S1x512 .f32)
    (cst_19 : F .f32) (X3 : BufTy.Contents (Elt F) arg3.view.ty) (X4 : BufTy.Contents (Elt F) arg4.view.ty) (X5 : BufTy.Contents (Elt F) arg5.view.ty)
    (k : Fin (k0_t2_loop i).trips) (acc : Carry F) :
    Ins c arg3 arg4 arg5 X3 X4 X5
      ⊢ wp frame (wpE (defs₀ (F := F)) Variants.none (c : Thread nD τ) none) E
          (k0_t2_body (F := F) i arg3 harg3 arg4 harg4 arg5 harg5 arg6 harg6 arg7 harg7 arg8 harg8 arg2 h arg9 v3 v4 v12 v26 v29 v36 v37 cst_19 k acc)
          (fun yld => iprop(⌜yld = next i (arg3.view.read (Elt F) X3) (arg4.view.read (Elt F) X4) (arg5.view.read (Elt F) X5) h k acc⌝
            ∗ Ins c arg3 arg4 arg5 X3 X4 X5)) := by
  unfold k0_t2_body
  iintro ⟨H3, H4, H5⟩
  sl_exec
  sl_step
  sl_close

/-- The key loop's invariant: before trip `k` the carry is `upTo … k`. -/
@[instance_reducible, sl_loop] def loop2 (E : Set ℕ) (h : Fin k0_t1_loop.trips) (arg9 : BitVec 32) (v3 : FVec F S1x512 .f32) (v4 : FVec F S128x512 .f32)
    (v12 : FVec F S128x512 .bf16) (v26 : FVec F S1x512 .f32) (v29 : FVec F S1x512 .f32) (v36 : FVec F S512x512 .f32) (v37 : FVec F S1x512 .f32)
    (cst_19 : F .f32) (X3 : BufTy.Contents (Elt F) arg3.view.ty) (X4 : BufTy.Contents (Elt F) arg4.view.ty) (X5 : BufTy.Contents (Elt F) arg5.view.ty)
    (init : Carry F) :
    Idealize.ShloMosaic.LoopInv (M := 𝕄) Idealize.ShloMosaic.frame (wpE (defs₀ (F := F)) Variants.none (c : Thread nD τ) none) E
      (k0_t2_loop i).lb (k0_t2_loop i).ub (k0_t2_loop i).st (k0_t2_ok i) init
      (k0_t2_body (F := F) i arg3 harg3 arg4 harg4 arg5 harg5 arg6 harg6 arg7 harg7 arg8 harg8 arg2 h arg9 v3 v4 v12 v26 v29 v36 v37 cst_19) where
  inv k acc := iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ ⌜acc = upTo i (arg3.view.read (Elt F) X3) (arg4.view.read (Elt F) X4) (arg5.view.read (Elt F) X5) h init k⌝)
  step k acc := by
    iintro ⟨H3, H4, H5, %ha⟩
    subst ha
    iapply (wp_wand_r Idealize.ShloMosaic.frame (wpE (defs₀ (F := F)) Variants.none (c : Thread nD τ) none) E)
    isplitl [H3 H4 H5]
    · iapply (trip2 c i arg3 harg3 arg4 harg4 arg5 harg5 arg6 harg6 arg7 harg7 arg8 harg8 arg2 E h arg9 v3 v4 v12 v26 v29 v36 v37 cst_19 X3 X4 X5 k
        (upTo i (arg3.view.read (Elt F) X3) (arg4.view.read (Elt F) X4) (arg5.view.read (Elt F) X5) h init k))
      isplitl [H3]; · iexact H3
      isplitl [H4]; · iexact H4
      iexact H5
    · iintro %yld ⟨%hy, H3, H4, H5⟩
      isplitl [H3]; · iexact H3
      isplitl [H4]; · iexact H4
      isplitl [H5]; · iexact H5
      ipureintro; rw [hy, upTo_succ]

/-- The remainder loop after the key loop takes no trip. -/
theorem no_trip3 (i : grid0.Coords) (k : Fin (k0_t3_loop i).trips) : False :=
  Scf.rem_no_trip _ _ k

/-- The remainder loop's invariant: the carry is the initial one. -/
@[instance_reducible, sl_loop] def loop3 (E : Set ℕ) (h : Fin k0_t1_loop.trips) (arg9 : BitVec 32) (v3 : FVec F S1x512 .f32) (v4 : FVec F S128x512 .f32)
    (v12 : FVec F S128x512 .bf16) (v26 : FVec F S1x512 .f32) (v29 : FVec F S1x512 .f32) (v36 : FVec F S512x512 .f32) (v37 : FVec F S1x512 .f32)
    (cst_19 : F .f32) (init : Carry F) :
    Idealize.ShloMosaic.LoopInv (M := 𝕄) Idealize.ShloMosaic.frame (wpE (defs₀ (F := F)) Variants.none (c : Thread nD τ) none) E
      (k0_t3_loop i).lb (k0_t3_loop i).ub (k0_t3_loop i).st (k0_t3_ok i) init
      (k0_t3_body (F := F) i arg3 harg3 arg4 harg4 arg5 harg5 arg6 harg6 arg7 harg7 arg8 harg8 arg2 h arg9 v3 v4 v12 v26 v29 v36 v37 cst_19) where
  inv _ acc := iprop(⌜acc = init⌝)
  step k _ := (no_trip3 i k).elim

/-! ## The head loop -/

/-- One trip of the head loop. -/
theorem trip1 (E : Set ℕ) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty)
    (h : Fin k0_t1_loop.trips) :
    (iprop((arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)) : sProp 𝕄)
      ⊢ wp frame (wpE (defs₀ (F := F)) Variants.none (c : Thread nD τ) none) E
          (k0_t1_body (F := F) i arg3 harg3 arg4 harg4 arg5 harg5 arg6 harg6 arg7 harg7 arg8 harg8 arg2 h ())
          (fun _ => iprop((arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare}
                arg6.view.writes (Elt F) f6 [piece6 i (arg3.view.read (Elt F) X3) (arg4.view.read (Elt F) X4) (arg5.view.read (Elt F) X5) h])
            ∗ (arg7.view.loc (c : Thread nD τ) ↦[arg7.view.set]{fullShare}
                arg7.view.writes (Elt F) f7 [piece7 i (arg3.view.read (Elt F) X3) (arg4.view.read (Elt F) X4) (arg5.view.read (Elt F) X5) h])
            ∗ (arg8.view.loc (c : Thread nD τ) ↦[arg8.view.set]{fullShare}
                arg8.view.writes (Elt F) f8 [piece8 i (arg3.view.read (Elt F) X3) (arg4.view.read (Elt F) X4) (arg5.view.read (Elt F) X5) h]))) := by
  unfold k0_t1_body
  iintro ⟨H3, H4, H5, H6, H7, H8⟩
  sl_exec
  sl_step
  unfold piece6 piece7 piece8 row8 last start qAt
  isplitl [H3]; · iexact H3
  isplitl [H4]; · iexact H4
  isplitl [H5]; · iexact H5
  isplitl [H6]; · iexact H6
  isplitl [H7]; · iexact H7
  iexact H8

/-- The head loop's invariant: before trip `k` each output holds the pieces of the heads before `k`. -/
@[instance_reducible, sl_loop] def loop1 (E : Set ℕ) (X3 : BufTy.Contents (Elt F) arg3.view.ty) (X4 : BufTy.Contents (Elt F) arg4.view.ty)
    (X5 : BufTy.Contents (Elt F) arg5.view.ty)
    (f6 : BufTy.Contents (Elt F) arg6.view.ty) (f7 : BufTy.Contents (Elt F) arg7.view.ty) (f8 : BufTy.Contents (Elt F) arg8.view.ty) :
    Idealize.ShloMosaic.LoopInv (M := 𝕄) Idealize.ShloMosaic.frame (wpE (defs₀ (F := F)) Variants.none (c : Thread nD τ) none) E
      k0_t1_loop.lb k0_t1_loop.ub k0_t1_loop.st k0_t1_ok ()
      (k0_t1_body (F := F) i arg3 harg3 arg4 harg4 arg5 harg5 arg6 harg6 arg7 harg7 arg8 harg8 arg2) where
  inv k _ := iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (∃ g6, (arg6.view.loc (c : Thread nD τ) ↦[arg6.view.set]{fullShare} g6)
        ∗ ⌜g6 = arg6.view.writes (Elt F) f6 (pieces (piece6 i (arg3.view.read (Elt F) X3) (arg4.view.read (Elt F) X4) (arg5.view.read (Elt F) X5)) k)⌝)
    ∗ (∃ g7, (arg7.view.loc (c : Thread nD τ) ↦[arg7.view.set]{fullShare} g7)
        ∗ ⌜g7 = arg7.view.writes (Elt F) f7 (pieces (piece7 i (arg3.view.read (Elt F) X3) (arg4.view.read (Elt F) X4) (arg5.view.read (Elt F) X5)) k)⌝)
    ∗ (∃ g8, (arg8.view.loc (c : Thread nD τ) ↦[arg8.view.set]{fullShare} g8)
        ∗ ⌜g8 = arg8.view.writes (Elt F) f8 (pieces (piece8 i (arg3.view.read (Elt F) X3) (arg4.view.read (Elt F) X4) (arg5.view.read (Elt F) X5)) k)⌝))
  step k acc := by
    iintro ⟨H3, H4, H5, ⟨%g6, H6, %h6⟩, ⟨%g7, H7, %h7⟩, ⟨%g8, H8, %h8⟩⟩
    subst h6 h7 h8
    iapply (wp_wand_r Idealize.ShloMosaic.frame (wpE (defs₀ (F := F)) Variants.none (c : Thread nD τ) none) E)
    isplitl [H3 H4 H5 H6 H7 H8]
    · iapply (trip1 c i arg3 harg3 arg4 harg4 arg5 harg5 arg6 harg6 arg7 harg7 arg8 harg8 arg2 E X3 X4 X5 _ _ _ k)
      isplitl [H3]; · iexact H3
      isplitl [H4]; · iexact H4
      isplitl [H5]; · iexact H5
      isplitl [H6]; · iexact H6
      isplitl [H7]; · iexact H7
      iexact H8
    · iintro %yld ⟨H3, H4, H5, H6, H7, H8⟩
      isplitl [H3]; · iexact H3
      isplitl [H4]; · iexact H4
      isplitl [H5]; · iexact H5
      isplitl [H6]
      · iexists _; isplitl [H6]; · iexact H6
        ipureintro; rw [pieces_succ, ← View.writes_append]; rfl
      isplitl [H7]
      · iexists _; isplitl [H7]; · iexact H7
        ipureintro; rw [pieces_succ, ← View.writes_append]; rfl
      iexists _; isplitl [H8]; · iexact H8
      ipureintro; rw [pieces_succ, ← View.writes_append]; rfl

end Loops

/-! ## What the output windows hold after the body -/

theorem trips1 : k0_t1_loop.trips = 7 := by decide

/-- Head `n` as a trip of the head loop. -/
abbrev hd (n : Fin 7) : Fin k0_t1_loop.trips := n.cast trips1.symm

/-- The first output window after the body: head `y 1`'s payload, -/
def out6 (i : grid0.Coords) (x3 : Vec F S1x7x128x512 .bf16) (x4 : Vec F S1x1x12288x128 .bf16) (x5 : Vec F S1x1x128x12288 .bf16) :
    Vec F S1x7x128x512 .f32 := fun y =>
  k0_pay31 (last i x3 x4 x5 (hd (y 1))).2.2.1 (last i x3 x4 x5 (hd (y 1))).2.2.2 (ix4 (n0 := 1) (n1 := 1) (n2 := 128) (n3 := 512) 0 0 (y 2) (y 3))

/-- the second, head `y 2`'s, -/
def out7 (i : grid0.Coords) (x3 : Vec F S1x7x128x512 .bf16) (x4 : Vec F S1x1x12288x128 .bf16) (x5 : Vec F S1x1x128x12288 .bf16) :
    Vec F S1x1x7x512 .f32 := fun y =>
  k0_pay32 (last i x3 x4 x5 (hd (y 2))).1 (last i x3 x4 x5 (hd (y 2))).2.1 (ix4 (n0 := 1) (n1 := 1) (n2 := 1) (n3 := 512) 0 0 0 (y 3))

/-- and the third. -/
def out8 (i : grid0.Coords) (x3 : Vec F S1x7x128x512 .bf16) (x4 : Vec F S1x1x12288x128 .bf16) (x5 : Vec F S1x1x128x12288 .bf16) :
    Vec F S1x1x7x512 .f32 := fun y =>
  row8 i x3 x4 x5 (hd (y 2)) (ix4 (n0 := 1) (n1 := 1) (n2 := 1) (n3 := 512) 0 0 0 (y 3))

theorem mem_pieces {s : Shape} {e : EltTy} (p : Fin k0_t1_loop.trips → View.Piece (Elt F) s e) :
    ∀ (n : ℕ) (q : View.Piece (Elt F) s e), q ∈ pieces p n ↔ ∃ h : Fin k0_t1_loop.trips, h.val < n ∧ q = p h
  | 0, q => by simp [pieces]
  | n + 1, q => by
    rw [pieces]
    split
    · rename_i hk
      rw [List.mem_cons, mem_pieces p n]
      constructor
      · rintro (rfl | ⟨h, hlt, rfl⟩)
        · exact ⟨⟨n, hk⟩, Nat.lt_succ_self n, rfl⟩
        · exact ⟨h, Nat.lt_succ_of_lt hlt, rfl⟩
      · rintro ⟨h, hlt, rfl⟩
        rcases Nat.lt_succ_iff_lt_or_eq.mp hlt with h1 | h1
        · exact .inr ⟨h, h1, rfl⟩
        · left; congr 1; exact Fin.ext h1
    · rename_i hk
      rw [mem_pieces p n]
      constructor
      · rintro ⟨h, hlt, rfl⟩; exact ⟨h, Nat.lt_succ_of_lt hlt, rfl⟩
      · rintro ⟨h, hlt, rfl⟩; exact ⟨h, by have := h.isLt; omega, rfl⟩

theorem off3_eq : ∀ h : Fin k0_t1_loop.trips, k0_off3 h = ![0, h.val, 0, 0] := by decide +kernel
theorem off10_eq : ∀ h : Fin k0_t1_loop.trips, k0_off10 h = ![0, 0, h.val, 0] := by decide +kernel

theorem emb3 (h : Fin k0_t1_loop.trips) (x : S1x1x128x512.Idx) :
    (Rect.unit (s := S1x7x128x512) (k0_off3 h) S1x1x128x512.size (k0_off3_inb h)).emb x
      = ix4 (n0 := 1) (n1 := 7) (n2 := 128) (n3 := 512) 0 (h.cast trips1) (x 2) (x 3) := by
  refine Rect.emb_eq_of_coords _ _ _ fun a => ?_
  have h0 : (x 0).val < 1 := (x 0).isLt
  have h1 : (x 1).val < 1 := (x 1).isLt
  match a with
  | ⟨0, _⟩ => show 0 = k0_off3 h 0 + 1 * (x 0).val; rw [off3_eq]; show 0 = 0 + 1 * (x 0).val; omega
  | ⟨1, _⟩ => show h.val = k0_off3 h 1 + 1 * (x 1).val; rw [off3_eq]; show h.val = h.val + 1 * (x 1).val; omega
  | ⟨2, _⟩ => show (x 2).val = k0_off3 h 2 + 1 * (x 2).val; rw [off3_eq]; show (x 2).val = 0 + 1 * (x 2).val; omega
  | ⟨3, _⟩ => show (x 3).val = k0_off3 h 3 + 1 * (x 3).val; rw [off3_eq]; show (x 3).val = 0 + 1 * (x 3).val; omega

theorem emb10 (h : Fin k0_t1_loop.trips) (x : S1x1x1x512.Idx) :
    (Rect.unit (s := S1x1x7x512) (k0_off10 h) S1x1x1x512.size (k0_off10_inb h)).emb x
      = ix4 (n0 := 1) (n1 := 1) (n2 := 7) (n3 := 512) 0 0 (h.cast trips1) (x 3) := by
  refine Rect.emb_eq_of_coords _ _ _ fun a => ?_
  have h0 : (x 0).val < 1 := (x 0).isLt
  have h1 : (x 1).val < 1 := (x 1).isLt
  have h2 : (x 2).val < 1 := (x 2).isLt
  match a with
  | ⟨0, _⟩ => show 0 = k0_off10 h 0 + 1 * (x 0).val; rw [off10_eq]; show 0 = 0 + 1 * (x 0).val; omega
  | ⟨1, _⟩ => show 0 = k0_off10 h 1 + 1 * (x 1).val; rw [off10_eq]; show 0 = 0 + 1 * (x 1).val; omega
  | ⟨2, _⟩ => show h.val = k0_off10 h 2 + 1 * (x 2).val; rw [off10_eq]; show h.val = h.val + 1 * (x 2).val; omega
  | ⟨3, _⟩ => show (x 3).val = k0_off10 h 3 + 1 * (x 3).val; rw [off10_eq]; show (x 3).val = 0 + 1 * (x 3).val; omega

theorem idx_S1x1x128x512 (x : S1x1x128x512.Idx) : x = ix4 (n0 := 1) (n1 := 1) (n2 := 128) (n3 := 512) 0 0 (x 2) (x 3) := by
  have h0 : x 0 = (0 : Fin 1) := Subsingleton.elim (α := Fin 1) _ _
  have h1 : x 1 = (0 : Fin 1) := Subsingleton.elim (α := Fin 1) _ _
  exact (eq_ix4 (n0 := 1) (n1 := 1) (n2 := 128) (n3 := 512) x).trans (by rw [h0, h1]; rfl)

theorem idx_S1x1x1x512 (x : S1x1x1x512.Idx) : x = ix4 (n0 := 1) (n1 := 1) (n2 := 1) (n3 := 512) 0 0 0 (x 3) := by
  have h0 : x 0 = (0 : Fin 1) := Subsingleton.elim (α := Fin 1) _ _
  have h1 : x 1 = (0 : Fin 1) := Subsingleton.elim (α := Fin 1) _ _
  have h2 : x 2 = (0 : Fin 1) := Subsingleton.elim (α := Fin 1) _ _
  exact (eq_ix4 (n0 := 1) (n1 := 1) (n2 := 1) (n3 := 512) x).trans (by rw [h0, h1, h2]; rfl)

theorem mem_of_emb {s : Shape} (r : Rect s) (x : r.shape.Idx) (y : s.Idx) (h : r.emb x = y) : y ∈ r.set := by
  rw [← h]; exact LoadRect.idx_mem _ _

section Reads

variable {κ : Kind} {sp : Space} (i : grid0.Coords) (x3 : Vec F S1x7x128x512 .bf16) (x4 : Vec F S1x1x12288x128 .bf16) (x5 : Vec F S1x1x128x12288 .bf16)

/-- All seven heads written, the first window reads `out6`, -/
theorem read6 (v : View sig κ sp S1x7x128x512 .f32) (f : v.ty.Contents (Elt F)) :
    v.read (Elt F) (v.writes (Elt F) f (pieces (piece6 i x3 x4 x5) k0_t1_loop.trips)) = out6 i x3 x4 x5 := by
  funext y
  refine View.read_writes_apply_of_pieces v f (out6 i x3 x4 x5) _ ?_ y ?_
  · intro p hp
    obtain ⟨h, -, rfl⟩ := (mem_pieces _ _ _).mp hp
    intro x
    have e := emb3 h x
    show k0_pay31 _ _ x = out6 i x3 x4 x5 ((Rect.unit (s := S1x7x128x512) (k0_off3 h) S1x1x128x512.size (k0_off3_inb h)).emb x)
    rw [e]
    exact congrArg _ (idx_S1x1x128x512 x)
  · have h1 : (y 1).val < 7 := (y 1).isLt
    refine ⟨piece6 i x3 x4 x5 (hd (y 1)), (mem_pieces _ _ _).mpr ⟨hd (y 1), lt_of_lt_of_eq h1 trips1.symm, rfl⟩, ?_⟩
    have e := emb3 (hd (y 1)) (ix4 (n0 := 1) (n1 := 1) (n2 := 128) (n3 := 512) 0 0 (y 2) (y 3))
    have h0 : y 0 = (0 : Fin 1) := Subsingleton.elim (α := Fin 1) _ _
    have ey : y = ix4 (n0 := 1) (n1 := 7) (n2 := 128) (n3 := 512) 0 (y 1) (y 2) (y 3) :=
      (eq_ix4 (n0 := 1) (n1 := 7) (n2 := 128) (n3 := 512) y).trans (by rw [h0]; rfl)
    exact mem_of_emb _ _ _ (e.trans ey.symm)

/-- the second `out7` -/
theorem read7 (v : View sig κ sp S1x1x7x512 .f32) (f : v.ty.Contents (Elt F)) :
    v.read (Elt F) (v.writes (Elt F) f (pieces (piece7 i x3 x4 x5) k0_t1_loop.trips)) = out7 i x3 x4 x5 := by
  funext y
  refine View.read_writes_apply_of_pieces v f (out7 i x3 x4 x5) _ ?_ y ?_
  · intro p hp
    obtain ⟨h, -, rfl⟩ := (mem_pieces _ _ _).mp hp
    intro x
    have e := emb10 h x
    show k0_pay32 _ _ x = out7 i x3 x4 x5 ((Rect.unit (s := S1x1x7x512) (k0_off10 h) S1x1x1x512.size (k0_off10_inb h)).emb x)
    rw [e]
    exact congrArg _ (idx_S1x1x1x512 x)
  · have h1 : (y 2).val < 7 := (y 2).isLt
    refine ⟨piece7 i x3 x4 x5 (hd (y 2)), (mem_pieces _ _ _).mpr ⟨hd (y 2), lt_of_lt_of_eq h1 trips1.symm, rfl⟩, ?_⟩
    have e := emb10 (hd (y 2)) (ix4 (n0 := 1) (n1 := 1) (n2 := 1) (n3 := 512) 0 0 0 (y 3))
    have h0 : y 0 = (0 : Fin 1) := Subsingleton.elim (α := Fin 1) _ _
    have h0' : y 1 = (0 : Fin 1) := Subsingleton.elim (α := Fin 1) _ _
    have ey : y = ix4 (n0 := 1) (n1 := 1) (n2 := 7) (n3 := 512) 0 0 (y 2) (y 3) :=
      (eq_ix4 (n0 := 1) (n1 := 1) (n2 := 7) (n3 := 512) y).trans (by rw [h0, h0']; rfl)
    exact mem_of_emb _ _ _ (e.trans ey.symm)

/-- and the third `out8`. -/
theorem read8 (v : View sig κ sp S1x1x7x512 .f32) (f : v.ty.Contents (Elt F)) :
    v.read (Elt F) (v.writes (Elt F) f (pieces (piece8 i x3 x4 x5) k0_t1_loop.trips)) = out8 i x3 x4 x5 := by
  funext y
  refine View.read_writes_apply_of_pieces v f (out8 i x3 x4 x5) _ ?_ y ?_
  · intro p hp
    obtain ⟨h, -, rfl⟩ := (mem_pieces _ _ _).mp hp
    intro x
    refine Eq.trans ?_ (congrArg (out8 i x3 x4 x5) (emb10 h x)).symm
    have e1 : (piece8 i x3 x4 x5 h).2 x = row8 i x3 x4 x5 h x := rfl
    have e2 : out8 i x3 x4 x5 (ix4 (n0 := 1) (n1 := 1) (n2 := 7) (n3 := 512) 0 0 (h.cast trips1) (x 3)) = row8 i x3 x4 x5 h (ix4 (n0 := 1) (n1 := 1) (n2 := 1) (n3 := 512) 0 0 0 (x 3)) := rfl
    rw [e2]
    refine e1.trans ?_
    exact congrArg (row8 i x3 x4 x5 h) (idx_S1x1x1x512 x)
  · have h1 : (y 2).val < 7 := (y 2).isLt
    refine ⟨piece8 i x3 x4 x5 (hd (y 2)), (mem_pieces _ _ _).mpr ⟨hd (y 2), lt_of_lt_of_eq h1 trips1.symm, rfl⟩, ?_⟩
    have e := emb10 (hd (y 2)) (ix4 (n0 := 1) (n1 := 1) (n2 := 1) (n3 := 512) 0 0 0 (y 3))
    have h0 : y 0 = (0 : Fin 1) := Subsingleton.elim (α := Fin 1) _ _
    have h0' : y 1 = (0 : Fin 1) := Subsingleton.elim (α := Fin 1) _ _
    have ey : y = ix4 (n0 := 1) (n1 := 1) (n2 := 7) (n3 := 512) 0 0 (y 2) (y 3) :=
      (eq_ix4 (n0 := 1) (n1 := 1) (n2 := 7) (n3 := 512) y).trans (by rw [h0, h0']; rfl)
    exact mem_of_emb _ _ _ (e.trans ey.symm)

end Reads

/-! ## The body's triple -/

/-- The body at a grid point, from input blocks at `x3`, `x4`, `x5`, leaves the output windows at `out6`, `out7`, `out8`. -/
theorem sound_kernel (c : Dev nD) (E : Set ℕ) (i : grid0.Coords) (arg3 : Memref sig .tc .vmem S1x7x128x512 .bf16) (harg3 : arg3.IsWhole)
    (arg4 : Memref sig .tc .vmem S1x1x12288x128 .bf16) (harg4 : arg4.IsWhole) (arg5 : Memref sig .tc .vmem S1x1x128x12288 .bf16) (harg5 : arg5.IsWhole)
    (arg6 : Memref sig .tc .vmem S1x7x128x512 .f32) (harg6 : arg6.IsWhole) (arg7 : Memref sig .tc .vmem S1x1x7x512 .f32) (harg7 : arg7.IsWhole)
    (arg8 : Memref sig .tc .vmem S1x1x7x512 .f32) (harg8 : arg8.IsWhole)
    (x3 : Vec F S1x7x128x512 .bf16) (x4 : Vec F S1x1x12288x128 .bf16) (x5 : Vec F S1x1x128x12288 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (out6 i x3 x4 x5) ∗ owns (c : Thread nD τ) arg7 fullShare (out7 i x3 x4 x5)
            ∗ owns (c : Thread nD τ) arg8 fullShare (out8 i x3 x4 x5)) -∗ K ⟨⟩))
      ⊢ wp frame (wpE (defs₀ (F := F)) Variants.none (c : Thread nD τ) none) E
          (cc0_attn i arg3 harg3 arg4 harg4 arg5 harg5 arg6 harg6 arg7 harg7 arg8 harg8) K := by
  simp only [cc0_attn_eq_skeleton]; unfold cc0_attn_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf3 hf4 hf5
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read6 i _ _ _ _ _
  isplitl [H7]
  · iexists _; isplitr
    swap; · iexact H7
    ipureintro
    exact read7 i _ _ _ _ _
  iexists _; isplitr
  swap; · iexact H8
  ipureintro
  exact read8 i _ _ _ _ _

/-! ## The proof data and the run -/

variable (m : (ℓ : Loc nD τ sig) → Buf (Elt F) ℓ) (ρ : Dev nD → PrngReg)

/-- The proof data: each input window at its block, each output window at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out6 (grid0.coords t) (iblk m c 0 t) (iblk m c 1 t) (iblk m c 2 t)
    | ⟨4, _⟩ => out7 (grid0.coords t) (iblk m c 0 t) (iblk m c 1 t) (iblk m c 2 t)
    | ⟨5, _⟩ => out8 (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out6 (grid0.coords t) (iblk m c 0 t) (iblk m c 1 t) (iblk m c 2 t) := by dsimp only [dats]
theorem after0_4 (c : Dev nD) (t : Fin cfg0.N) :
    (dats m 0 c).after 4 t = out7 (grid0.coords t) (iblk m c 0 t) (iblk m c 1 t) (iblk m c 2 t) := by dsimp only [dats]
theorem after0_5 (c : Dev nD) (t : Fin cfg0.N) :
    (dats m 0 c).after 5 t = out8 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

set_option backward.isDefEq.respectTransparency.types false in
set_option maxHeartbeats 800000 in
/-- The launch: every array of the pipeline ends at what the proof data say, every other buffer as launched, every
    counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.Kernel.Body

end
-- ==== Proof.BodyIdeal.lean ====
/- The kernel body at one grid point, run through its loops over the heads and over the key blocks: what each output
   window holds afterwards, as a function of the input blocks, and the run of the whole program from it. -/
module

public import proofs.«01_k».proof.Proof.Gen.KernelIdeal.Frame
public import proofs.«01_k».proof.Proof.Gen.KernelIdeal.Skeleton
public import Idealize.ShloMosaic.Lib.LoopRemainder
public import Idealize.ShloMosaic.Lib.Exec
public import Idealize.ShloMosaic.Lib.ValueIdxCoords
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.ValueIdx (ix4 eq_ix4)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes -/

/-- What the key loop carries: the running maximum and minimum of the scores, the sum of the weights and the weighted
    sum of the values. -/
abbrev Carry (F : FTy → Type) : Type := FVec F S1x512 .f32 × FVec F S1x512 .f32 × FVec F S1x512 .f32 × FVec F S128x512 .f32

/-- The query rows of head `h`. -/
def qAt (x3 : Vec F S1x7x128x512 .bf16) (h : Fin k0_t1_loop.trips) : Vec F S1x1x128x512 .bf16 :=
  View.ld x3 (Rect.unit (s := S1x7x128x512) (k0_off3 h) S1x1x128x512.size (k0_off3_inb h))

/-- The carry after the diagonal key block. -/
def start (i : grid0.Coords) (x3 : Vec F S1x7x128x512 .bf16) (x4 : Vec F S1x1x12288x128 .bf16) (x5 : Vec F S1x1x128x12288 .bf16)
    (h : Fin k0_t1_loop.trips) : Carry F :=
  let v8 : Vec F S1x1x512x128 .bf16 := View.ld x4 (Rect.unit (s := S1x1x12288x128) (k0_off1 i) S1x1x512x128.size (k0_off1_inb i))
  let v11 : Vec F S1x1x128x512 .bf16 := View.ld x5 (Rect.unit (s := S1x1x128x12288) (k0_off2 i) S1x1x128x512.size (k0_off2_inb i))
  let v14 : Vec F S1x1x128x512 .bf16 := qAt x3 h
  (k0_pay9 v8 v14, k0_pay10 v8 v14,
    k0_pay14 k0_pay3 (k0_pay11 v8 v14) (k0_pay12 v8 v14) (Named.named κ "scale_log2e" 0x3E0293EE#32),
    k0_pay15 k0_pay4 (k0_pay5 v11) (k0_pay11 v8 v14) (k0_pay12 v8 v14) (Named.named κ "scale_log2e" 0x3E0293EE#32))

/-- One earlier key block taken into the carry. -/
def next (i : grid0.Coords) (x3 : Vec F S1x7x128x512 .bf16) (x4 : Vec F S1x1x12288x128 .bf16) (x5 : Vec F S1x1x128x12288 .bf16)
    (h : Fin k0_t1_loop.trips) (k : Fin (k0_t2_loop i).trips) (a : Carry F) : Carry F :=
  let v82 : Vec F S1x1x512x128 .bf16 := View.ld x4 (Rect.unit (s := S1x1x12288x128) (k0_off4 i k) S1x1x512x128.size (k0_off4_inb i k))
  let v85 : Vec F S1x1x128x512 .bf16 := View.ld x5 (Rect.unit (s := S1x1x128x12288) (k0_off5 i k) S1x1x128x512.size (k0_off5_inb i k))
  let v88 : Vec F S1x1x128x512 .bf16 := View.ld x3 (Rect.unit (s := S1x7x128x512) (k0_off6 h) S1x1x128x512.size (k0_off6_inb h))
  (k0_pay17 a.1 v82 v88, k0_pay18 a.2.1 v82 v88, k0_pay21 a.1 a.2.2.1 v82 v88, k0_pay22 a.1 a.2.2.2 v82 v85 v88)

/-- The carry before trip `k` of the key loop, from `a`. -/
def upTo (i : grid0.Coords) (x3 : Vec F S1x7x128x512 .bf16) (x4 : Vec F S1x1x12288x128 .bf16) (x5 : Vec F S1x1x128x12288 .bf16)
    (h : Fin k0_t1_loop.trips) (a : Carry F) : ℕ → Carry F
  | 0 => a
  | k + 1 => if hk : k < (k0_t2_loop i).trips then next i x3 x4 x5 h ⟨k, hk⟩ (upTo i x3 x4 x5 h a k) else upTo i x3 x4 x5 h a k

theorem upTo_succ (i : grid0.Coords) (x3 : Vec F S1x7x128x512 .bf16) (x4 : Vec F S1x1x12288x128 .bf16) (x5 : Vec F S1x1x128x12288 .bf16)
    (h : Fin k0_t1_loop.trips) (a : Carry F) (k : Fin (k0_t2_loop i).trips) :
    upTo i x3 x4 x5 h a (k.val + 1) = next i x3 x4 x5 h k (upTo i x3 x4 x5 h a k.val) := by
  rw [upTo, dif_pos k.isLt]

/-- The carry of head `h` after all its key blocks. -/
def last (i : grid0.Coords) (x3 : Vec F S1x7x128x512 .bf16) (x4 : Vec F S1x1x12288x128 .bf16) (x5 : Vec F S1x1x128x12288 .bf16)
    (h : Fin k0_t1_loop.trips) : Carry F :=
  upTo i x3 x4 x5 h (start i x3 x4 x5 h) (k0_t2_loop i).trips

/-- The store of head `h` into the first output, -/
def piece6 (i : grid0.Coords) (x3 : Vec F S1x7x128x512 .bf16) (x4 : Vec F S1x1x12288x128 .bf16) (x5 : Vec F S1x1x128x12288 .bf16)
    (h : Fin k0_t1_loop.trips) : View.Piece (Elt F) S1x7x128x512 .f32 :=
  ⟨Rect.unit (s := S1x7x128x512) (k0_off3 h) S1x1x128x512.size (k0_off3_inb h),
    k0_pay31 (last i x3 x4 x5 h).2.2.1 (last i x3 x4 x5 h).2.2.2⟩

/-- into the second -/
def piece7 (i : grid0.Coords) (x3 : Vec F S1x7x128x512 .bf16) (x4 : Vec F S1x1x12288x128 .bf16) (x5 : Vec F S1x1x128x12288 .bf16)
    (h : Fin k0_t1_loop.trips) : View.Piece (Elt F) S1x1x7x512 .f32 :=
  ⟨Rect.unit (s := S1x1x7x512) (k0_off10 h) S1x1x1x512.size (k0_off10_inb h),
    k0_pay32 (last i x3 x4 x5 h).1 (last i x3 x4 x5 h).2.1⟩

/-- The row maxima of the output of head `h`. -/
@[irreducible] def row8 (i : grid0.Coords) (x3 : Vec F S1x7x128x512 .bf16) (x4 : Vec F S1x1x12288x128 .bf16) (x5 : Vec F S1x1x128x12288 .bf16)
    (h : Fin k0_t1_loop.trips) : Vec F S1x1x1x512 .f32 :=
  k0_pay1 (k0_pay33 (last i x3 x4 x5 h).2.2.1 (last i x3 x4 x5 h).2.2.2)

/-- and into the third. -/
def piece8 (i : grid0.Coords) (x3 : Vec F S1x7x128x512 .bf16) (x4 : Vec F S1x1x12288x128 .bf16) (x5 : Vec F S1x1x128x12288 .bf16)
    (h : Fin k0_t1_loop.trips) : View.Piece (Elt F) S1x1x7x512 .f32 :=
  ⟨Rect.unit (s := S1x1x7x512) (k0_off10 h) S1x1x1x512.size (k0_off10_inb h), row8 i x3 x4 x5 h⟩

/-- The pieces of the heads before `k`, the last one first. -/
def pieces {s : Shape} {e : EltTy} (p : Fin k0_t1_loop.trips → View.Piece (Elt F) s e) : ℕ → List (View.Piece (Elt F) s e)
  | 0 => []
  | k + 1 => if hk : k < k0_t1_loop.trips then p ⟨k, hk⟩ :: pieces p k else pieces p k

theorem pieces_succ {s : Shape} {e : EltTy} (p : Fin k0_t1_loop.trips → View.Piece (Elt F) s e) (k : Fin k0_t1_loop.trips) :
    pieces p (k.val + 1) = p k :: pieces p k.val := by
  rw [pieces, dif_pos k.isLt]

/-! ## The key loop -/

section Loops

variable (c : Dev nD) (i : grid0.Coords) (arg3 : Memref sig .tc .vmem S1x7x128x512 .bf16) (harg3 : arg3.IsWhole)
  (arg4 : Memref sig .tc .vmem S1x1x12288x128 .bf16) (harg4 : arg4.IsWhole) (arg5 : Memref sig .tc .vmem S1x1x128x12288 .bf16) (harg5 : arg5.IsWhole)
  (arg6 : Memref sig .tc .vmem S1x7x128x512 .f32) (harg6 : arg6.IsWhole) (arg7 : Memref sig .tc .vmem S1x1x7x512 .f32) (harg7 : arg7.IsWhole)
  (arg8 : Memref sig .tc .vmem S1x1x7x512 .f32) (harg8 : arg8.IsWhole) (arg2 : BitVec 32)

/-- The three input blocks, held at their contents. -/
abbrev Ins (X3 : BufTy.Contents (Elt F) arg3.view.ty) (X4 : BufTy.Contents (Elt F) arg4.view.ty) (X5 : BufTy.Contents (Elt F) arg5.view.ty) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5))

/-- One trip of the key loop. -/
theorem trip2 (E : Set ℕ) (h : Fin k0_t1_loop.trips) (arg9 : BitVec 32) (v3 : FVec F S1x512 .f32) (v4 : FVec F S128x512 .f32)
    (v12 : FVec F S128x512 .bf16) (v26 : FVec F S1x512 .f32) (v29 : FVec F S1x512 .f32) (v36 : FVec F S512x512 .f32) (v37 : FVec F S1x512 .f32)
    (cst_19 : F .f32) (X3 : BufTy.Contents (Elt F) arg3.view.ty) (X4 : BufTy.Contents (Elt F) arg4.view.ty) (X5 : BufTy.Contents (Elt F) arg5.view.ty)
    (k : Fin (k0_t2_loop i).trips) (acc : Carry F) :
    Ins c arg3 arg4 arg5 X3 X4 X5
      ⊢ wp frame (wpE (defs₀ (F := F)) Variants.none (c : Thread nD τ) none) E
          (k0_t2_body (F := F) i arg3 harg3 arg4 harg4 arg5 harg5 arg6 harg6 arg7 harg7 arg8 harg8 arg2 h arg9 v3 v4 v12 v26 v29 v36 v37 cst_19 k acc)
          (fun yld => iprop(⌜yld = next i (arg3.view.read (Elt F) X3) (arg4.view.read (Elt F) X4) (arg5.view.read (Elt F) X5) h k acc⌝
            ∗ Ins c arg3 arg4 arg5 X3 X4 X5)) := by
  unfold k0_t2_body
  iintro ⟨H3, H4, H5⟩
  sl_exec
  sl_step
  sl_close

/-- The key loop's invariant: before trip `k` the carry is `upTo … k`. -/
@[instance_reducible, sl_loop] def loop2 (E : Set ℕ) (h : Fin k0_t1_loop.trips) (arg9 : BitVec 32) (v3 : FVec F S1x512 .f32) (v4 : FVec F S128x512 .f32)
    (v12 : FVec F S128x512 .bf16) (v26 : FVec F S1x512 .f32) (v29 : FVec F S1x512 .f32) (v36 : FVec F S512x512 .f32) (v37 : FVec F S1x512 .f32)
    (cst_19 : F .f32) (X3 : BufTy.Contents (Elt F) arg3.view.ty) (X4 : BufTy.Contents (Elt F) arg4.view.ty) (X5 : BufTy.Contents (Elt F) arg5.view.ty)
    (init : Carry F) :
    Idealize.ShloMosaic.LoopInv (M := 𝕄) Idealize.ShloMosaic.frame (wpE (defs₀ (F := F)) Variants.none (c : Thread nD τ) none) E
      (k0_t2_loop i).lb (k0_t2_loop i).ub (k0_t2_loop i).st (k0_t2_ok i) init
      (k0_t2_body (F := F) i arg3 harg3 arg4 harg4 arg5 harg5 arg6 harg6 arg7 harg7 arg8 harg8 arg2 h arg9 v3 v4 v12 v26 v29 v36 v37 cst_19) where
  inv k acc := iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ ⌜acc = upTo i (arg3.view.read (Elt F) X3) (arg4.view.read (Elt F) X4) (arg5.view.read (Elt F) X5) h init k⌝)
  step k acc := by
    iintro ⟨H3, H4, H5, %ha⟩
    subst ha
    iapply (wp_wand_r Idealize.ShloMosaic.frame (wpE (defs₀ (F := F)) Variants.none (c : Thread nD τ) none) E)
    isplitl [H3 H4 H5]
    · iapply (trip2 c i arg3 harg3 arg4 harg4 arg5 harg5 arg6 harg6 arg7 harg7 arg8 harg8 arg2 E h arg9 v3 v4 v12 v26 v29 v36 v37 cst_19 X3 X4 X5 k
        (upTo i (arg3.view.read (Elt F) X3) (arg4.view.read (Elt F) X4) (arg5.view.read (Elt F) X5) h init k))
      isplitl [H3]; · iexact H3
      isplitl [H4]; · iexact H4
      iexact H5
    · iintro %yld ⟨%hy, H3, H4, H5⟩
      isplitl [H3]; · iexact H3
      isplitl [H4]; · iexact H4
      isplitl [H5]; · iexact H5
      ipureintro; rw [hy, upTo_succ]

/-- The remainder loop after the key loop takes no trip. -/
theorem no_trip3 (i : grid0.Coords) (k : Fin (k0_t3_loop i).trips) : False :=
  Scf.rem_no_trip _ _ k

/-- The remainder loop's invariant: the carry is the initial one. -/
@[instance_reducible, sl_loop] def loop3 (E : Set ℕ) (h : Fin k0_t1_loop.trips) (arg9 : BitVec 32) (v3 : FVec F S1x512 .f32) (v4 : FVec F S128x512 .f32)
    (v12 : FVec F S128x512 .bf16) (v26 : FVec F S1x512 .f32) (v29 : FVec F S1x512 .f32) (v36 : FVec F S512x512 .f32) (v37 : FVec F S1x512 .f32)
    (cst_19 : F .f32) (init : Carry F) :
    Idealize.ShloMosaic.LoopInv (M := 𝕄) Idealize.ShloMosaic.frame (wpE (defs₀ (F := F)) Variants.none (c : Thread nD τ) none) E
      (k0_t3_loop i).lb (k0_t3_loop i).ub (k0_t3_loop i).st (k0_t3_ok i) init
      (k0_t3_body (F := F) i arg3 harg3 arg4 harg4 arg5 harg5 arg6 harg6 arg7 harg7 arg8 harg8 arg2 h arg9 v3 v4 v12 v26 v29 v36 v37 cst_19) where
  inv _ acc := iprop(⌜acc = init⌝)
  step k _ := (no_trip3 i k).elim

/-! ## The head loop -/

/-- One trip of the head loop. -/
theorem trip1 (E : Set ℕ) (X3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty)
    (h : Fin k0_t1_loop.trips) :
    (iprop((arg3.view.loc (c : Thread nD τ) ↦[arg3.view.set]{fullShare} X3) ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)) : sProp 𝕄)
      ⊢ wp frame (wpE (defs₀ (F := F)) Variants.none (c : Thread nD τ) none) E
          (k0_t1_body (F := F) i arg3 harg3 arg4 harg4 arg5 harg5 arg6 harg6 arg7 harg7 arg8 harg8 arg2 h ())
          (fun _ => iprop((arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare}
                arg6.view.writes (Elt F) f6 [piece6 i (arg3.view.read (Elt F) X3) (arg4.view.read (Elt F) X4) (arg5.view.read (Elt F) X5) h])
            ∗ (arg7.view.loc (c : Thread nD τ) ↦[arg7.view.set]{fullShare}
                arg7.view.writes (Elt F) f7 [piece7 i (arg3.view.read (Elt F) X3) (arg4.view.read (Elt F) X4) (arg5.view.read (Elt F) X5) h])
            ∗ (arg8.view.loc (c : Thread nD τ) ↦[arg8.view.set]{fullShare}
                arg8.view.writes (Elt F) f8 [piece8 i (arg3.view.read (Elt F) X3) (arg4.view.read (Elt F) X4) (arg5.view.read (Elt F) X5) h]))) := by
  unfold k0_t1_body
  iintro ⟨H3, H4, H5, H6, H7, H8⟩
  sl_exec
  sl_step
  unfold piece6 piece7 piece8 row8 last start qAt
  isplitl [H3]; · iexact H3
  isplitl [H4]; · iexact H4
  isplitl [H5]; · iexact H5
  isplitl [H6]; · iexact H6
  isplitl [H7]; · iexact H7
  iexact H8

/-- The head loop's invariant: before trip `k` each output holds the pieces of the heads before `k`. -/
@[instance_reducible, sl_loop] def loop1 (E : Set ℕ) (X3 : BufTy.Contents (Elt F) arg3.view.ty) (X4 : BufTy.Contents (Elt F) arg4.view.ty)
    (X5 : BufTy.Contents (Elt F) arg5.view.ty)
    (f6 : BufTy.Contents (Elt F) arg6.view.ty) (f7 : BufTy.Contents (Elt F) arg7.view.ty) (f8 : BufTy.Contents (Elt F) arg8.view.ty) :
    Idealize.ShloMosaic.LoopInv (M := 𝕄) Idealize.ShloMosaic.frame (wpE (defs₀ (F := F)) Variants.none (c : Thread nD τ) none) E
      k0_t1_loop.lb k0_t1_loop.ub k0_t1_loop.st k0_t1_ok ()
      (k0_t1_body (F := F) i arg3 harg3 arg4 harg4 arg5 harg5 arg6 harg6 arg7 harg7 arg8 harg8 arg2) where
  inv k _ := iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (∃ g6, (arg6.view.loc (c : Thread nD τ) ↦[arg6.view.set]{fullShare} g6)
        ∗ ⌜g6 = arg6.view.writes (Elt F) f6 (pieces (piece6 i (arg3.view.read (Elt F) X3) (arg4.view.read (Elt F) X4) (arg5.view.read (Elt F) X5)) k)⌝)
    ∗ (∃ g7, (arg7.view.loc (c : Thread nD τ) ↦[arg7.view.set]{fullShare} g7)
        ∗ ⌜g7 = arg7.view.writes (Elt F) f7 (pieces (piece7 i (arg3.view.read (Elt F) X3) (arg4.view.read (Elt F) X4) (arg5.view.read (Elt F) X5)) k)⌝)
    ∗ (∃ g8, (arg8.view.loc (c : Thread nD τ) ↦[arg8.view.set]{fullShare} g8)
        ∗ ⌜g8 = arg8.view.writes (Elt F) f8 (pieces (piece8 i (arg3.view.read (Elt F) X3) (arg4.view.read (Elt F) X4) (arg5.view.read (Elt F) X5)) k)⌝))
  step k acc := by
    iintro ⟨H3, H4, H5, ⟨%g6, H6, %h6⟩, ⟨%g7, H7, %h7⟩, ⟨%g8, H8, %h8⟩⟩
    subst h6 h7 h8
    iapply (wp_wand_r Idealize.ShloMosaic.frame (wpE (defs₀ (F := F)) Variants.none (c : Thread nD τ) none) E)
    isplitl [H3 H4 H5 H6 H7 H8]
    · iapply (trip1 c i arg3 harg3 arg4 harg4 arg5 harg5 arg6 harg6 arg7 harg7 arg8 harg8 arg2 E X3 X4 X5 _ _ _ k)
      isplitl [H3]; · iexact H3
      isplitl [H4]; · iexact H4
      isplitl [H5]; · iexact H5
      isplitl [H6]; · iexact H6
      isplitl [H7]; · iexact H7
      iexact H8
    · iintro %yld ⟨H3, H4, H5, H6, H7, H8⟩
      isplitl [H3]; · iexact H3
      isplitl [H4]; · iexact H4
      isplitl [H5]; · iexact H5
      isplitl [H6]
      · iexists _; isplitl [H6]; · iexact H6
        ipureintro; rw [pieces_succ, ← View.writes_append]; rfl
      isplitl [H7]
      · iexists _; isplitl [H7]; · iexact H7
        ipureintro; rw [pieces_succ, ← View.writes_append]; rfl
      iexists _; isplitl [H8]; · iexact H8
      ipureintro; rw [pieces_succ, ← View.writes_append]; rfl

end Loops

/-! ## What the output windows hold after the body -/

theorem trips1 : k0_t1_loop.trips = 7 := by decide

/-- Head `n` as a trip of the head loop. -/
abbrev hd (n : Fin 7) : Fin k0_t1_loop.trips := n.cast trips1.symm

/-- The first output window after the body: head `y 1`'s payload, -/
def out6 (i : grid0.Coords) (x3 : Vec F S1x7x128x512 .bf16) (x4 : Vec F S1x1x12288x128 .bf16) (x5 : Vec F S1x1x128x12288 .bf16) :
    Vec F S1x7x128x512 .f32 := fun y =>
  k0_pay31 (last i x3 x4 x5 (hd (y 1))).2.2.1 (last i x3 x4 x5 (hd (y 1))).2.2.2 (ix4 (n0 := 1) (n1 := 1) (n2 := 128) (n3 := 512) 0 0 (y 2) (y 3))

/-- the second, head `y 2`'s, -/
def out7 (i : grid0.Coords) (x3 : Vec F S1x7x128x512 .bf16) (x4 : Vec F S1x1x12288x128 .bf16) (x5 : Vec F S1x1x128x12288 .bf16) :
    Vec F S1x1x7x512 .f32 := fun y =>
  k0_pay32 (last i x3 x4 x5 (hd (y 2))).1 (last i x3 x4 x5 (hd (y 2))).2.1 (ix4 (n0 := 1) (n1 := 1) (n2 := 1) (n3 := 512) 0 0 0 (y 3))

/-- and the third. -/
def out8 (i : grid0.Coords) (x3 : Vec F S1x7x128x512 .bf16) (x4 : Vec F S1x1x12288x128 .bf16) (x5 : Vec F S1x1x128x12288 .bf16) :
    Vec F S1x1x7x512 .f32 := fun y =>
  row8 i x3 x4 x5 (hd (y 2)) (ix4 (n0 := 1) (n1 := 1) (n2 := 1) (n3 := 512) 0 0 0 (y 3))

theorem mem_pieces {s : Shape} {e : EltTy} (p : Fin k0_t1_loop.trips → View.Piece (Elt F) s e) :
    ∀ (n : ℕ) (q : View.Piece (Elt F) s e), q ∈ pieces p n ↔ ∃ h : Fin k0_t1_loop.trips, h.val < n ∧ q = p h
  | 0, q => by simp [pieces]
  | n + 1, q => by
    rw [pieces]
    split
    · rename_i hk
      rw [List.mem_cons, mem_pieces p n]
      constructor
      · rintro (rfl | ⟨h, hlt, rfl⟩)
        · exact ⟨⟨n, hk⟩, Nat.lt_succ_self n, rfl⟩
        · exact ⟨h, Nat.lt_succ_of_lt hlt, rfl⟩
      · rintro ⟨h, hlt, rfl⟩
        rcases Nat.lt_succ_iff_lt_or_eq.mp hlt with h1 | h1
        · exact .inr ⟨h, h1, rfl⟩
        · left; congr 1; exact Fin.ext h1
    · rename_i hk
      rw [mem_pieces p n]
      constructor
      · rintro ⟨h, hlt, rfl⟩; exact ⟨h, Nat.lt_succ_of_lt hlt, rfl⟩
      · rintro ⟨h, hlt, rfl⟩; exact ⟨h, by have := h.isLt; omega, rfl⟩

theorem off3_eq : ∀ h : Fin k0_t1_loop.trips, k0_off3 h = ![0, h.val, 0, 0] := by decide +kernel
theorem off10_eq : ∀ h : Fin k0_t1_loop.trips, k0_off10 h = ![0, 0, h.val, 0] := by decide +kernel

theorem emb3 (h : Fin k0_t1_loop.trips) (x : S1x1x128x512.Idx) :
    (Rect.unit (s := S1x7x128x512) (k0_off3 h) S1x1x128x512.size (k0_off3_inb h)).emb x
      = ix4 (n0 := 1) (n1 := 7) (n2 := 128) (n3 := 512) 0 (h.cast trips1) (x 2) (x 3) := by
  refine Rect.emb_eq_of_coords _ _ _ fun a => ?_
  have h0 : (x 0).val < 1 := (x 0).isLt
  have h1 : (x 1).val < 1 := (x 1).isLt
  match a with
  | ⟨0, _⟩ => show 0 = k0_off3 h 0 + 1 * (x 0).val; rw [off3_eq]; show 0 = 0 + 1 * (x 0).val; omega
  | ⟨1, _⟩ => show h.val = k0_off3 h 1 + 1 * (x 1).val; rw [off3_eq]; show h.val = h.val + 1 * (x 1).val; omega
  | ⟨2, _⟩ => show (x 2).val = k0_off3 h 2 + 1 * (x 2).val; rw [off3_eq]; show (x 2).val = 0 + 1 * (x 2).val; omega
  | ⟨3, _⟩ => show (x 3).val = k0_off3 h 3 + 1 * (x 3).val; rw [off3_eq]; show (x 3).val = 0 + 1 * (x 3).val; omega

theorem emb10 (h : Fin k0_t1_loop.trips) (x : S1x1x1x512.Idx) :
    (Rect.unit (s := S1x1x7x512) (k0_off10 h) S1x1x1x512.size (k0_off10_inb h)).emb x
      = ix4 (n0 := 1) (n1 := 1) (n2 := 7) (n3 := 512) 0 0 (h.cast trips1) (x 3) := by
  refine Rect.emb_eq_of_coords _ _ _ fun a => ?_
  have h0 : (x 0).val < 1 := (x 0).isLt
  have h1 : (x 1).val < 1 := (x 1).isLt
  have h2 : (x 2).val < 1 := (x 2).isLt
  match a with
  | ⟨0, _⟩ => show 0 = k0_off10 h 0 + 1 * (x 0).val; rw [off10_eq]; show 0 = 0 + 1 * (x 0).val; omega
  | ⟨1, _⟩ => show 0 = k0_off10 h 1 + 1 * (x 1).val; rw [off10_eq]; show 0 = 0 + 1 * (x 1).val; omega
  | ⟨2, _⟩ => show h.val = k0_off10 h 2 + 1 * (x 2).val; rw [off10_eq]; show h.val = h.val + 1 * (x 2).val; omega
  | ⟨3, _⟩ => show (x 3).val = k0_off10 h 3 + 1 * (x 3).val; rw [off10_eq]; show (x 3).val = 0 + 1 * (x 3).val; omega

theorem idx_S1x1x128x512 (x : S1x1x128x512.Idx) : x = ix4 (n0 := 1) (n1 := 1) (n2 := 128) (n3 := 512) 0 0 (x 2) (x 3) := by
  have h0 : x 0 = (0 : Fin 1) := Subsingleton.elim (α := Fin 1) _ _
  have h1 : x 1 = (0 : Fin 1) := Subsingleton.elim (α := Fin 1) _ _
  exact (eq_ix4 (n0 := 1) (n1 := 1) (n2 := 128) (n3 := 512) x).trans (by rw [h0, h1]; rfl)

theorem idx_S1x1x1x512 (x : S1x1x1x512.Idx) : x = ix4 (n0 := 1) (n1 := 1) (n2 := 1) (n3 := 512) 0 0 0 (x 3) := by
  have h0 : x 0 = (0 : Fin 1) := Subsingleton.elim (α := Fin 1) _ _
  have h1 : x 1 = (0 : Fin 1) := Subsingleton.elim (α := Fin 1) _ _
  have h2 : x 2 = (0 : Fin 1) := Subsingleton.elim (α := Fin 1) _ _
  exact (eq_ix4 (n0 := 1) (n1 := 1) (n2 := 1) (n3 := 512) x).trans (by rw [h0, h1, h2]; rfl)

theorem mem_of_emb {s : Shape} (r : Rect s) (x : r.shape.Idx) (y : s.Idx) (h : r.emb x = y) : y ∈ r.set := by
  rw [← h]; exact LoadRect.idx_mem _ _

section Reads

variable {κ : Kind} {sp : Space} (i : grid0.Coords) (x3 : Vec F S1x7x128x512 .bf16) (x4 : Vec F S1x1x12288x128 .bf16) (x5 : Vec F S1x1x128x12288 .bf16)

/-- All seven heads written, the first window reads `out6`, -/
theorem read6 (v : View sig κ sp S1x7x128x512 .f32) (f : v.ty.Contents (Elt F)) :
    v.read (Elt F) (v.writes (Elt F) f (pieces (piece6 i x3 x4 x5) k0_t1_loop.trips)) = out6 i x3 x4 x5 := by
  funext y
  refine View.read_writes_apply_of_pieces v f (out6 i x3 x4 x5) _ ?_ y ?_
  · intro p hp
    obtain ⟨h, -, rfl⟩ := (mem_pieces _ _ _).mp hp
    intro x
    have e := emb3 h x
    show k0_pay31 _ _ x = out6 i x3 x4 x5 ((Rect.unit (s := S1x7x128x512) (k0_off3 h) S1x1x128x512.size (k0_off3_inb h)).emb x)
    rw [e]
    exact congrArg _ (idx_S1x1x128x512 x)
  · have h1 : (y 1).val < 7 := (y 1).isLt
    refine ⟨piece6 i x3 x4 x5 (hd (y 1)), (mem_pieces _ _ _).mpr ⟨hd (y 1), lt_of_lt_of_eq h1 trips1.symm, rfl⟩, ?_⟩
    have e := emb3 (hd (y 1)) (ix4 (n0 := 1) (n1 := 1) (n2 := 128) (n3 := 512) 0 0 (y 2) (y 3))
    have h0 : y 0 = (0 : Fin 1) := Subsingleton.elim (α := Fin 1) _ _
    have ey : y = ix4 (n0 := 1) (n1 := 7) (n2 := 128) (n3 := 512) 0 (y 1) (y 2) (y 3) :=
      (eq_ix4 (n0 := 1) (n1 := 7) (n2 := 128) (n3 := 512) y).trans (by rw [h0]; rfl)
    exact mem_of_emb _ _ _ (e.trans ey.symm)

/-- the second `out7` -/
theorem read7 (v : View sig κ sp S1x1x7x512 .f32) (f : v.ty.Contents (Elt F)) :
    v.read (Elt F) (v.writes (Elt F) f (pieces (piece7 i x3 x4 x5) k0_t1_loop.trips)) = out7 i x3 x4 x5 := by
  funext y
  refine View.read_writes_apply_of_pieces v f (out7 i x3 x4 x5) _ ?_ y ?_
  · intro p hp
    obtain ⟨h, -, rfl⟩ := (mem_pieces _ _ _).mp hp
    intro x
    have e := emb10 h x
    show k0_pay32 _ _ x = out7 i x3 x4 x5 ((Rect.unit (s := S1x1x7x512) (k0_off10 h) S1x1x1x512.size (k0_off10_inb h)).emb x)
    rw [e]
    exact congrArg _ (idx_S1x1x1x512 x)
  · have h1 : (y 2).val < 7 := (y 2).isLt
    refine ⟨piece7 i x3 x4 x5 (hd (y 2)), (mem_pieces _ _ _).mpr ⟨hd (y 2), lt_of_lt_of_eq h1 trips1.symm, rfl⟩, ?_⟩
    have e := emb10 (hd (y 2)) (ix4 (n0 := 1) (n1 := 1) (n2 := 1) (n3 := 512) 0 0 0 (y 3))
    have h0 : y 0 = (0 : Fin 1) := Subsingleton.elim (α := Fin 1) _ _
    have h0' : y 1 = (0 : Fin 1) := Subsingleton.elim (α := Fin 1) _ _
    have ey : y = ix4 (n0 := 1) (n1 := 1) (n2 := 7) (n3 := 512) 0 0 (y 2) (y 3) :=
      (eq_ix4 (n0 := 1) (n1 := 1) (n2 := 7) (n3 := 512) y).trans (by rw [h0, h0']; rfl)
    exact mem_of_emb _ _ _ (e.trans ey.symm)

/-- and the third `out8`. -/
theorem read8 (v : View sig κ sp S1x1x7x512 .f32) (f : v.ty.Contents (Elt F)) :
    v.read (Elt F) (v.writes (Elt F) f (pieces (piece8 i x3 x4 x5) k0_t1_loop.trips)) = out8 i x3 x4 x5 := by
  funext y
  refine View.read_writes_apply_of_pieces v f (out8 i x3 x4 x5) _ ?_ y ?_
  · intro p hp
    obtain ⟨h, -, rfl⟩ := (mem_pieces _ _ _).mp hp
    intro x
    refine Eq.trans ?_ (congrArg (out8 i x3 x4 x5) (emb10 h x)).symm
    have e1 : (piece8 i x3 x4 x5 h).2 x = row8 i x3 x4 x5 h x := rfl
    have e2 : out8 i x3 x4 x5 (ix4 (n0 := 1) (n1 := 1) (n2 := 7) (n3 := 512) 0 0 (h.cast trips1) (x 3)) = row8 i x3 x4 x5 h (ix4 (n0 := 1) (n1 := 1) (n2 := 1) (n3 := 512) 0 0 0 (x 3)) := rfl
    rw [e2]
    refine e1.trans ?_
    exact congrArg (row8 i x3 x4 x5 h) (idx_S1x1x1x512 x)
  · have h1 : (y 2).val < 7 := (y 2).isLt
    refine ⟨piece8 i x3 x4 x5 (hd (y 2)), (mem_pieces _ _ _).mpr ⟨hd (y 2), lt_of_lt_of_eq h1 trips1.symm, rfl⟩, ?_⟩
    have e := emb10 (hd (y 2)) (ix4 (n0 := 1) (n1 := 1) (n2 := 1) (n3 := 512) 0 0 0 (y 3))
    have h0 : y 0 = (0 : Fin 1) := Subsingleton.elim (α := Fin 1) _ _
    have h0' : y 1 = (0 : Fin 1) := Subsingleton.elim (α := Fin 1) _ _
    have ey : y = ix4 (n0 := 1) (n1 := 1) (n2 := 7) (n3 := 512) 0 0 (y 2) (y 3) :=
      (eq_ix4 (n0 := 1) (n1 := 1) (n2 := 7) (n3 := 512) y).trans (by rw [h0, h0']; rfl)
    exact mem_of_emb _ _ _ (e.trans ey.symm)

end Reads

/-! ## The body's triple -/

/-- The body at a grid point, from input blocks at `x3`, `x4`, `x5`, leaves the output windows at `out6`, `out7`, `out8`. -/
theorem sound_kernel (c : Dev nD) (E : Set ℕ) (i : grid0.Coords) (arg3 : Memref sig .tc .vmem S1x7x128x512 .bf16) (harg3 : arg3.IsWhole)
    (arg4 : Memref sig .tc .vmem S1x1x12288x128 .bf16) (harg4 : arg4.IsWhole) (arg5 : Memref sig .tc .vmem S1x1x128x12288 .bf16) (harg5 : arg5.IsWhole)
    (arg6 : Memref sig .tc .vmem S1x7x128x512 .f32) (harg6 : arg6.IsWhole) (arg7 : Memref sig .tc .vmem S1x1x7x512 .f32) (harg7 : arg7.IsWhole)
    (arg8 : Memref sig .tc .vmem S1x1x7x512 .f32) (harg8 : arg8.IsWhole)
    (x3 : Vec F S1x7x128x512 .bf16) (x4 : Vec F S1x1x12288x128 .bf16) (x5 : Vec F S1x1x128x12288 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (out6 i x3 x4 x5) ∗ owns (c : Thread nD τ) arg7 fullShare (out7 i x3 x4 x5)
            ∗ owns (c : Thread nD τ) arg8 fullShare (out8 i x3 x4 x5)) -∗ K ⟨⟩))
      ⊢ wp frame (wpE (defs₀ (F := F)) Variants.none (c : Thread nD τ) none) E
          (cc0_attn i arg3 harg3 arg4 harg4 arg5 harg5 arg6 harg6 arg7 harg7 arg8 harg8) K := by
  simp only [cc0_attn_eq_skeleton]; unfold cc0_attn_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf3 hf4 hf5
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read6 i _ _ _ _ _
  isplitl [H7]
  · iexists _; isplitr
    swap; · iexact H7
    ipureintro
    exact read7 i _ _ _ _ _
  iexists _; isplitr
  swap; · iexact H8
  ipureintro
  exact read8 i _ _ _ _ _

/-! ## The proof data and the run -/

variable (m : (ℓ : Loc nD τ sig) → Buf (Elt F) ℓ) (ρ : Dev nD → PrngReg)

/-- The proof data: each input window at its block, each output window at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out6 (grid0.coords t) (iblk m c 0 t) (iblk m c 1 t) (iblk m c 2 t)
    | ⟨4, _⟩ => out7 (grid0.coords t) (iblk m c 0 t) (iblk m c 1 t) (iblk m c 2 t)
    | ⟨5, _⟩ => out8 (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out6 (grid0.coords t) (iblk m c 0 t) (iblk m c 1 t) (iblk m c 2 t) := by dsimp only [dats]
theorem after0_4 (c : Dev nD) (t : Fin cfg0.N) :
    (dats m 0 c).after 4 t = out7 (grid0.coords t) (iblk m c 0 t) (iblk m c 1 t) (iblk m c 2 t) := by dsimp only [dats]
theorem after0_5 (c : Dev nD) (t : Fin cfg0.N) :
    (dats m 0 c).after 5 t = out8 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

set_option backward.isDefEq.respectTransparency.types false in
set_option maxHeartbeats 800000 in
/-- The launch: every array of the pipeline ends at what the proof data say, every other buffer as launched, every
    counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.KernelAt.lean ====
/- The kernel body's payloads at an index, over the extended reals. -/
module

public import proofs.«01_k».proof.Proof.BodyIdeal
public import Idealize.ShloMosaic.Lib.Pointwise

@[expose] public section

set_option maxRecDepth 16384

noncomputable section

namespace Cert.KernelIdeal.At

open Cert.KernelIdeal Cert.KernelIdeal.Gen Cert.KernelIdeal.Body
open Idealize.ShloMosaic

/-- The named scale, `scale · log₂ e`. -/
abbrev c2 : Ideal .f32 := Named.named κ "scale_log2e" (φ := .f32) 0x3E0293EE#32

theorem ninf : Ideal.ofBits .f32 0xFF800000#32 = ⊥ := by simp [Ideal.ofBits, Ideal.ieee]

theorem pinf : Ideal.ofBits .f32 0x7F800000#32 = ⊤ := by simp [Ideal.ofBits, Ideal.ieee]

/-- The comparison of two small words is that of the numbers. -/
theorem select_sle {α : Type} (n m : ℕ) (hn : n < 2 ^ 31) (hm : m < 2 ^ 31) (a b : α) :
    Scalar.select (IntOp.cmpi .sle (BitVec.ofNat 32 n) (BitVec.ofNat 32 m)) a b = if n ≤ m then a else b := by
  have e1 : (BitVec.ofNat 32 n).toInt = n := by
    rw [BitVec.toInt_eq_toNat_of_lt] <;> simp only [BitVec.toNat_ofNat] <;> omega
  have e2 : (BitVec.ofNat 32 m).toInt = m := by
    rw [BitVec.toInt_eq_toNat_of_lt] <;> simp only [BitVec.toNat_ofNat] <;> omega
  have e : (BitVec.ofNat 32 n).sle (BitVec.ofNat 32 m) = decide (n ≤ m) := by
    rw [BitVec.sle_eq_decide, e1, e2]; simp
  by_cases h : n ≤ m
  · simp [IntOp.cmpi, e, h, Scalar.select]
  · simp [IntOp.cmpi, e, h, Scalar.select]

theorem pay6_apply (v8 : Vec Ideal S1x1x512x128 .bf16) (v14 : Vec Ideal S1x1x128x512 .bf16) (r w : Fin 512) :
    k0_pay6 v8 v14 (ix2 r w) = ∑ d : Fin 128, v8 (ix4 0 0 r d) * v14 (ix4 0 0 d w) := by
  pointwise [k0_pay6]

theorem pay16_apply (v8 : Vec Ideal S1x1x512x128 .bf16) (v14 : Vec Ideal S1x1x128x512 .bf16) (r w : Fin 512) :
    k0_pay16 v8 v14 (ix2 r w) = ∑ d : Fin 128, v8 (ix4 0 0 r d) * v14 (ix4 0 0 d w) := by
  pointwise [k0_pay16]

theorem pay17_apply (a : FVec Ideal S1x512 .f32) (v8 : Vec Ideal S1x1x512x128 .bf16) (v14 : Vec Ideal S1x1x128x512 .bf16) (w : Fin 512) :
    k0_pay17 a v8 v14 (ix2 0 w) = max (a (ix2 0 w)) ((Finset.univ : Finset (Fin 512)).fold max ⊥ fun r => k0_pay16 v8 v14 (ix2 r w)) := by
  pointwise [k0_pay17]
  rw [ninf]

theorem pay18_apply (a : FVec Ideal S1x512 .f32) (v8 : Vec Ideal S1x1x512x128 .bf16) (v14 : Vec Ideal S1x1x128x512 .bf16) (w : Fin 512) :
    k0_pay18 a v8 v14 (ix2 0 w) = min (a (ix2 0 w)) ((Finset.univ : Finset (Fin 512)).fold min ⊤ fun r => k0_pay16 v8 v14 (ix2 r w)) := by
  pointwise [k0_pay18]
  rw [pinf]

theorem pay19_apply (a : FVec Ideal S1x512 .f32) (v8 : Vec Ideal S1x1x512x128 .bf16) (v14 : Vec Ideal S1x1x128x512 .bf16) (r w : Fin 512) :
    k0_pay19 a v8 v14 (ix2 r w) = Ideal.exp2 (k0_pay16 v8 v14 (ix2 r w) * c2 - k0_pay17 a v8 v14 (ix2 0 w) * c2) := by
  pointwise [k0_pay19]
  rfl

theorem pay20_apply (a : FVec Ideal S1x512 .f32) (v8 : Vec Ideal S1x1x512x128 .bf16) (v14 : Vec Ideal S1x1x128x512 .bf16) (w : Fin 512) :
    k0_pay20 a v8 v14 (ix2 0 w) = Ideal.exp2 ((a (ix2 0 w) - k0_pay17 a v8 v14 (ix2 0 w)) * c2) := by
  pointwise [k0_pay20]
  rfl

theorem pay21_apply (a l : FVec Ideal S1x512 .f32) (v8 : Vec Ideal S1x1x512x128 .bf16) (v14 : Vec Ideal S1x1x128x512 .bf16) (w : Fin 512) :
    k0_pay21 a l v8 v14 (ix2 0 w) = l (ix2 0 w) * k0_pay20 a v8 v14 (ix2 0 w) + ∑ r : Fin 512, k0_pay19 a v8 v14 (ix2 r w) := by
  pointwise [k0_pay21]

theorem pay22_apply (a : FVec Ideal S1x512 .f32) (o : FVec Ideal S128x512 .f32) (v8 : Vec Ideal S1x1x512x128 .bf16) (v11 v14 : Vec Ideal S1x1x128x512 .bf16) (d : Fin 128) (w : Fin 512) :
    k0_pay22 a o v8 v11 v14 (ix2 d w) = o (ix2 d w) * k0_pay20 a v8 v14 (ix2 0 w) + ∑ r : Fin 512, v11 (ix4 0 0 d r) * k0_pay19 a v8 v14 (ix2 r w) := by
  pointwise [k0_pay22]

theorem pay8_apply (v8 : Vec Ideal S1x1x512x128 .bf16) (v14 : Vec Ideal S1x1x128x512 .bf16) (r w : Fin 512) :
    k0_pay8 v8 v14 (ix2 r w) = if r ≤ w then k0_pay6 v8 v14 (ix2 r w) else ⊥ := by
  pointwise [k0_pay8, k0_pay7]
  rw [ninf, select_sle _ _ (by omega) (by omega)]; rfl

theorem pay9_apply (v8 : Vec Ideal S1x1x512x128 .bf16) (v14 : Vec Ideal S1x1x128x512 .bf16) (w : Fin 512) :
    k0_pay9 v8 v14 (ix2 0 w) = max ⊥ ((Finset.univ : Finset (Fin 512)).fold max ⊥ fun r => k0_pay8 v8 v14 (ix2 r w)) := by
  pointwise [k0_pay9, k0_pay2]
  rw [ninf]

theorem pay10_apply (v8 : Vec Ideal S1x1x512x128 .bf16) (v14 : Vec Ideal S1x1x128x512 .bf16) (w : Fin 512) :
    k0_pay10 v8 v14 (ix2 0 w) = min ⊤ ((Finset.univ : Finset (Fin 512)).fold min ⊤ fun r => if r ≤ w then k0_pay6 v8 v14 (ix2 r w) else ⊤) := by
  pointwise [k0_pay10, k0_pay7]
  rw [pinf]
  congr 2
  funext r
  rw [select_sle _ _ (by omega) (by omega)]; rfl

theorem pay11_apply (v8 : Vec Ideal S1x1x512x128 .bf16) (v14 : Vec Ideal S1x1x128x512 .bf16) (r w : Fin 512) :
    k0_pay11 v8 v14 (ix2 r w) = Ideal.exp2 (k0_pay8 v8 v14 (ix2 r w) * c2 - k0_pay9 v8 v14 (ix2 0 w) * c2) := by
  pointwise [k0_pay11]
  rfl

theorem pay14_apply (p : FVec Ideal S512x512 .f32) (e : FVec Ideal S1x512 .f32) (c : Ideal .f32) (w : Fin 512) :
    k0_pay14 k0_pay3 p e c (ix2 0 w) = 0 * Ideal.exp2 (e (ix2 0 w) * c) + ∑ r : Fin 512, p (ix2 r w) := by
  pointwise [k0_pay14, k0_pay13, k0_pay3]
  rfl

theorem pay15_apply (v11 : Vec Ideal S1x1x128x512 .bf16) (p : FVec Ideal S512x512 .f32) (e : FVec Ideal S1x512 .f32) (c : Ideal .f32) (d : Fin 128) (w : Fin 512) :
    k0_pay15 k0_pay4 (k0_pay5 v11) p e c (ix2 d w) = 0 * Ideal.exp2 (e (ix2 0 w) * c) + ∑ r : Fin 512, v11 (ix4 0 0 d r) * p (ix2 r w) := by
  pointwise [k0_pay15, k0_pay13, k0_pay4, k0_pay5]
  rfl

theorem pay31_apply (l : FVec Ideal S1x512 .f32) (o : FVec Ideal S128x512 .f32) (d : Fin 128) (w : Fin 512) :
    k0_pay31 l o (ix4 0 0 d w) = Ideal.div (o (ix2 d w)) (l (ix2 0 w)) := by
  pointwise [k0_pay31, k0_pay30]

theorem pay32_apply (mx mn : FVec Ideal S1x512 .f32) (w : Fin 512) :
    k0_pay32 mx mn (ix4 0 0 0 w) = max (mx (ix2 0 w)) (0 - mn (ix2 0 w)) * Ideal.ofBits .f32 0x3DB504F3#32 := by
  pointwise [k0_pay32]

theorem pay33_apply (l : FVec Ideal S1x512 .f32) (o : FVec Ideal S128x512 .f32) (w : Fin 512) :
    k0_pay1 (k0_pay33 l o) (ix4 0 0 0 w) = (Finset.univ : Finset (Fin 128)).fold max ⊥ fun d => max (Ideal.div (o (ix2 d w)) (l (ix2 0 w))) (-(Ideal.div (o (ix2 d w)) (l (ix2 0 w)))) := by
  pointwise [k0_pay1, k0_pay33, k0_pay30]
  rw [ninf]; rfl

end Cert.KernelIdeal.At

end
-- ==== Proof.Softmax.lean ====
/- Softmax taken block by block, over the real numbers and the extended reals. -/
module

public import Idealize.ShloMosaic.PureOps.Ideal
public import Mathlib.Data.EReal.Operations
public import Mathlib.Analysis.SpecialFunctions.Exp

@[expose] public section

noncomputable section

namespace Softmax

open Finset

variable {ι : Type} [DecidableEq ι]

/-! ## Sums of extended reals -/

theorem sum_coe (S : Finset ι) (f : ι → ℝ) : ∑ j ∈ S, ((f j : ℝ) : EReal) = ((∑ j ∈ S, f j : ℝ) : EReal) := by
  induction S using Finset.induction_on with
  | empty => simp
  | insert a S ha ih => rw [sum_insert ha, sum_insert ha, ih, EReal.coe_add]

/-- A nonnegative real factor goes into a sum. -/
theorem sum_mul_coe (S : Finset ι) (f : ι → EReal) (r : ℝ) (hr : 0 ≤ r) : (∑ j ∈ S, f j) * (r : EReal) = ∑ j ∈ S, f j * (r : EReal) := by
  induction S using Finset.induction_on with
  | empty => simp
  | insert a S ha ih =>
    rw [sum_insert ha, sum_insert ha, ← ih, EReal.right_distrib_of_nonneg_of_ne_top (by exact_mod_cast hr) (EReal.coe_ne_top r)]

/-! ## Folds of maxima and minima -/

theorem fold_max_eq (S : Finset ι) (f : ι → EReal) (M : EReal) (h : ∀ j ∈ S, f j ≤ M) (he : ∃ j ∈ S, f j = M) : S.fold max ⊥ f = M := by
  apply le_antisymm
  · exact Finset.fold_max_le M |>.mpr ⟨bot_le, h⟩
  · obtain ⟨j, hj, rfl⟩ := he
    exact Finset.le_fold_max _ |>.mpr (Or.inr ⟨j, hj, le_rfl⟩)

theorem fold_min_eq (S : Finset ι) (f : ι → EReal) (M : EReal) (h : ∀ j ∈ S, M ≤ f j) (he : ∃ j ∈ S, f j = M) : S.fold min ⊤ f = M := by
  apply le_antisymm
  · obtain ⟨j, hj, rfl⟩ := he
    exact Finset.fold_min_le _ |>.mpr (Or.inr ⟨j, hj, le_rfl⟩)
  · exact Finset.le_fold_min M |>.mpr ⟨le_top, h⟩

/-! ## What is carried over the keys seen so far -/

/-- `M` is the largest of `s` over `S`. -/
def IsMax (S : Finset ι) (s : ι → ℝ) (M : ℝ) : Prop := (∀ j ∈ S, s j ≤ M) ∧ ∃ j ∈ S, s j = M

/-- `M` is the smallest. -/
def IsMin (S : Finset ι) (s : ι → ℝ) (M : ℝ) : Prop := (∀ j ∈ S, M ≤ s j) ∧ ∃ j ∈ S, s j = M

theorem IsMax.exists (S : Finset ι) (s : ι → ℝ) (h : S.Nonempty) : ∃ M, IsMax S s M := by
  obtain ⟨j, hj, h⟩ := S.exists_max_image s h
  exact ⟨s j, h, j, hj, rfl⟩

theorem IsMin.exists (S : Finset ι) (s : ι → ℝ) (h : S.Nonempty) : ∃ M, IsMin S s M := by
  obtain ⟨j, hj, h⟩ := S.exists_min_image s h
  exact ⟨s j, h, j, hj, rfl⟩

theorem IsMax.unique {S : Finset ι} {s : ι → ℝ} {M N : ℝ} (h : IsMax S s M) (h' : IsMax S s N) : M = N := by
  obtain ⟨j, hj, e⟩ := h.2; obtain ⟨j', hj', e'⟩ := h'.2
  exact le_antisymm (e ▸ h'.1 j hj) (e' ▸ h.1 j' hj')

theorem IsMax.union {S T : Finset ι} {s : ι → ℝ} {M N : ℝ} (h : IsMax S s M) (h' : IsMax T s N) : IsMax (S ∪ T) s (max M N) := by
  refine ⟨fun j hj => ?_, ?_⟩
  · rcases mem_union.mp hj with hj | hj
    · exact (h.1 j hj).trans (le_max_left _ _)
    · exact (h'.1 j hj).trans (le_max_right _ _)
  · rcases le_total M N with hl | hl
    · obtain ⟨j, hj, e⟩ := h'.2
      exact ⟨j, mem_union_right _ hj, by rw [e, max_eq_right hl]⟩
    · obtain ⟨j, hj, e⟩ := h.2
      exact ⟨j, mem_union_left _ hj, by rw [e, max_eq_left hl]⟩

theorem IsMin.union {S T : Finset ι} {s : ι → ℝ} {M N : ℝ} (h : IsMin S s M) (h' : IsMin T s N) : IsMin (S ∪ T) s (min M N) := by
  refine ⟨fun j hj => ?_, ?_⟩
  · rcases mem_union.mp hj with hj | hj
    · exact (min_le_left _ _).trans (h.1 j hj)
    · exact (min_le_right _ _).trans (h'.1 j hj)
  · rcases le_total M N with hl | hl
    · obtain ⟨j, hj, e⟩ := h.2
      exact ⟨j, mem_union_left _ hj, by rw [e, min_eq_left hl]⟩
    · obtain ⟨j, hj, e⟩ := h'.2
      exact ⟨j, mem_union_right _ hj, by rw [e, min_eq_right hl]⟩

/-- The weight of key `j` when the largest score is `M`. -/
def wt (σ : ℝ) (s : ι → ℝ) (M : ℝ) (j : ι) : ℝ := Real.exp ((s j - M) * σ)

theorem wt_pos (σ : ℝ) (s : ι → ℝ) (M : ℝ) (j : ι) : 0 < wt σ s M j := Real.exp_pos _

theorem wt_shift (σ : ℝ) (s : ι → ℝ) (M N : ℝ) (j : ι) : wt σ s M j * Real.exp ((M - N) * σ) = wt σ s N j := by
  unfold wt; rw [← Real.exp_add]; congr 1; ring

/-- The four carried values over the keys `S`: largest score, smallest score, sum of the weights, and the weighted sum
    of the values `v`. -/
structure Carried {δ : Type} (σ : ℝ) (S : Finset ι) (s : ι → ℝ) (v : δ → ι → EReal) (mx mn l : EReal) (o : δ → EReal) : Prop where
  ex : ∃ M m : ℝ, IsMax S s M ∧ IsMin S s m ∧ mx = (M : EReal) ∧ mn = (m : EReal)
    ∧ l = ((∑ j ∈ S, wt σ s M j : ℝ) : EReal) ∧ ∀ d, o d = ∑ j ∈ S, v d j * ((wt σ s M j : ℝ) : EReal)

/-- The keys of a further block taken in. -/
theorem Carried.step {δ : Type} {σ : ℝ} {S T : Finset ι} {s : ι → ℝ} {v : δ → ι → EReal} {mx mn l : EReal} {o : δ → EReal}
    (h : Carried σ S s v mx mn l o) (hd : Disjoint S T) {M' m' : ℝ} (hM : IsMax T s M') (hm : IsMin T s m')
    (mx' mn' l' : EReal) (o' : δ → EReal) (emx : mx' = max mx (M' : EReal)) (emn : mn' = min mn (m' : EReal))
    (el : ∀ M N : ℝ, mx = (M : EReal) → mx' = (N : EReal) →
      l' = l * ((Real.exp ((M - N) * σ) : ℝ) : EReal) + ∑ j ∈ T, ((wt σ s N j : ℝ) : EReal))
    (eo : ∀ M N : ℝ, mx = (M : EReal) → mx' = (N : EReal) → ∀ d,
      o' d = o d * ((Real.exp ((M - N) * σ) : ℝ) : EReal) + ∑ j ∈ T, v d j * ((wt σ s N j : ℝ) : EReal)) :
    Carried σ (S ∪ T) s v mx' mn' l' o' := by
  obtain ⟨M, m, h1, h2, rfl, rfl, rfl, h6⟩ := h.ex
  have e1 : mx' = ((max M M' : ℝ) : EReal) := by rw [emx]; exact (EReal.coe_strictMono.monotone.map_max).symm
  have e2 : mn' = ((min m m' : ℝ) : EReal) := by rw [emn]; exact (EReal.coe_strictMono.monotone.map_min).symm
  refine ⟨max M M', min m m', h1.union hM, h2.union hm, e1, e2, ?_, fun d => ?_⟩
  · rw [el M _ rfl e1, sum_union hd, ← EReal.coe_mul, sum_coe, ← EReal.coe_add, sum_mul]
    congr 2
    exact sum_congr rfl fun j _ => wt_shift σ s M _ j
  · rw [eo M _ rfl e1 d, h6 d, sum_union hd, sum_mul_coe _ _ _ (Real.exp_pos _).le]
    congr 1
    refine sum_congr rfl fun j _ => ?_
    rw [mul_assoc, ← EReal.coe_mul, wt_shift]

/-- The carried values do not depend on how the keys were blocked: read off at the end. -/
theorem Carried.out {δ : Type} {σ : ℝ} {S : Finset ι} {s : ι → ℝ} {v : δ → ι → EReal} {mx mn l : EReal} {o : δ → EReal}
    (h : Carried σ S s v mx mn l o) {M : ℝ} (hM : IsMax S s M) (d : δ) :
    Idealize.ShloMosaic.Ideal.div (o d) l = ∑ j ∈ S, v d j * Idealize.ShloMosaic.Ideal.div ((wt σ s M j : ℝ) : EReal) ((∑ j ∈ S, wt σ s M j : ℝ) : EReal) := by
  obtain ⟨M', m, h1, h2, rfl, rfl, rfl, h6⟩ := h.ex
  obtain rfl := h1.unique hM
  have hpos : 0 < ∑ j ∈ S, wt σ s M' j := by
    obtain ⟨j, hj, -⟩ := h1.2
    exact sum_pos (fun j _ => wt_pos σ s M' j) ⟨j, hj⟩
  generalize ∑ j ∈ S, wt σ s M' j = L at hpos ⊢
  have hL : ((L : ℝ) : EReal) ≠ 0 := by exact_mod_cast hpos.ne'
  have hdiv : ∀ x : EReal, Idealize.ShloMosaic.Ideal.div x (L : EReal) = x * ((L⁻¹ : ℝ) : EReal) := fun x => by
    unfold Idealize.ShloMosaic.Ideal.div
    rw [if_neg hL, EReal.coe_inv]
  simp only [hdiv]
  rw [h6 d, sum_mul_coe _ _ _ (inv_nonneg.mpr hpos.le)]
  exact sum_congr rfl fun j _ => mul_assoc _ _ _

/-- The largest magnitude of the scaled scores, from the largest and smallest score. -/
theorem Carried.amax {δ : Type} {σ : ℝ} (hσ : 0 ≤ σ) {S : Finset ι} {s : ι → ℝ} {v : δ → ι → EReal} {mx mn l : EReal} {o : δ → EReal}
    (h : Carried σ S s v mx mn l o) (U : Finset ι) (hU : S ⊆ U) :
    max mx (0 - mn) * ((σ : ℝ) : EReal)
      = U.fold max ⊥ fun j => if j ∈ S then max (((s j : ℝ) : EReal) * (σ : EReal)) (-(((s j : ℝ) : EReal) * (σ : EReal))) else 0 := by
  obtain ⟨M, m, h1, h2, rfl, rfl, -, -⟩ := h.ex
  have emax : ∀ x y : ℝ, max (x : EReal) (y : EReal) = ((max x y : ℝ) : EReal) := fun x y => (EReal.coe_strictMono.monotone.map_max).symm
  have habs : ∀ j, max (((s j : ℝ) : EReal) * (σ : EReal)) (-(((s j : ℝ) : EReal) * (σ : EReal))) = ((|s j| * σ : ℝ) : EReal) := fun j => by
    rw [← EReal.coe_mul, ← EReal.coe_neg, emax]
    congr 1
    show max (s j * σ) (-(s j * σ)) = _
    rw [← abs_eq_max_neg, abs_mul, abs_of_nonneg hσ]
  simp only [habs]
  have hb : ∀ j ∈ S, |s j| ≤ max M (-m) := fun j hj => by
    rw [abs_eq_max_neg]
    exact max_le_max (h1.1 j hj) (neg_le_neg (h2.1 j hj))
  have he : ∃ j ∈ S, |s j| = max M (-m) := by
    rcases le_total M (-m) with hl | hl
    · obtain ⟨j, hj, e⟩ := h2.2
      refine ⟨j, hj, le_antisymm (hb j hj) ?_⟩
      rw [max_eq_right hl, ← e]; exact neg_le_abs _
    · obtain ⟨j, hj, e⟩ := h1.2
      refine ⟨j, hj, le_antisymm (hb j hj) ?_⟩
      rw [max_eq_left hl, ← e]; exact le_abs_self _
  have hlhs : max (M : EReal) (0 - (m : EReal)) * (σ : EReal) = ((max M (-m) * σ : ℝ) : EReal) := by
    rw [zero_sub, ← EReal.coe_neg, emax, ← EReal.coe_mul]
  rw [hlhs]
  symm
  apply fold_max_eq
  · intro j _
    split
    · rename_i hj
      exact_mod_cast mul_le_mul_of_nonneg_right (hb j hj) hσ
    · obtain ⟨j', hj', e⟩ := he
      have : 0 ≤ max M (-m) * σ := mul_nonneg (e ▸ abs_nonneg _) hσ
      exact_mod_cast this
  · obtain ⟨j, hj, e⟩ := he
    exact ⟨j, hU hj, by rw [if_pos hj, e]⟩

end Softmax

end
-- ==== Proof.Rows.lean ====
/- The carry of the kernel's key loop at the extended reals: over the keys seen so far it holds the largest and smallest
   score of each query, the sum of its weights and its weighted sum of the values. -/
module

public import proofs.«01_k».proof.Proof.BodyIdeal
public import proofs.«01_k».proof.Proof.KernelAt
public import proofs.«01_k».proof.Proof.Softmax

@[expose] public section

set_option maxRecDepth 16384

noncomputable section

namespace Cert.KernelIdeal.Rows

open Cert.KernelIdeal Cert.KernelIdeal.Gen Cert.KernelIdeal.Body Cert.KernelIdeal.At
open Idealize.ShloMosaic
open Softmax

/-! ## The constants and the exponential -/

/-- The factor of the scores. -/
abbrev σ : ℝ := 11863283 / 134217728

theorem σ_pos : 0 < σ := by norm_num

theorem scale_eq : Ideal.ofBits .f32 0x3DB504F3#32 = ((σ : ℝ) : EReal) := by
  simp [Ideal.ofBits, Ideal.ieee]
  rw [← EReal.coe_mul]
  norm_num [σ]

/-- The named constant is `σ / log 2`. -/
theorem c2_eq : c2 = ((σ * (Real.log 2)⁻¹ : ℝ) : EReal) :=
  IdealRules.named_const.ideal_named_scalar _ _ _ _ rfl

theorem exp2_coe (x : ℝ) : Ideal.exp2 ((x * (σ * (Real.log 2)⁻¹) : ℝ) : EReal) = ((Real.exp (x * σ) : ℝ) : EReal) := by
  show ((Real.rpow 2 (x * (σ * (Real.log 2)⁻¹)) : ℝ) : EReal) = _
  congr 1
  show (2 : ℝ) ^ (x * (σ * (Real.log 2)⁻¹)) = _
  rw [Real.rpow_def_of_pos (by norm_num)]
  congr 1
  have : Real.log 2 ≠ 0 := (Real.log_pos (by norm_num)).ne'
  field_simp

theorem exp2_sub (x M : ℝ) : Ideal.exp2 ((x : EReal) * c2 - (M : EReal) * c2) = ((Real.exp ((x - M) * σ) : ℝ) : EReal) := by
  rw [← exp2_coe, c2_eq, ← EReal.coe_mul, ← EReal.coe_mul, ← EReal.coe_sub]
  congr 2; ring

theorem exp2_sub' (x M : ℝ) : Ideal.exp2 (((x : EReal) - (M : EReal)) * c2) = ((Real.exp ((x - M) * σ) : ℝ) : EReal) := by
  rw [← exp2_coe, c2_eq, ← EReal.coe_sub, ← EReal.coe_mul]

theorem exp2_bot (M : ℝ) : Ideal.exp2 ((⊥ : EReal) * c2 - (M : EReal) * c2) = 0 := by
  have h : 0 < σ * (Real.log 2)⁻¹ := mul_pos σ_pos (inv_pos.mpr (Real.log_pos (by norm_num)))
  rw [c2_eq, EReal.bot_mul_coe_of_pos h, ← EReal.coe_mul, EReal.bot_sub]
  rfl

/-! ## The keys -/

/-- Key `512 n + r`. -/
def key (n : ℕ) (hn : n < 24) : Fin 512 ↪ Fin 12288 :=
  ⟨fun r => ⟨512 * n + r.val, by omega⟩, fun a b h => Fin.ext (by have := congrArg Fin.val h; simp only at this; omega)⟩

/-- The keys of a block. -/
def blk (n : ℕ) (hn : n < 24) : Finset (Fin 12288) := Finset.univ.map (key n hn)

theorem mem_blk (n : ℕ) (hn : n < 24) (j : Fin 12288) : j ∈ blk n hn ↔ 512 * n ≤ j.val ∧ j.val < 512 * n + 512 := by
  unfold blk
  rw [Finset.mem_map]
  constructor
  · rintro ⟨r, -, rfl⟩
    show 512 * n ≤ 512 * n + r.val ∧ 512 * n + r.val < 512 * n + 512
    omega
  · intro h
    exact ⟨⟨j.val - 512 * n, by omega⟩, Finset.mem_univ _, Fin.ext (by show 512 * n + (j.val - 512 * n) = j.val; omega)⟩

/-- The keys seen by column `w` of query block `n` in the diagonal block and the first `k` blocks. -/
def seen (n : ℕ) (w : Fin 512) (k : ℕ) : Finset (Fin 12288) :=
  Finset.univ.filter fun j => (512 * n ≤ j.val ∧ j.val ≤ 512 * n + w.val) ∨ j.val < 512 * k

theorem mem_seen (n : ℕ) (w : Fin 512) (k : ℕ) (j : Fin 12288) :
    j ∈ seen n w k ↔ (512 * n ≤ j.val ∧ j.val ≤ 512 * n + w.val) ∨ j.val < 512 * k := by simp [seen]

theorem seen_succ (n : ℕ) (w : Fin 512) (k : ℕ) (hk : k < 24) : seen n w (k + 1) = seen n w k ∪ blk k hk := by
  ext j
  rw [Finset.mem_union, mem_seen, mem_seen, mem_blk]
  omega

theorem seen_disjoint (n : ℕ) (w : Fin 512) (k : ℕ) (hk : k < 24) (hkn : k < n) : Disjoint (seen n w k) (blk k hk) := by
  rw [Finset.disjoint_left]
  intro j h h'
  rw [mem_seen] at h; rw [mem_blk] at h'
  omega

/-- A sum over the diagonal block. -/
theorem sum_seen {M : Type} [AddCommMonoid M] (n : ℕ) (hn : n < 24) (w : Fin 512) (f : Fin 12288 → M) :
    ∑ j ∈ seen n w 0, f j = ∑ r : Fin 512, if r ≤ w then f (key n hn r) else 0 := by
  have e : seen n w 0 = (Finset.univ.filter fun r : Fin 512 => r ≤ w).map (key n hn) := by
    ext j
    rw [mem_seen, Finset.mem_map]
    constructor
    · intro h
      refine ⟨⟨j.val - 512 * n, by omega⟩, ?_, Fin.ext (by show 512 * n + (j.val - 512 * n) = j.val; omega)⟩
      rw [Finset.mem_filter]
      exact ⟨Finset.mem_univ _, by rw [Fin.le_def]; show j.val - 512 * n ≤ w.val; omega⟩
    · rintro ⟨r, hr, rfl⟩
      rw [Finset.mem_filter, Fin.le_def] at hr
      show (512 * n ≤ 512 * n + r.val ∧ 512 * n + r.val ≤ 512 * n + w.val) ∨ 512 * n + r.val < 512 * 0
      omega
  rw [e, Finset.sum_map, Finset.sum_filter]

theorem sum_blk {M : Type} [AddCommMonoid M] (n : ℕ) (hn : n < 24) (f : Fin 12288 → M) :
    ∑ j ∈ blk n hn, f j = ∑ r : Fin 512, f (key n hn r) := by rw [blk, Finset.sum_map]

/-! ## The loads -/

theorem trips2 : ∀ i : grid0.Coords, (k0_t2_loop i).trips = (i 2).val := by
  have h : ∀ n : Fin 24, (⟨0#32, Scalar.addi 0#32 (Scalar.muli (Scalar.divsi (Scalar.subi (BitVec.ofNat 32 n.val) 0#32) 1#32) 1#32), 1#32⟩ : Scf.Loop 32).trips = n.val := by
    decide +kernel
  exact fun i => h (i 2)

theorem off1_eq (i : grid0.Coords) : k0_off1 i = ![0, 0, 512 * (i 2).val, 0] := by
  have h : ∀ n : Fin 24, (Scalar.indexCast (Scalar.muli (BitVec.ofNat 32 n.val) 512#32)).toNat = 512 * n.val := by decide +kernel
  show ![0, 0, (Scalar.indexCast (Scalar.muli (BitVec.ofNat 32 (i 2).val) 512#32)).toNat, 0] = _
  rw [h (i 2)]

theorem off2_eq (i : grid0.Coords) : k0_off2 i = ![0, 0, 0, 512 * (i 2).val] := by
  have h : ∀ n : Fin 24, (Scalar.indexCast (Scalar.muli (BitVec.ofNat 32 n.val) 512#32)).toNat = 512 * n.val := by decide +kernel
  show ![0, 0, 0, (Scalar.indexCast (Scalar.muli (BitVec.ofNat 32 (i 2).val) 512#32)).toNat] = _
  rw [h (i 2)]

theorem iv_eq : ∀ n : Fin 24, (Scalar.indexCast (Scalar.muli (Scf.iv 0#32 1#32 n.val) 512#32)).toNat = 512 * n.val := by decide +kernel

theorem lt24 (i : grid0.Coords) : (i 2).val < 24 := (i 2).isLt

theorem klt (i : grid0.Coords) (k : Fin (k0_t2_loop i).trips) : k.val < 24 :=
  lt_trans (lt_of_lt_of_eq k.isLt (trips2 i)) (lt24 i)

theorem off4_eq (i : grid0.Coords) (k : Fin (k0_t2_loop i).trips) : k0_off4 i k = ![0, 0, 512 * k.val, 0] := by
  show ![0, 0, (Scalar.indexCast (Scalar.muli (Scf.iv 0#32 1#32 k.val) 512#32)).toNat, 0] = _
  rw [iv_eq ⟨k.val, klt i k⟩]

theorem off5_eq (i : grid0.Coords) (k : Fin (k0_t2_loop i).trips) : k0_off5 i k = ![0, 0, 0, 512 * k.val] := by
  show ![0, 0, 0, (Scalar.indexCast (Scalar.muli (Scf.iv 0#32 1#32 k.val) 512#32)).toNat] = _
  rw [iv_eq ⟨k.val, klt i k⟩]

theorem off6_eq (h : Fin k0_t1_loop.trips) : k0_off6 h = ![0, h.val, 0, 0] := off3_eq h

/-- A block of keys read at a key and a channel, -/
theorem ld_k (x4 : Vec Ideal S1x1x12288x128 .bf16) (n : ℕ) (hn : n < 24) (off : Fin 4 → ℕ) (e : off = ![0, 0, 512 * n, 0])
    (inb : ∀ a, off a + S1x1x512x128.size a ≤ S1x1x12288x128.size a) (r : Fin 512) (d : Fin 128) :
    View.ld x4 (Rect.unit (s := S1x1x12288x128) off S1x1x512x128.size inb) (ix4 0 0 r d) = x4 (ix4 0 0 (key n hn r) d) := by
  subst e
  refine congrArg x4 (funext fun a => Fin.ext ?_)
  match a with
  | ⟨0, _⟩ => rfl
  | ⟨1, _⟩ => rfl
  | ⟨2, _⟩ => show 512 * n + 1 * r.val = 512 * n + r.val; omega
  | ⟨3, _⟩ => show 0 + 1 * d.val = d.val; omega

/-- of values at a channel and a key, -/
theorem ld_v (x5 : Vec Ideal S1x1x128x12288 .bf16) (n : ℕ) (hn : n < 24) (off : Fin 4 → ℕ) (e : off = ![0, 0, 0, 512 * n])
    (inb : ∀ a, off a + S1x1x128x512.size a ≤ S1x1x128x12288.size a) (d : Fin 128) (r : Fin 512) :
    View.ld x5 (Rect.unit (s := S1x1x128x12288) off S1x1x128x512.size inb) (ix4 0 0 d r) = x5 (ix4 0 0 d (key n hn r)) := by
  subst e
  refine congrArg x5 (funext fun a => Fin.ext ?_)
  match a with
  | ⟨0, _⟩ => rfl
  | ⟨1, _⟩ => rfl
  | ⟨2, _⟩ => show 0 + 1 * d.val = d.val; omega
  | ⟨3, _⟩ => show 512 * n + 1 * r.val = 512 * n + r.val; omega

/-- and of queries at a channel and a query. -/
theorem ld_q (x3 : Vec Ideal S1x7x128x512 .bf16) (h : Fin 7) (off : Fin 4 → ℕ) (e : off = ![0, h.val, 0, 0])
    (inb : ∀ a, off a + S1x1x128x512.size a ≤ S1x7x128x512.size a) (d : Fin 128) (w : Fin 512) :
    View.ld x3 (Rect.unit (s := S1x7x128x512) off S1x1x128x512.size inb) (ix4 0 0 d w) = x3 (ix4 0 h d w) := by
  subst e
  refine congrArg x3 (funext fun a => Fin.ext ?_)
  match a with
  | ⟨0, _⟩ => rfl
  | ⟨1, _⟩ => show h.val + 1 * 0 = h.val; omega
  | ⟨2, _⟩ => show 0 + 1 * d.val = d.val; omega
  | ⟨3, _⟩ => show 0 + 1 * w.val = w.val; omega

/-! ## One block of keys -/

section Block

variable (v8 : Vec Ideal S1x1x512x128 .bf16) (v11 v14 : Vec Ideal S1x1x128x512 .bf16) (w : Fin 512)
  (n : ℕ) (hn : n < 24) (s : Fin 12288 → ℝ) (v : Fin 128 → Fin 12288 → EReal)
  (hs : ∀ r : Fin 512, ∑ d : Fin 128, v8 (ix4 0 0 r d) * v14 (ix4 0 0 d w) = ((s (key n hn r) : ℝ) : EReal))
  (hv : ∀ (d : Fin 128) (r : Fin 512), v11 (ix4 0 0 d r) = v d (key n hn r))

include hs in
/-- The largest score of a block. -/
theorem blk_max {M : ℝ} (hM : IsMax (blk n hn) s M) :
    (Finset.univ : Finset (Fin 512)).fold max ⊥ (fun r => k0_pay16 v8 v14 (ix2 r w)) = ((M : ℝ) : EReal) := by
  apply fold_max_eq
  · intro r _
    rw [pay16_apply, hs r]
    exact_mod_cast hM.1 _ (Finset.mem_map.mpr ⟨r, Finset.mem_univ _, rfl⟩)
  · obtain ⟨j, hj, e⟩ := hM.2
    obtain ⟨r, -, rfl⟩ := Finset.mem_map.mp hj
    exact ⟨r, Finset.mem_univ _, by rw [pay16_apply, hs r, e]⟩

include hs in
theorem blk_min {M : ℝ} (hM : IsMin (blk n hn) s M) :
    (Finset.univ : Finset (Fin 512)).fold min ⊤ (fun r => k0_pay16 v8 v14 (ix2 r w)) = ((M : ℝ) : EReal) := by
  apply fold_min_eq
  · intro r _
    rw [pay16_apply, hs r]
    exact_mod_cast hM.1 _ (Finset.mem_map.mpr ⟨r, Finset.mem_univ _, rfl⟩)
  · obtain ⟨j, hj, e⟩ := hM.2
    obtain ⟨r, -, rfl⟩ := Finset.mem_map.mp hj
    exact ⟨r, Finset.mem_univ _, by rw [pay16_apply, hs r, e]⟩

include hs hv in
/-- A whole block taken into the carry. -/
theorem block_step {S : Finset (Fin 12288)} (mx mn l : FVec Ideal S1x512 .f32) (o : FVec Ideal S128x512 .f32) (hd : Disjoint S (blk n hn))
    (h : Carried σ S s v (mx (ix2 0 w)) (mn (ix2 0 w)) (l (ix2 0 w)) (fun d => o (ix2 d w))) :
    Carried σ (S ∪ blk n hn) s v (k0_pay17 mx v8 v14 (ix2 0 w)) (k0_pay18 mn v8 v14 (ix2 0 w)) (k0_pay21 mx l v8 v14 (ix2 0 w))
      (fun d => k0_pay22 mx o v8 v11 v14 (ix2 d w)) := by
  have hne : (blk n hn).Nonempty := ⟨key n hn 0, Finset.mem_map.mpr ⟨0, Finset.mem_univ _, rfl⟩⟩
  obtain ⟨M', hM⟩ := IsMax.exists _ s hne
  obtain ⟨m', hm⟩ := IsMin.exists _ s hne
  have ew : ∀ (N : ℝ), k0_pay17 mx v8 v14 (ix2 0 w) = ((N : ℝ) : EReal) → ∀ r, k0_pay19 mx v8 v14 (ix2 r w) = ((wt σ s N (key n hn r) : ℝ) : EReal) := by
    intro N hN r
    rw [pay19_apply, hN, pay16_apply, hs r, exp2_sub]; rfl
  have es : ∀ (M N : ℝ), mx (ix2 0 w) = ((M : ℝ) : EReal) → k0_pay17 mx v8 v14 (ix2 0 w) = ((N : ℝ) : EReal) →
      k0_pay20 mx v8 v14 (ix2 0 w) = ((Real.exp ((M - N) * σ) : ℝ) : EReal) := by
    intro M N hM hN
    rw [pay20_apply, hN, hM, exp2_sub']
  refine h.step hd hM hm _ _ _ _ ?_ ?_ ?_ ?_
  · rw [pay17_apply, blk_max v8 v14 w n hn s hs hM]
  · rw [pay18_apply, blk_min v8 v14 w n hn s hs hm]
  · intro M N hM hN
    rw [pay21_apply, es M N hM hN, sum_blk]
    congr 1
    exact Finset.sum_congr rfl fun r _ => ew N hN r
  · intro M N hM hN d
    rw [pay22_apply, es M N hM hN, sum_blk]
    congr 1
    exact Finset.sum_congr rfl fun r _ => by rw [ew N hN r, hv]

include hs hv in
/-- The diagonal block, as the first one. -/
theorem block_start :
    Carried σ (seen n w 0) s v (k0_pay9 v8 v14 (ix2 0 w)) (k0_pay10 v8 v14 (ix2 0 w))
      (k0_pay14 k0_pay3 (k0_pay11 v8 v14) (k0_pay12 v8 v14) c2 (ix2 0 w))
      (fun d => k0_pay15 k0_pay4 (k0_pay5 v11) (k0_pay11 v8 v14) (k0_pay12 v8 v14) c2 (ix2 d w)) := by
  have hmem : ∀ r : Fin 512, r ≤ w → key n hn r ∈ seen n w 0 := fun r hr => by
    rw [mem_seen]; rw [Fin.le_def] at hr
    show (512 * n ≤ 512 * n + r.val ∧ 512 * n + r.val ≤ 512 * n + w.val) ∨ 512 * n + r.val < 512 * 0
    omega
  have hkey : ∀ j ∈ seen n w 0, ∃ r : Fin 512, r ≤ w ∧ key n hn r = j := fun j hj => by
    rw [mem_seen] at hj
    exact ⟨⟨j.val - 512 * n, by omega⟩, by rw [Fin.le_def]; show j.val - 512 * n ≤ w.val; omega,
      Fin.ext (by show 512 * n + (j.val - 512 * n) = j.val; omega)⟩
  have hne : (seen n w 0).Nonempty := ⟨key n hn 0, hmem 0 (Fin.zero_le _)⟩
  obtain ⟨M, hM⟩ := IsMax.exists _ s hne
  obtain ⟨m, hm⟩ := IsMin.exists _ s hne
  have h8 : ∀ r : Fin 512, k0_pay8 v8 v14 (ix2 r w) = if r ≤ w then ((s (key n hn r) : ℝ) : EReal) else ⊥ := fun r => by
    rw [pay8_apply, pay6_apply, hs r]
  have h9 : k0_pay9 v8 v14 (ix2 0 w) = ((M : ℝ) : EReal) := by
    rw [pay9_apply, bot_sup_eq]
    apply fold_max_eq
    · intro r _
      rw [h8]
      split
      · rename_i hr
        exact_mod_cast hM.1 _ (hmem r hr)
      · exact bot_le
    · obtain ⟨j, hj, e⟩ := hM.2
      obtain ⟨r, hr, rfl⟩ := hkey j hj
      exact ⟨r, Finset.mem_univ _, by rw [h8, if_pos hr, e]⟩
  have h10 : k0_pay10 v8 v14 (ix2 0 w) = ((m : ℝ) : EReal) := by
    rw [pay10_apply, top_inf_eq]
    apply fold_min_eq
    · intro r _
      rw [pay6_apply, hs r]
      split
      · rename_i hr
        exact_mod_cast hm.1 _ (hmem r hr)
      · exact le_top
    · obtain ⟨j, hj, e⟩ := hm.2
      obtain ⟨r, hr, rfl⟩ := hkey j hj
      exact ⟨r, Finset.mem_univ _, by rw [if_pos hr, pay6_apply, hs r, e]⟩
  have h11 : ∀ r : Fin 512, k0_pay11 v8 v14 (ix2 r w) = if r ≤ w then ((wt σ s M (key n hn r) : ℝ) : EReal) else 0 := fun r => by
    rw [pay11_apply, h8, h9]
    split
    · rw [exp2_sub]; rfl
    · rw [exp2_bot]
  refine ⟨M, m, hM, hm, h9, h10, ?_, fun d => ?_⟩
  · rw [pay14_apply, zero_mul, zero_add, ← sum_coe, sum_seen n hn w]
    exact Finset.sum_congr rfl fun r _ => h11 r
  · rw [pay15_apply, zero_mul, zero_add, sum_seen n hn w]
    refine Finset.sum_congr rfl fun r _ => ?_
    rw [h11, hv]
    split
    · rfl
    · rw [mul_zero]

end Block

/-! ## All the blocks -/

section All

variable (i : grid0.Coords) (x3 : Vec Ideal S1x7x128x512 .bf16) (x4 : Vec Ideal S1x1x12288x128 .bf16) (x5 : Vec Ideal S1x1x128x12288 .bf16)
  (h : Fin 7) (w : Fin 512) (s : Fin 12288 → ℝ)
  (hs : ∀ j : Fin 12288, ∑ d : Fin 128, x4 (ix4 0 0 j d) * x3 (ix4 0 h d w) = ((s j : ℝ) : EReal))

include hs in
theorem upTo_carried : ∀ k : ℕ, k ≤ (i 2).val →
    Carried σ (seen (i 2).val w k) s (fun d j => x5 (ix4 0 0 d j))
      ((upTo i x3 x4 x5 (hd h) (start i x3 x4 x5 (hd h)) k).1 (ix2 0 w)) ((upTo i x3 x4 x5 (hd h) (start i x3 x4 x5 (hd h)) k).2.1 (ix2 0 w))
      ((upTo i x3 x4 x5 (hd h) (start i x3 x4 x5 (hd h)) k).2.2.1 (ix2 0 w)) (fun d => (upTo i x3 x4 x5 (hd h) (start i x3 x4 x5 (hd h)) k).2.2.2 (ix2 d w)) := by
  intro k
  induction k with
  | zero =>
    intro _
    refine block_start _ _ _ w (i 2).val (lt24 i) s _ (fun r => ?_) (fun d r => ?_)
    · rw [← hs]
      refine Finset.sum_congr rfl fun d _ => ?_
      rw [ld_k x4 (i 2).val (lt24 i) _ (off1_eq i), qAt, ld_q x3 h (k0_off3 (hd h)) (off3_eq (hd h))]
    · exact ld_v x5 (i 2).val (lt24 i) _ (off2_eq i) _ d r
  | succ k ih =>
    intro hk
    have hk' : k < (k0_t2_loop i).trips := by rw [trips2]; omega
    have h24 : k < 24 := klt i ⟨k, hk'⟩
    have e := upTo_succ i x3 x4 x5 (hd h) (start i x3 x4 x5 (hd h)) ⟨k, hk'⟩
    simp only at e
    rw [e, seen_succ _ _ _ h24]
    generalize upTo i x3 x4 x5 (hd h) (start i x3 x4 x5 (hd h)) k = a at ih
    refine block_step _ _ _ w k h24 s _ (fun r => ?_) (fun d r => ?_) _ _ _ _ (seen_disjoint _ _ _ _ (by omega)) (ih (by omega))
    · rw [← hs]
      refine Finset.sum_congr rfl fun d _ => ?_
      rw [ld_k x4 k h24 _ (off4_eq i ⟨k, hk'⟩), ld_q x3 h (k0_off6 (hd h)) (off6_eq (hd h))]
    · exact ld_v x5 k h24 _ (off5_eq i ⟨k, hk'⟩) _ d r

/-- The query of column `w` at this grid point. -/
def qi : Fin 12288 := key (i 2).val (lt24 i) w

theorem seen_all : seen (i 2).val w (i 2).val = Finset.univ.filter fun j => j ≤ qi i w := by
  ext j
  rw [mem_seen, Finset.mem_filter, Fin.le_def]
  show _ ↔ _ ∧ j.val ≤ 512 * (i 2).val + w.val
  have := Finset.mem_univ j
  simp only [this, true_and]
  omega

include hs in
theorem last_carried :
    Carried σ (Finset.univ.filter fun j => j ≤ qi i w) s (fun d j => x5 (ix4 0 0 d j))
      ((last i x3 x4 x5 (hd h)).1 (ix2 0 w)) ((last i x3 x4 x5 (hd h)).2.1 (ix2 0 w))
      ((last i x3 x4 x5 (hd h)).2.2.1 (ix2 0 w)) (fun d => (last i x3 x4 x5 (hd h)).2.2.2 (ix2 d w)) := by
  have := upTo_carried i x3 x4 x5 h w s hs (i 2).val le_rfl
  rw [seen_all] at this
  unfold last
  rw [trips2]
  exact this

end All

end Cert.KernelIdeal.Rows

end
-- ==== Proof.ReferenceAt.lean ====
/- The reference's results at an index, over the extended reals. -/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.At

open Cert.ReferenceIdeal Cert.ReferenceIdeal.Gen
open Idealize.ShloMosaic
open Idealize.SL.Sem

variable (q : FVec Ideal S2x56x128x12288 .bf16) (k : FVec Ideal S2x8x12288x128 .bf16) (v : FVec Ideal S2x8x128x12288 .bf16)

theorem ninf : Ideal.ofBits .f32 0xFF800000#32 = ⊥ := by simp [Ideal.ofBits, Ideal.ieee]

/-- The comparison of two small words is that of the numbers. -/
theorem select_sle {α : Type} (n m : ℕ) (hn : n < 2 ^ 31) (hm : m < 2 ^ 31) (a b : α) :
    Scalar.select (IntOp.cmpi .sle (BitVec.ofNat 32 n) (BitVec.ofNat 32 m)) a b = if n ≤ m then a else b := by
  have e1 : (BitVec.ofNat 32 n).toInt = n := by
    rw [BitVec.toInt_eq_toNat_of_lt] <;> simp only [BitVec.toNat_ofNat] <;> omega
  have e2 : (BitVec.ofNat 32 m).toInt = m := by
    rw [BitVec.toInt_eq_toNat_of_lt] <;> simp only [BitVec.toNat_ofNat] <;> omega
  have e : (BitVec.ofNat 32 n).sle (BitVec.ofNat 32 m) = decide (n ≤ m) := by
    rw [BitVec.sle_eq_decide, e1, e2]; simp
  by_cases h : n ≤ m
  · simp [IntOp.cmpi, e, h, Scalar.select]
  · simp [IntOp.cmpi, e, h, Scalar.select]

/-- Which keys (last axis) a query (the axis before) sees. -/
def visible : IVec S2x8x7x12288x12288 1 :=
  broadcastInDim S2x8x7x12288x12288 ![3, 4] bcast_S12288x12288_S2x8x7x12288x12288_3_4 (cmpi .sle (broadcastInDim S12288x12288 ![0, 1] bcast_S1x12288_S12288x12288_0_1 (broadcastInDim S1x12288 ![1] bcast_S12288_S1x12288_1 (iotaInDim S12288 32 0))) (broadcastInDim S12288x12288 ![0, 1] bcast_S12288x1_S12288x12288_0_1 (broadcastInDim S12288x1 ![0] bcast_S12288_S12288x1_0 (iotaInDim S12288 32 0))))

/-- The scaled scores, -/
def scores : FVec Ideal S2x8x7x12288x12288 .f32 :=
  mulf (Host.dotGeneral dot_S2x8x7x128x12288_S2x8x12288x128_S2x8x7x12288x12288_3_3_24_2_01_01 none (shapeCast _ q shapeCasts_S2x56x128x12288_S2x8x7x128x12288) k) (broadcastInDim S2x8x7x12288x12288 ![] bcast_S_S2x8x7x12288x12288 (constant S_ .f32 0x3DB504F3#32))

/-- with the hidden ones at `-∞`, -/
def masked : FVec Ideal S2x8x7x12288x12288 .f32 :=
  select visible (scores q k) (broadcastInDim S2x8x7x12288x12288 ![] bcast_S_S2x8x7x12288x12288 (id (constant S_ .f32 0xFF800000#32)))

/-- their row maxima, -/
def rowMax : FVec Ideal S2x8x7x12288 .f32 :=
  maximumf (broadcastInDim S2x8x7x12288 ![] bcast_S_S2x8x7x12288 (constant S_ .f32 0xFF800000#32)) (Host.reduce FloatOps.maximumf (masked q k) (constant S_ .f32 0xFF800000#32) reducesTo_S2x8x7x12288x12288_S2x8x7x12288_d4 h_S_)

/-- the weights before division, -/
def weights : FVec Ideal S2x8x7x12288x12288 .f32 :=
  Host.exp (subf (masked q k) (broadcastInDim S2x8x7x12288x12288 ![0, 1, 2, 3, 4] bcast_S2x8x7x12288x1_S2x8x7x12288x12288_0_1_2_3_4 (broadcastInDim S2x8x7x12288x1 ![0, 1, 2, 3] bcast_S2x8x7x12288_S2x8x7x12288x1_0_1_2_3 (rowMax q k))))

/-- their row sums, -/
def rowSum : FVec Ideal S2x8x7x12288 .f32 :=
  Host.reduceAdd (weights q k) (constant S_ .f32 0x00000000#32) reducesTo_S2x8x7x12288x12288_S2x8x7x12288_d4 h_S_

/-- the weights, -/
def probs : FVec Ideal S2x8x7x12288x12288 .bf16 :=
  truncf .bf16 (Host.divf (weights q k) (broadcastInDim S2x8x7x12288x12288 ![0, 1, 2, 3, 4] bcast_S2x8x7x12288x1_S2x8x7x12288x12288_0_1_2_3_4 (broadcastInDim S2x8x7x12288x1 ![0, 1, 2, 3] bcast_S2x8x7x12288_S2x8x7x12288x1_0_1_2_3 (rowSum q k)))) bitsLt_bf16_f32

/-- the output -/
def outs : FVec Ideal S2x8x7x128x12288 .f32 :=
  transpose S2x8x7x128x12288 [0, 1, 3, 2, 4] (Host.dotGeneral dot_S2x8x128x12288_S2x8x7x12288x12288_S2x8x128x7x12288_3_4_2_23_01_01 none v (probs q k)) transposes_S2x8x128x7x12288_S2x8x7x128x12288_0_1_3_2_4

/-- and the three results: the output, -/
def res0 : FVec Ideal S2x56x128x12288 .f32 := shapeCast _ (outs q k v) shapeCasts_S2x8x7x128x12288_S2x56x128x12288

/-- the largest visible score in magnitude -/
def res1 : FVec Ideal S2x8x7x12288 .f32 :=
  Host.reduce FloatOps.maximumf (select visible (Host.absf (scores q k)) (broadcastInDim S2x8x7x12288x12288 ![] bcast_S_S2x8x7x12288x12288 (id (constant S_ .f32 0x00000000#32)))) (constant S_ .f32 0xFF800000#32) reducesTo_S2x8x7x12288x12288_S2x8x7x12288_d4 h_S_

/-- and the largest output in magnitude. -/
def res2 : FVec Ideal S2x8x7x12288 .f32 :=
  Host.reduce FloatOps.maximumf (Host.absf (outs q k v)) (constant S_ .f32 0xFF800000#32) reducesTo_S2x8x7x128x12288_S2x8x7x12288_d3 h_S_

open TcCoe in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = res0 (m ((c.tc : Thread nD τ).loc main_arg0)) (m ((c.tc : Thread nD τ).loc main_arg1)) (m ((c.tc : Thread nD τ).loc main_arg2))
      ∧ r.2.mem ((c.tc : Thread nD τ).loc main_v12) = res1 (m ((c.tc : Thread nD τ).loc main_arg0)) (m ((c.tc : Thread nD τ).loc main_arg1))
      ∧ r.2.mem ((c.tc : Thread nD τ).loc main_v29) = res2 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1, (h c).2.1, (h c).2.2⟩) (Cert.ReferenceIdeal.Value.run (F := Ideal) m ρ)

/-- A row maximum at an index. -/
theorem reduce5_apply (X : FVec Ideal S2x8x7x12288x12288 .f32) (b : Fin 2) (g : Fin 8) (r : Fin 7) (i : Fin 12288) :
    Host.reduce FloatOps.maximumf X (constant S_ .f32 0xFF800000#32) reducesTo_S2x8x7x12288x12288_S2x8x7x12288_d4 h_S_ (ix4 b g r i)
      = (Finset.univ : Finset (Fin 12288)).fold max ⊥ fun j => X (ix5 b g r i j) := by
  rw [Host.reduce_eq_fold, ← ninf]
  exact Shape.ReducesTo.fold_fiber_r5_a4 reducesTo_S2x8x7x12288x12288_S2x8x7x12288_d4 _ _ _ _

theorem reduce4_apply (X : FVec Ideal S2x8x7x128x12288 .f32) (b : Fin 2) (g : Fin 8) (r : Fin 7) (i : Fin 12288) :
    Host.reduce FloatOps.maximumf X (constant S_ .f32 0xFF800000#32) reducesTo_S2x8x7x128x12288_S2x8x7x12288_d3 h_S_ (ix4 b g r i)
      = (Finset.univ : Finset (Fin 128)).fold max ⊥ fun d => X (ix5 b g r d i) := by
  pointwise
  rw [ninf]

theorem floor_apply (X : FVec Ideal S2x8x7x12288 .f32) (b : Fin 2) (g : Fin 8) (r : Fin 7) (i : Fin 12288) :
    maximumf (broadcastInDim S2x8x7x12288 ![] bcast_S_S2x8x7x12288 (constant S_ .f32 0xFF800000#32)) X (ix4 b g r i) = max ⊥ (X (ix4 b g r i)) := by
  pointwise
  rw [ninf]

theorem visible_apply {α : Type} (b : Fin 2) (g : Fin 8) (r : Fin 7) (i j : Fin 12288) (x y : α) :
    Scalar.select (visible (ix5 b g r i j)) x y = if j ≤ i then x else y := by
  pointwise [visible]
  rw [select_sle _ _ (by omega) (by omega)]; rfl

/-- The head `7 g + r`. -/
abbrev head (g : Fin 8) (r : Fin 7) : Fin 56 := ⟨g.val * 7 + r.val, by omega⟩

theorem scores_apply (b : Fin 2) (g : Fin 8) (r : Fin 7) (i j : Fin 12288) :
    scores q k (ix5 b g r i j) = (∑ d : Fin 128, q (ix4 b (head g r) d i) * k (ix4 b g j d)) * Ideal.ofBits .f32 0x3DB504F3#32 := by
  pointwise [scores]

theorem masked_apply (b : Fin 2) (g : Fin 8) (r : Fin 7) (i j : Fin 12288) :
    masked q k (ix5 b g r i j) = if j ≤ i then scores q k (ix5 b g r i j) else ⊥ := by
  rw [← ninf, ← visible_apply b g r]; rfl

theorem rowMax_apply (b : Fin 2) (g : Fin 8) (r : Fin 7) (i : Fin 12288) :
    rowMax q k (ix4 b g r i) = max ⊥ ((Finset.univ : Finset (Fin 12288)).fold max ⊥ fun j => masked q k (ix5 b g r i j)) := by
  unfold rowMax
  rw [floor_apply, reduce5_apply]

theorem weights_apply (b : Fin 2) (g : Fin 8) (r : Fin 7) (i j : Fin 12288) :
    weights q k (ix5 b g r i j) = Ideal.exp (masked q k (ix5 b g r i j) - rowMax q k (ix4 b g r i)) := by
  pointwise [weights]

theorem rowSum_apply (b : Fin 2) (g : Fin 8) (r : Fin 7) (i : Fin 12288) :
    rowSum q k (ix4 b g r i) = ∑ j : Fin 12288, weights q k (ix5 b g r i j) := by
  pointwise [rowSum]

theorem probs_apply (b : Fin 2) (g : Fin 8) (r : Fin 7) (i j : Fin 12288) :
    probs q k (ix5 b g r i j) = Ideal.div (weights q k (ix5 b g r i j)) (rowSum q k (ix4 b g r i)) := by
  pointwise [probs]

theorem outs_apply (b : Fin 2) (g : Fin 8) (r : Fin 7) (d : Fin 128) (i : Fin 12288) :
    outs q k v (ix5 b g r d i) = ∑ j : Fin 12288, v (ix4 b g d j) * probs q k (ix5 b g r i j) := by
  pointwise [outs]

theorem res0_apply (b : Fin 2) (g : Fin 8) (r : Fin 7) (d : Fin 128) (i : Fin 12288) :
    res0 q k v (ix4 b (head g r) d i) = outs q k v (ix5 b g r d i) := by
  have e1 : (⟨(g.val * 7 + r.val) / 7, by omega⟩ : Fin 8) = g := Fin.ext (by show (g.val * 7 + r.val) / 7 = g.val; omega)
  have e2 : (⟨(g.val * 7 + r.val) % 7, by omega⟩ : Fin 7) = r := Fin.ext (by show (g.val * 7 + r.val) % 7 = r.val; omega)
  pointwise [res0]
  rw [e1, e2]

theorem res1_apply (b : Fin 2) (g : Fin 8) (r : Fin 7) (i : Fin 12288) :
    res1 q k (ix4 b g r i) = (Finset.univ : Finset (Fin 12288)).fold max ⊥ fun j =>
      if j ≤ i then max (scores q k (ix5 b g r i j)) (-scores q k (ix5 b g r i j)) else 0 := by
  unfold res1
  rw [reduce5_apply]
  congr 1
  funext j
  rw [← visible_apply b g r, ← Ideal.ofBits_zero_f32]; rfl

theorem res2_apply (b : Fin 2) (g : Fin 8) (r : Fin 7) (i : Fin 12288) :
    res2 q k v (ix4 b g r i) = (Finset.univ : Finset (Fin 128)).fold max ⊥ fun d =>
      max (outs q k v (ix5 b g r d i)) (-outs q k v (ix5 b g r d i)) := by
  unfold res2
  rw [reduce4_apply]; rfl

end Cert.ReferenceIdeal.At

end
-- ==== Proof.ReferenceRow.lean ====
/- One query row of the reference at the extended reals, when the scores of the row are real: the output, the largest
   score in magnitude and the largest output in magnitude, in the terms of `Softmax`. -/
module

public import proofs.«01_k».proof.Proof.ReferenceAt
public import proofs.«01_k».proof.Proof.Softmax

@[expose] public section

set_option maxRecDepth 16384

noncomputable section

namespace Cert.ReferenceIdeal.Row

open Cert.ReferenceIdeal Cert.ReferenceIdeal.Gen Cert.ReferenceIdeal.At
open Idealize.ShloMosaic
open Softmax

variable (q : FVec Ideal S2x56x128x12288 .bf16) (k : FVec Ideal S2x8x12288x128 .bf16) (v : FVec Ideal S2x8x128x12288 .bf16)
  (b : Fin 2) (g : Fin 8) (r : Fin 7) (i : Fin 12288) (σ : ℝ) (hσ : 0 < σ) (hscale : Ideal.ofBits .f32 0x3DB504F3#32 = ((σ : ℝ) : EReal))
  (s : Fin 12288 → ℝ) (hs : ∀ j : Fin 12288, ∑ d : Fin 128, q (ix4 b (head g r) d i) * k (ix4 b g j d) = ((s j : ℝ) : EReal))

/-- The keys that query `i` sees. -/
abbrev sees : Finset (Fin 12288) := Finset.univ.filter fun j => j ≤ i

include hscale hs in
theorem scores_real (j : Fin 12288) : scores q k (ix5 b g r i j) = ((s j : ℝ) : EReal) * ((σ : ℝ) : EReal) := by
  rw [scores_apply, hs, hscale]

include hscale hs in
theorem masked_real (j : Fin 12288) : masked q k (ix5 b g r i j) = if j ≤ i then ((s j * σ : ℝ) : EReal) else ⊥ := by
  rw [masked_apply, scores_real q k b g r i σ hscale s hs, EReal.coe_mul]

include hσ hscale hs in
theorem rowMax_real {M : ℝ} (hM : IsMax (sees i) s M) : rowMax q k (ix4 b g r i) = ((M * σ : ℝ) : EReal) := by
  rw [rowMax_apply, bot_sup_eq]
  apply fold_max_eq
  · intro j _
    rw [masked_real q k b g r i σ hscale s hs]
    split
    · rename_i hj
      have := mul_le_mul_of_nonneg_right (hM.1 j (Finset.mem_filter.mpr ⟨Finset.mem_univ _, hj⟩)) hσ.le
      exact EReal.coe_le_coe_iff.mpr this
    · exact bot_le
  · obtain ⟨j, hj, e⟩ := hM.2
    exact ⟨j, Finset.mem_univ _, by rw [masked_real q k b g r i σ hscale s hs, if_pos (Finset.mem_filter.mp hj).2, e]⟩

include hσ hscale hs in
theorem weights_real {M : ℝ} (hM : IsMax (sees i) s M) (j : Fin 12288) :
    weights q k (ix5 b g r i j) = if j ≤ i then ((wt σ s M j : ℝ) : EReal) else 0 := by
  rw [weights_apply, rowMax_real q k b g r i σ hσ hscale s hs hM, masked_real q k b g r i σ hscale s hs]
  split
  · rw [← EReal.coe_sub]
    show ((Real.exp (s j * σ - M * σ) : ℝ) : EReal) = _
    unfold wt
    rw [sub_mul]
  · rw [EReal.bot_sub]; rfl

include hσ hscale hs in
theorem rowSum_real {M : ℝ} (hM : IsMax (sees i) s M) :
    rowSum q k (ix4 b g r i) = ((∑ j ∈ sees i, wt σ s M j : ℝ) : EReal) := by
  rw [rowSum_apply, ← sum_coe, Finset.sum_filter]
  exact Finset.sum_congr rfl fun j _ => weights_real q k b g r i σ hσ hscale s hs hM j

include hσ hscale hs in
/-- The output. -/
theorem outs_real {M : ℝ} (hM : IsMax (sees i) s M) (d : Fin 128) :
    outs q k v (ix5 b g r d i) = ∑ j ∈ sees i, v (ix4 b g d j) * Ideal.div ((wt σ s M j : ℝ) : EReal) ((∑ j ∈ sees i, wt σ s M j : ℝ) : EReal) := by
  rw [outs_apply]
  conv_rhs => rw [Finset.sum_filter]
  refine Finset.sum_congr rfl fun j _ => ?_
  rw [probs_apply, rowSum_real q k b g r i σ hσ hscale s hs hM, weights_real q k b g r i σ hσ hscale s hs hM]
  split
  · rfl
  · have hpos : 0 < ∑ j ∈ sees i, wt σ s M j := by
      obtain ⟨j, hj, -⟩ := hM.2
      exact Finset.sum_pos (fun j _ => wt_pos σ s M j) ⟨j, hj⟩
    have hL : ((∑ j ∈ sees i, wt σ s M j : ℝ) : EReal) ≠ 0 := by exact_mod_cast hpos.ne'
    unfold Ideal.div
    rw [if_neg hL, zero_mul, mul_zero]

section Carried

variable {mx mn l : EReal} {o : Fin 128 → EReal} (h : Carried σ (sees i) s (fun d j => v (ix4 b g d j)) mx mn l o)

include hσ hscale hs h

/-- What was carried over the keys that the query sees gives the reference's output, -/
theorem outs_carried (d : Fin 128) : Ideal.div (o d) l = outs q k v (ix5 b g r d i) := by
  have hM := h.ex
  obtain ⟨M, m, hM, -⟩ := hM
  rw [outs_real q k v b g r i σ hσ hscale s hs hM, h.out hM]

/-- its first result, -/
theorem res0_carried (d : Fin 128) : Ideal.div (o d) l = res0 q k v (ix4 b (head g r) d i) := by
  rw [res0_apply, outs_carried q k v b g r i σ hσ hscale s hs h]

/-- its second -/
theorem res1_carried : max mx (0 - mn) * Ideal.ofBits .f32 0x3DB504F3#32 = res1 q k (ix4 b g r i) := by
  rw [res1_apply, hscale, h.amax hσ.le Finset.univ (Finset.subset_univ _)]
  congr 1
  funext j
  rw [scores_real q k b g r i σ hscale s hs]
  exact if_congr (by simp) rfl rfl

/-- and its third. -/
theorem res2_carried : ((Finset.univ : Finset (Fin 128)).fold max ⊥ fun d => max (Ideal.div (o d) l) (-(Ideal.div (o d) l)))
    = res2 q k v (ix4 b g r i) := by
  rw [res2_apply]
  congr 1
  funext d
  rw [outs_carried q k v b g r i σ hσ hscale s hs h]

end Carried

end Cert.ReferenceIdeal.Row

end
-- ==== Proof.Arrays.lean ====
/- The three result arrays of the kernel at the extended reals are the three results of the reference. -/
module

public import proofs.«01_k».proof.Proof.Rows
public import proofs.«01_k».proof.Proof.ReferenceRow
public import Idealize.ShloMosaic.Lib.Pipeline.Value
public import Idealize.ShloMosaic.Lib.Pipeline.ValueKit.Geometry

@[expose] public section

set_option maxRecDepth 16384

noncomputable section

namespace Cert.KernelIdeal.Arrays

open Cert.KernelIdeal Cert.KernelIdeal.Gen Cert.KernelIdeal.Body Cert.KernelIdeal.Rows Cert.KernelIdeal.At
open Idealize.ShloMosaic Idealize.ShloMosaic.TcCoe
open Idealize.SL.Sem
open Cert.ReferenceIdeal.At (head res0 res1 res2)
open Softmax

theorem row8_eq {F : FTy → Type} [FloatOps F] [Named F] (i : grid0.Coords) (x3 : Vec F S1x7x128x512 .bf16) (x4 : Vec F S1x1x12288x128 .bf16)
    (x5 : Vec F S1x1x128x12288 .bf16) (h : Fin k0_t1_loop.trips) :
    row8 i x3 x4 x5 h = k0_pay1 (k0_pay33 (last i x3 x4 x5 h).2.2.1 (last i x3 x4 x5 h).2.2.2) := by
  unfold row8
  rfl

/-! ## One block -/

section Block

variable (q : Vec Ideal S2x56x128x12288 .bf16) (k : Vec Ideal S2x8x12288x128 .bf16) (v : Vec Ideal S2x8x128x12288 .bf16)
  (hq : ∀ y, ∃ r : ℝ, q y = (r : EReal)) (hk : ∀ y, ∃ r : ℝ, k y = (r : EReal))
  (i : grid0.Coords) (x3 : Vec Ideal S1x7x128x512 .bf16) (x4 : Vec Ideal S1x1x12288x128 .bf16) (x5 : Vec Ideal S1x1x128x12288 .bf16)
  (b : Fin 2) (g : Fin 8)
  (h3 : ∀ (r : Fin 7) (d : Fin 128) (w : Fin 512), x3 (ix4 0 r d w) = q (ix4 b (head g r) d (qi i w)))
  (h4 : ∀ (j : Fin 12288) (d : Fin 128), x4 (ix4 0 0 j d) = k (ix4 b g j d))
  (h5 : ∀ (d : Fin 128) (j : Fin 12288), x5 (ix4 0 0 d j) = v (ix4 b g d j))

include hq hk in
/-- Scores of finite queries and keys are real. -/
theorem scores_exist (r : Fin 7) (n : Fin 12288) :
    ∃ s : Fin 12288 → ℝ, ∀ j, ∑ d : Fin 128, q (ix4 b (head g r) d n) * k (ix4 b g j d) = ((s j : ℝ) : EReal) := by
  choose q' hq' using hq
  choose k' hk' using hk
  refine ⟨fun j => ∑ d : Fin 128, q' (ix4 b (head g r) d n) * k' (ix4 b g j d), fun j => ?_⟩
  rw [← sum_coe]
  exact Finset.sum_congr rfl fun d _ => by rw [hq', hk', EReal.coe_mul]

include hq hk h3 h4 h5 in
/-- What the key loop of a head carries at the end, in the terms of the reference. -/
theorem last_spec (r : Fin 7) (w : Fin 512) : ∃ s : Fin 12288 → ℝ,
    (∀ j, ∑ d : Fin 128, q (ix4 b (head g r) d (qi i w)) * k (ix4 b g j d) = ((s j : ℝ) : EReal)) ∧
    Carried σ (Cert.ReferenceIdeal.Row.sees (qi i w)) s (fun d j => v (ix4 b g d j))
      ((last i x3 x4 x5 (hd r)).1 (ix2 0 w)) ((last i x3 x4 x5 (hd r)).2.1 (ix2 0 w))
      ((last i x3 x4 x5 (hd r)).2.2.1 (ix2 0 w)) (fun d => (last i x3 x4 x5 (hd r)).2.2.2 (ix2 d w)) := by
  obtain ⟨s, hs⟩ := scores_exist q k hq hk b g r (qi i w)
  refine ⟨s, hs, ?_⟩
  have e : (fun (d : Fin 128) (j : Fin 12288) => v (ix4 b g d j)) = fun d j => x5 (ix4 0 0 d j) := by
    funext d j; rw [h5]
  rw [e]
  refine last_carried i x3 x4 x5 r w s fun j => ?_
  rw [← hs]
  exact Finset.sum_congr rfl fun d _ => by rw [h3, h4, mul_comm]

include hq hk h3 h4 h5

theorem out6_spec (r : Fin 7) (d : Fin 128) (w : Fin 512) :
    out6 i x3 x4 x5 (ix4 0 r d w) = res0 q k v (ix4 b (head g r) d (qi i w)) := by
  obtain ⟨s, hs, h⟩ := last_spec q k v hq hk i x3 x4 x5 b g h3 h4 h5 r w
  refine (pay31_apply _ _ d w).trans ?_
  exact Cert.ReferenceIdeal.Row.res0_carried q k v b g r (qi i w) σ σ_pos scale_eq s hs h d

theorem out7_spec (r : Fin 7) (w : Fin 512) :
    out7 i x3 x4 x5 (ix4 0 0 r w) = res1 q k (ix4 b g r (qi i w)) := by
  obtain ⟨s, hs, h⟩ := last_spec q k v hq hk i x3 x4 x5 b g h3 h4 h5 r w
  refine (pay32_apply _ _ w).trans ?_
  exact Cert.ReferenceIdeal.Row.res1_carried q k v b g r (qi i w) σ σ_pos scale_eq s hs h

theorem out8_spec (r : Fin 7) (w : Fin 512) :
    out8 i x3 x4 x5 (ix4 0 0 r w) = res2 q k v (ix4 b g r (qi i w)) := by
  obtain ⟨s, hs, h⟩ := last_spec q k v hq hk i x3 x4 x5 b g h3 h4 h5 r w
  have e := row8_eq i x3 x4 x5 (hd r)
  refine (congrFun e (ix4 (n0 := 1) (n1 := 1) (n2 := 1) 0 0 0 w)).trans ?_
  rw [pay33_apply]
  exact Cert.ReferenceIdeal.Row.res2_carried q k v b g r (qi i w) σ σ_pos scale_eq s hs h

end Block

/-! ## The blocks of the arrays -/

theorem index0 : ∀ t : Fin cfg0.N, win0_0.index t = ![(grid0.coords t 0).val, (grid0.coords t 1).val, 0, (grid0.coords t 2).val] :=
  (by decide +kernel : ∀ t : Fin grid0.N, win0_0.index t = ![(grid0.coords t 0).val, (grid0.coords t 1).val, 0, (grid0.coords t 2).val])
theorem index1 : ∀ t : Fin cfg0.N, win0_1.index t = ![(grid0.coords t 0).val, (grid0.coords t 1).val, 0, 0] :=
  (by decide +kernel : ∀ t : Fin grid0.N, win0_1.index t = ![(grid0.coords t 0).val, (grid0.coords t 1).val, 0, 0])
theorem index2 : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])
theorem index3 : ∀ t : Fin cfg0.N, win0_3.index t = ![(grid0.coords t 0).val, (grid0.coords t 1).val, 0, (grid0.coords t 2).val] :=
  (by decide +kernel : ∀ t : Fin grid0.N, win0_3.index t = ![(grid0.coords t 0).val, (grid0.coords t 1).val, 0, (grid0.coords t 2).val])
theorem index4 : ∀ t : Fin cfg0.N, win0_4.index t = ![(grid0.coords t 0).val, (grid0.coords t 1).val, 0, (grid0.coords t 2).val] :=
  (by decide +kernel : ∀ t : Fin grid0.N, win0_4.index t = ![(grid0.coords t 0).val, (grid0.coords t 1).val, 0, (grid0.coords t 2).val])
theorem index5 : ∀ t : Fin cfg0.N, win0_5.index t = ![(grid0.coords t 0).val, (grid0.coords t 1).val, 0, (grid0.coords t 2).val] :=
  (by decide +kernel : ∀ t : Fin grid0.N, win0_5.index t = ![(grid0.coords t 0).val, (grid0.coords t 1).val, 0, (grid0.coords t 2).val])

theorem covers3 : (cfg0.win 3).Covers := (by decide +kernel : win0_3.Covers)
theorem covers4 : (cfg0.win 4).Covers := (by decide +kernel : win0_4.Covers)
theorem covers5 : (cfg0.win 5).Covers := (by decide +kernel : win0_5.Covers)

variable (m : (ℓ : Loc nD τ sig) → Buf (Elt Ideal) ℓ) (c : Dev nD) (t : Fin cfg0.N)

/-- The batch of a grid point -/
abbrev bAt : Fin 2 := grid0.coords t 0
/-- and its group. -/
abbrev gAt : Fin 8 := grid0.coords t 1

/-- The queries, keys and values as launched. -/
abbrev qA : Vec Ideal S2x56x128x12288 .bf16 := m ((c : Thread nD τ).loc main_arg0)
abbrev kA : Vec Ideal S2x8x12288x128 .bf16 := m ((c : Thread nD τ).loc main_arg1)
abbrev vA : Vec Ideal S2x8x128x12288 .bf16 := m ((c : Thread nD τ).loc main_arg2)

theorem emb0 (r : Fin 7) (d : Fin 128) (w : Fin 512) :
    ((cfg0.win 0).blk t).view.emb (ix4 (n0 := 1) 0 r d w) = (ix4 (bAt t) (head (gAt t) r) d (qi (grid0.coords t) w) : S2x56x128x12288.Idx) := by
  have e := index0 t
  refine funext fun a => Fin.ext ?_
  match a with
  | ⟨0, _⟩ => show win0_0.index t 0 * 1 + 1 * 0 = (grid0.coords t 0).val; rw [e]; show (grid0.coords t 0).val * 1 + 1 * 0 = _; omega
  | ⟨1, _⟩ => show win0_0.index t 1 * 7 + 1 * r.val = (grid0.coords t 1).val * 7 + r.val; rw [e]; show (grid0.coords t 1).val * 7 + 1 * r.val = _; omega
  | ⟨2, _⟩ => show win0_0.index t 2 * 128 + 1 * d.val = d.val; rw [e]; show 0 * 128 + 1 * d.val = d.val; omega
  | ⟨3, _⟩ => show win0_0.index t 3 * 512 + 1 * w.val = 512 * (grid0.coords t 2).val + w.val; rw [e]; show (grid0.coords t 2).val * 512 + 1 * w.val = _; omega

theorem emb3 (r : Fin 7) (d : Fin 128) (w : Fin 512) :
    ((cfg0.win 3).blk t).view.emb (ix4 (n0 := 1) 0 r d w) = (ix4 (bAt t) (head (gAt t) r) d (qi (grid0.coords t) w) : S2x56x128x12288.Idx) := by
  have e := index3 t
  refine funext fun a => Fin.ext ?_
  match a with
  | ⟨0, _⟩ => show win0_3.index t 0 * 1 + 1 * 0 = (grid0.coords t 0).val; rw [e]; show (grid0.coords t 0).val * 1 + 1 * 0 = _; omega
  | ⟨1, _⟩ => show win0_3.index t 1 * 7 + 1 * r.val = (grid0.coords t 1).val * 7 + r.val; rw [e]; show (grid0.coords t 1).val * 7 + 1 * r.val = _; omega
  | ⟨2, _⟩ => show win0_3.index t 2 * 128 + 1 * d.val = d.val; rw [e]; show 0 * 128 + 1 * d.val = d.val; omega
  | ⟨3, _⟩ => show win0_3.index t 3 * 512 + 1 * w.val = 512 * (grid0.coords t 2).val + w.val; rw [e]; show (grid0.coords t 2).val * 512 + 1 * w.val = _; omega

theorem emb1 (j : Fin 12288) (d : Fin 128) :
    ((cfg0.win 1).blk t).view.emb (ix4 (n0 := 1) (n1 := 1) 0 0 j d) = (ix4 (bAt t) (gAt t) j d : S2x8x12288x128.Idx) := by
  have e := index1 t
  refine funext fun a => Fin.ext ?_
  match a with
  | ⟨0, _⟩ => show win0_1.index t 0 * 1 + 1 * 0 = (grid0.coords t 0).val; rw [e]; show (grid0.coords t 0).val * 1 + 1 * 0 = _; omega
  | ⟨1, _⟩ => show win0_1.index t 1 * 1 + 1 * 0 = (grid0.coords t 1).val; rw [e]; show (grid0.coords t 1).val * 1 + 1 * 0 = _; omega
  | ⟨2, _⟩ => show win0_1.index t 2 * 12288 + 1 * j.val = j.val; rw [e]; show 0 * 12288 + 1 * j.val = j.val; omega
  | ⟨3, _⟩ => show win0_1.index t 3 * 128 + 1 * d.val = d.val; rw [e]; show 0 * 128 + 1 * d.val = d.val; omega

theorem emb2 (d : Fin 128) (j : Fin 12288) :
    ((cfg0.win 2).blk t).view.emb (ix4 (n0 := 1) (n1 := 1) 0 0 d j) = (ix4 (bAt t) (gAt t) d j : S2x8x128x12288.Idx) := by
  have e := index2 t
  refine funext fun a => Fin.ext ?_
  match a with
  | ⟨0, _⟩ => show win0_2.index t 0 * 1 + 1 * 0 = (grid0.coords t 0).val; rw [e]; show (grid0.coords t 0).val * 1 + 1 * 0 = _; omega
  | ⟨1, _⟩ => show win0_2.index t 1 * 1 + 1 * 0 = (grid0.coords t 1).val; rw [e]; show (grid0.coords t 1).val * 1 + 1 * 0 = _; omega
  | ⟨2, _⟩ => show win0_2.index t 2 * 128 + 1 * d.val = d.val; rw [e]; show 0 * 128 + 1 * d.val = d.val; omega
  | ⟨3, _⟩ => show win0_2.index t 3 * 12288 + 1 * j.val = j.val; rw [e]; show 0 * 12288 + 1 * j.val = j.val; omega

theorem emb4 (r : Fin 7) (w : Fin 512) :
    ((cfg0.win 4).blk t).view.emb (ix4 (n0 := 1) (n1 := 1) 0 0 r w) = (ix4 (bAt t) (gAt t) r (qi (grid0.coords t) w) : S2x8x7x12288.Idx) := by
  have e := index4 t
  refine funext fun a => Fin.ext ?_
  match a with
  | ⟨0, _⟩ => show win0_4.index t 0 * 1 + 1 * 0 = (grid0.coords t 0).val; rw [e]; show (grid0.coords t 0).val * 1 + 1 * 0 = _; omega
  | ⟨1, _⟩ => show win0_4.index t 1 * 1 + 1 * 0 = (grid0.coords t 1).val; rw [e]; show (grid0.coords t 1).val * 1 + 1 * 0 = _; omega
  | ⟨2, _⟩ => show win0_4.index t 2 * 7 + 1 * r.val = r.val; rw [e]; show 0 * 7 + 1 * r.val = r.val; omega
  | ⟨3, _⟩ => show win0_4.index t 3 * 512 + 1 * w.val = 512 * (grid0.coords t 2).val + w.val; rw [e]; show (grid0.coords t 2).val * 512 + 1 * w.val = _; omega

theorem emb5 (r : Fin 7) (w : Fin 512) :
    ((cfg0.win 5).blk t).view.emb (ix4 (n0 := 1) (n1 := 1) 0 0 r w) = (ix4 (bAt t) (gAt t) r (qi (grid0.coords t) w) : S2x8x7x12288.Idx) := by
  have e := index5 t
  refine funext fun a => Fin.ext ?_
  match a with
  | ⟨0, _⟩ => show win0_5.index t 0 * 1 + 1 * 0 = (grid0.coords t 0).val; rw [e]; show (grid0.coords t 0).val * 1 + 1 * 0 = _; omega
  | ⟨1, _⟩ => show win0_5.index t 1 * 1 + 1 * 0 = (grid0.coords t 1).val; rw [e]; show (grid0.coords t 1).val * 1 + 1 * 0 = _; omega
  | ⟨2, _⟩ => show win0_5.index t 2 * 7 + 1 * r.val = r.val; rw [e]; show 0 * 7 + 1 * r.val = r.val; omega
  | ⟨3, _⟩ => show win0_5.index t 3 * 512 + 1 * w.val = 512 * (grid0.coords t 2).val + w.val; rw [e]; show (grid0.coords t 2).val * 512 + 1 * w.val = _; omega

theorem iblk0 (r : Fin 7) (d : Fin 128) (w : Fin 512) :
    iblk m c 0 t (ix4 (n0 := 1) 0 r d w) = qA m c (ix4 (bAt t) (head (gAt t) r) d (qi (grid0.coords t) w)) := by
  rw [← emb0]; rfl
theorem iblk1 (j : Fin 12288) (d : Fin 128) :
    iblk m c 1 t (ix4 (n0 := 1) (n1 := 1) 0 0 j d) = kA m c (ix4 (bAt t) (gAt t) j d) := by
  rw [← emb1]; rfl
theorem iblk2 (d : Fin 128) (j : Fin 12288) :
    iblk m c 2 t (ix4 (n0 := 1) (n1 := 1) 0 0 d j) = vA m c (ix4 (bAt t) (gAt t) d j) := by
  rw [← emb2]; rfl

/-! ## The arrays -/

variable (hq : ∀ y, ∃ r : ℝ, qA m c y = (r : EReal)) (hk : ∀ y, ∃ r : ℝ, kA m c y = (r : EReal))

/-- An index of a block of the first output from its coordinates, -/
theorem split3 (y : S1x7x128x512.Idx) : y = ix4 (n0 := 1) 0 (y 1) (y 2) (y 3) := by
  funext a
  match a with
  | ⟨0, _⟩ => exact Subsingleton.elim (α := Fin 1) _ _
  | ⟨1, _⟩ => rfl
  | ⟨2, _⟩ => rfl
  | ⟨3, _⟩ => rfl

/-- and of the two others. -/
theorem split4 (y : S1x1x7x512.Idx) : y = ix4 (n0 := 1) (n1 := 1) 0 0 (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

include hq hk

/-- The attention output, -/
theorem final3 : (dats m 0 c).arrAt 3 cfg0.N = res0 (qA m c) (kA m c) (vA m c) := by
  refine (dats m 0 c).arrAt_eq_of_covers 3 _ covers3 fun t _ y => ?_
  have h := out6_spec (qA m c) (kA m c) (vA m c) hq hk (grid0.coords t) _ _ _ (bAt t) (gAt t) (iblk0 m c t) (iblk1 m c t) (iblk2 m c t) (y 1) (y 2) (y 3)
  have ey : y = _ := split3 y
  rw [after0_3]
  have e2 := (congrArg ((cfg0.win 3).blk t).view.emb ey).trans (emb3 t (y 1) (y 2) (y 3))
  exact (congrArg (out6 (grid0.coords t) (iblk m c 0 t) (iblk m c 1 t) (iblk m c 2 t)) ey).trans (h.trans (congrArg (res0 (qA m c) (kA m c) (vA m c)) e2.symm))

/-- the largest scores in magnitude -/
theorem final4 : (dats m 0 c).arrAt 4 cfg0.N = res1 (qA m c) (kA m c) := by
  refine (dats m 0 c).arrAt_eq_of_covers 4 _ covers4 fun t _ y => ?_
  have h := out7_spec (qA m c) (kA m c) (vA m c) hq hk (grid0.coords t) _ _ _ (bAt t) (gAt t) (iblk0 m c t) (iblk1 m c t) (iblk2 m c t) (y 2) (y 3)
  have ey : y = _ := split4 y
  rw [after0_4]
  have e2 := (congrArg ((cfg0.win 4).blk t).view.emb ey).trans (emb4 t (y 2) (y 3))
  exact (congrArg (out7 (grid0.coords t) (iblk m c 0 t) (iblk m c 1 t) (iblk m c 2 t)) ey).trans (h.trans (congrArg (res1 (qA m c) (kA m c)) e2.symm))

/-- and the largest outputs in magnitude. -/
theorem final5 : (dats m 0 c).arrAt 5 cfg0.N = res2 (qA m c) (kA m c) (vA m c) := by
  refine (dats m 0 c).arrAt_eq_of_covers 5 _ covers5 fun t _ y => ?_
  have h := out8_spec (qA m c) (kA m c) (vA m c) hq hk (grid0.coords t) _ _ _ (bAt t) (gAt t) (iblk0 m c t) (iblk1 m c t) (iblk2 m c t) (y 2) (y 3)
  have ey : y = _ := split4 y
  rw [after0_5]
  have e2 := (congrArg ((cfg0.win 5).blk t).view.emb ey).trans (emb5 t (y 2) (y 3))
  exact (congrArg (out8 (grid0.coords t) (iblk m c 0 t) (iblk m c 1 t) (iblk m c 2 t)) ey).trans (h.trans (congrArg (res2 (qA m c) (kA m c) (vA m c)) e2.symm))

end Cert.KernelIdeal.Arrays

end
-- ==== Proof.Finite.lean ====
/- The precondition read: the entries of q and of k are real numbers. -/
module

public import proofs.«01_k».proof.Proof.Gen.Pre_finite_scores
public import proofs.«01_k».proof.Proof.KernelAt
public import Idealize.ShloMosaic.Lib.ReduceAll

@[expose] public section

set_option maxRecDepth 16384

noncomputable section

namespace Cert.Pre_finite_scores.Finite

open Cert.Pre_finite_scores Cert.Pre_finite_scores.Gen
open Idealize.ShloMosaic

/-- An extended real of magnitude below `⊤` is real. -/
theorem real_of_lt (x : EReal) (h : max x (-x) < ⊤) : ∃ r : ℝ, x = (r : EReal) := by
  induction x with
  | bot => simp at h
  | coe r => exact ⟨r, rfl⟩
  | top => simp at h

/-- The comparison of a magnitude with `⊤`. -/
theorem real_of_cmp (x : EReal) (h : Ideal.cmp .olt (max x (-x)) (Ideal.ofBits .f32 0x7F800000#32) = 1#1) : ∃ r : ℝ, x = (r : EReal) := by
  rw [Cert.KernelIdeal.At.pinf] at h
  refine real_of_lt x ?_
  by_contra hn
  rw [show Ideal.cmp .olt (max x (-x)) ⊤ = BitVec.ofBool (decide (max x (-x) < ⊤)) from rfl, decide_eq_false hn] at h
  exact absurd h (by decide)

instance : Subsingleton S_.Idx := ⟨fun a b => funext fun i => i.elim0⟩

variable (q : FVec Ideal S2x56x128x12288 .bf16) (k : FVec Ideal S2x8x12288x128 .bf16) (v : FVec Ideal S2x8x128x12288 .bf16)
  (h : fn (F := Ideal) q k v = fun _ => 1#1)

include h

theorem q_real (y : S2x56x128x12288.Idx) : ∃ r : ℝ, q y = (r : EReal) := by
  have h0 := congrFun h (fun i => i.elim0)
  have h1 := (IntOp.andi_eq_one.1 h0).1
  exact real_of_cmp _ (Host.reduce_andi_all _ _ _ _ _ h1 y)

theorem k_real (y : S2x8x12288x128.Idx) : ∃ r : ℝ, k y = (r : EReal) := by
  have h0 := congrFun h (fun i => i.elim0)
  have h1 := (IntOp.andi_eq_one.1 h0).2
  exact real_of_cmp _ (Host.reduce_andi_all _ _ _ _ _ h1 y)

end Cert.Pre_finite_scores.Finite

end
-- ==== Proof.HeadMax.lean ====
/- The largest entry of a head over batches and positions, and how it comes out of the two batches one after the other. -/
module

public import Idealize.ShloMosaic.Lib.Pointwise
public import Idealize.ShloMosaic.Lib.ValueIdxCoords
public import Idealize.ShloMosaic.PureOps.Ideal

@[expose] public section

noncomputable section

namespace HeadMax

open Idealize.ShloMosaic

/-- The largest entry of head `h` of an array of `n` heads. -/
def headMax {n : Nat} (X : (⟨3, ![2, n, 12288]⟩ : Shape).Idx → EReal) (h : Fin n) : EReal :=
  (Finset.univ : Finset (Fin 2 × Fin 12288)).fold max ⊥ fun k => X (ix3 k.1 h k.2)

/-- Where the largest entries of all heads start from is below everything. -/
theorem ninf : Ideal.ofBits .f32 0xFF800000#32 = (⊥ : EReal) := by
  simp [Ideal.ofBits, Ideal.ieee]

/-- The larger of the two batches' largest entries is the largest entry. -/
theorem headMax_eq {n : Nat} (X : (⟨3, ![2, n, 12288]⟩ : Shape).Idx → EReal) (h : Fin n) :
    max ((Finset.univ : Finset (Fin 12288)).fold max ⊥ fun s => X (ix3 0 h s))
      ((Finset.univ : Finset (Fin 12288)).fold max ⊥ fun s => X (ix3 1 h s)) = headMax X h := by
  refine eq_of_forall_ge_iff fun c => ?_
  simp only [headMax, max_le_iff, Finset.fold_max_le, Finset.mem_univ, forall_true_left, bot_le, true_and, Prod.forall,
    Fin.forall_fin_two]

/-- The indices that agree with `j` on the axis that a reduction over the first and the last axis keeps. -/
theorem fiber {n0 n1 n2 : Nat} (t : Shape) (h : (⟨3, ![n0, n1, n2]⟩ : Shape).ReducesTo [0, 2] t) (hr : t.rank = 1) (j : t.Idx) (a : Fin n1)
    (ha : a.val = (j ⟨0, by omega⟩).val) (i : (⟨3, ![n0, n1, n2]⟩ : Shape).Idx) :
    h.drop i = j ↔ ∃ k : Fin n0 × Fin n2, ix3 k.1 a k.2 = i := by
  constructor
  · intro e
    refine ⟨(i 0, i 2), ?_⟩
    funext b; apply Fin.ext
    match b with
    | ⟨0, _⟩ => rfl
    | ⟨1, _⟩ => exact ha.trans (congrArg Fin.val (congrFun e ⟨0, by omega⟩)).symm
    | ⟨2, _⟩ => rfl
  · rintro ⟨k, rfl⟩
    funext b
    apply Fin.ext
    match b with
    | ⟨0, _⟩ => exact ha
    | ⟨_ + 1, hb⟩ => exact absurd hb (by omega)

/-- A largest entry over the first and the last axis, at an index of the kept axis. -/
theorem fold_fiber {n0 n1 n2 : Nat} (t : Shape) (h : (⟨3, ![n0, n1, n2]⟩ : Shape).ReducesTo [0, 2] t) (hr : t.rank = 1) (j : t.Idx) (a : Fin n1)
    (ha : a.val = (j ⟨0, by omega⟩).val) {α : Type*} (op : α → α → α) [Std.Commutative op] [Std.Associative op] (b : α)
    (v : (⟨3, ![n0, n1, n2]⟩ : Shape).Idx → α) :
    (Finset.univ.filter fun i => h.drop i = j).fold op b v = (Finset.univ : Finset (Fin n0 × Fin n2)).fold op b fun k => v (ix3 k.1 a k.2) :=
  Finset.fold_filter_eq_fold_of_fiber op _ (fun k : Fin n0 × Fin n2 => ix3 k.1 a k.2)
    (fun _ _ e => Prod.ext (congrFun e 0) (congrFun e 2)) (fiber t h hr j a ha) b v

end HeadMax
-- ==== Proof.AmaxValue.lean ====
/- The five arrays that the call for the maxima leaves: the largest entry of each head over batches and positions. -/
module

public import proofs.«01_k».proof.Proof.Gen.AmaxIdeal.Value
public import proofs.«01_k».proof.Proof.HeadMax
public import Idealize.ShloMosaic.Lib.Pipeline.ValueKit.Geometry
public import Idealize.ShloMosaic.Lib.Pointwise
public import Idealize.ShloMosaic.Lib.Tactic

@[expose] public section

set_option maxRecDepth 16384

noncomputable section

namespace Cert.AmaxIdeal.At

open Cert.AmaxIdeal Cert.AmaxIdeal.Gen
open Idealize.ShloMosaic Idealize.ShloMosaic.TcCoe
open Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

section Points

variable {F : FTy → Type} [FloatOps F]
variable (m : (ℓ : Loc nD τ sig) → Buf (Elt F) ℓ) (c : Dev nD)

theorem z0 : (0 : ℕ) % 2 = 0 := rfl
theorem z1 : ¬(0 : ℕ) % 2 = 1 := by decide
theorem o0 : ¬(1 : ℕ) % 2 = 0 := by decide
theorem o1 : (1 : ℕ) % 2 = 1 := rfl

/-- After the first point each output holds the largest entry of each row of the first block. -/
theorem first (h : 0 < cfg0.N) : outsAt0 m c 0 h =
    (k0_pay6 (iblk m c 0 ⟨0, h⟩), k0_pay8 (iblk m c 1 ⟨0, h⟩), k0_pay10 (iblk m c 2 ⟨0, h⟩),
      k0_pay2 (iblk m c 3 ⟨0, h⟩), k0_pay4 (iblk m c 4 ⟨0, h⟩)) := by
  refine (outsAt0_A m c ⟨0, h⟩ z0 z1 z0 z1 z0 z1 z0 z1 z0 z1).trans ?_
  refine Prod.ext ?_ (Prod.ext ?_ (Prod.ext ?_ (Prod.ext ?_ ?_))) <;> dsimp only
  · unfold out0_A_5; refine (View.read_writes_eq_canon _ _ _ (fun y => by apply cover0_A_5)).trans ?_
    unfold kernelRun0_A; dsimp only; sl_unfold_words; rw [View.canon_unit_zero hz]; simp only [View.readAt_eq_ld, Memref.IsWhole.read_unread, View.ld_unit_zero (S := S1x56x12288) hz3, View.ld_unit_zero (S := S56x1) hz]
  · unfold out0_A_6; refine (View.read_writes_eq_canon _ _ _ (fun y => by apply cover0_A_6)).trans ?_
    unfold kernelRun0_A; dsimp only; sl_unfold_words; rw [View.canon_unit_zero hz]; simp only [View.readAt_eq_ld, Memref.IsWhole.read_unread, View.ld_unit_zero (S := S1x8x12288) hz3, View.ld_unit_zero (S := S8x1) hz]
  · unfold out0_A_7; refine (View.read_writes_eq_canon _ _ _ (fun y => by apply cover0_A_7)).trans ?_
    unfold kernelRun0_A; dsimp only; sl_unfold_words; rw [View.canon_unit_zero hz]; simp only [View.readAt_eq_ld, Memref.IsWhole.read_unread, View.ld_unit_zero (S := S1x8x12288) hz3, View.ld_unit_zero (S := S8x1) hz]
  · unfold out0_A_8; refine (View.read_writes_eq_canon _ _ _ (fun y => by apply cover0_A_8)).trans ?_
    unfold kernelRun0_A; dsimp only; sl_unfold_words; rw [View.canon_unit_zero hz]; simp only [View.readAt_eq_ld, Memref.IsWhole.read_unread, View.ld_unit_zero (S := S1x56x12288) hz3, View.ld_unit_zero (S := S56x1) hz]
  · unfold out0_A_9; refine (View.read_writes_eq_canon _ _ _ (fun y => by apply cover0_A_9)).trans ?_
    unfold kernelRun0_A; dsimp only; sl_unfold_words; rw [View.canon_unit_zero hz]; simp only [View.readAt_eq_ld, Memref.IsWhole.read_unread, View.ld_unit_zero (S := S1x56x12288) hz3, View.ld_unit_zero (S := S56x1) hz]

/-- After the second point each output holds the larger of what it held and the largest entry of each row of the second block. -/
theorem second (h : 1 < cfg0.N) : outsAt0 m c 1 h =
    (k0_pay7 (iblk m c 0 ⟨1, h⟩) (outsAt0 m c 0 (by omega)).1, k0_pay9 (iblk m c 1 ⟨1, h⟩) (outsAt0 m c 0 (by omega)).2.1,
      k0_pay1 (k0_pay10 (iblk m c 2 ⟨1, h⟩)) (outsAt0 m c 0 (by omega)).2.2.1,
      k0_pay3 (iblk m c 3 ⟨1, h⟩) (outsAt0 m c 0 (by omega)).2.2.2.1,
      k0_pay5 (iblk m c 4 ⟨1, h⟩) (outsAt0 m c 0 (by omega)).2.2.2.2) := by
  refine (outsAt0_B m c ⟨1, h⟩ o0 o1 o0 o1 o0 o1 o0 o1 o0 o1).trans ?_
  refine Prod.ext ?_ (Prod.ext ?_ (Prod.ext ?_ (Prod.ext ?_ ?_))) <;> dsimp only
  · unfold out0_B_5; refine (View.read_writes_eq_canon _ _ _ (fun y => by apply cover0_B_5)).trans ?_
    unfold kernelRun0_B; dsimp only; sl_unfold_words; rw [View.canon_unit_zero hz]; simp only [View.readAt_eq_ld, Memref.IsWhole.read_unread, View.ld_unit_zero (S := S1x56x12288) hz3, View.ld_unit_zero (S := S56x1) hz]
  · unfold out0_B_6; refine (View.read_writes_eq_canon _ _ _ (fun y => by apply cover0_B_6)).trans ?_
    unfold kernelRun0_B; dsimp only; sl_unfold_words; rw [View.canon_unit_zero hz]; simp only [View.readAt_eq_ld, Memref.IsWhole.read_unread, View.ld_unit_zero (S := S1x8x12288) hz3, View.ld_unit_zero (S := S8x1) hz]
  · unfold out0_B_7; refine (View.read_writes_eq_canon _ _ _ (fun y => by apply cover0_B_7)).trans ?_
    unfold kernelRun0_B; dsimp only; sl_unfold_words; rw [View.canon_unit_zero hz]; simp only [View.readAt_eq_ld, Memref.IsWhole.read_unread, View.ld_unit_zero (S := S1x8x12288) hz3, View.ld_unit_zero (S := S8x1) hz]
  · unfold out0_B_8; refine (View.read_writes_eq_canon _ _ _ (fun y => by apply cover0_B_8)).trans ?_
    unfold kernelRun0_B; dsimp only; sl_unfold_words; rw [View.canon_unit_zero hz]; simp only [View.readAt_eq_ld, Memref.IsWhole.read_unread, View.ld_unit_zero (S := S1x56x12288) hz3, View.ld_unit_zero (S := S56x1) hz]
  · unfold out0_B_9; refine (View.read_writes_eq_canon _ _ _ (fun y => by apply cover0_B_9)).trans ?_
    unfold kernelRun0_B; dsimp only; sl_unfold_words; rw [View.canon_unit_zero hz]; simp only [View.readAt_eq_ld, Memref.IsWhole.read_unread, View.ld_unit_zero (S := S1x56x12288) hz3, View.ld_unit_zero (S := S56x1) hz]

end Points

/-! ## At the extended reals -/

section Ideal

open HeadMax

/-- The largest entry of each row of a block of fifty-six heads -/
theorem pay6_apply (x : Vec Ideal S1x56x12288 .f32) (h : Fin 56) :
    k0_pay6 x (ix2 (n1 := 1) h 0) = (Finset.univ : Finset (Fin 12288)).fold max ⊥ fun s => x (ix3 0 h s) := by
  pointwise [k0_pay6]
  rw [ninf]

/-- and of eight. -/
theorem pay8_apply (x : Vec Ideal S1x8x12288 .f32) (h : Fin 8) :
    k0_pay8 x (ix2 (n1 := 1) h 0) = (Finset.univ : Finset (Fin 12288)).fold max ⊥ fun s => x (ix3 0 h s) := by
  pointwise [k0_pay8]
  rw [ninf]

/-- A head of an output after both points, of fifty-six heads -/
theorem pay7_apply (x0 x1 : Vec Ideal S1x56x12288 .f32) (h : Fin 56) :
    k0_pay7 x1 (k0_pay6 x0) (ix2 (n1 := 1) h 0) = max ((Finset.univ : Finset (Fin 12288)).fold max ⊥ fun s => x0 (ix3 0 h s))
      ((Finset.univ : Finset (Fin 12288)).fold max ⊥ fun s => x1 (ix3 0 h s)) := by
  have e : k0_pay7 x1 (k0_pay6 x0) = maximumf (k0_pay6 x0) (k0_pay6 x1) := by
    unfold k0_pay7; simp only [shapeCast_self]
  refine (congrFun e _).trans ((maximumf_apply _ _ _).trans ?_)
  rw [pay6_apply, pay6_apply]
  rfl

/-- and of eight. -/
theorem pay9_apply (x0 x1 : Vec Ideal S1x8x12288 .f32) (h : Fin 8) :
    k0_pay9 x1 (k0_pay8 x0) (ix2 (n1 := 1) h 0) = max ((Finset.univ : Finset (Fin 12288)).fold max ⊥ fun s => x0 (ix3 0 h s))
      ((Finset.univ : Finset (Fin 12288)).fold max ⊥ fun s => x1 (ix3 0 h s)) := by
  have e : k0_pay9 x1 (k0_pay8 x0) = maximumf (k0_pay8 x0) (k0_pay8 x1) := by
    unfold k0_pay9; simp only [shapeCast_self]
  refine (congrFun e _).trans ((maximumf_apply _ _ _).trans ?_)
  rw [pay8_apply, pay8_apply]
  rfl

/-- What an output holds after both points: the largest entry of each head. -/
theorem both56 (X : FVec Ideal S2x56x12288 .f32) (x0 x1 : Vec Ideal S1x56x12288 .f32) (h0 : ∀ h s, x0 (ix3 0 h s) = X (ix3 0 h s))
    (h1 : ∀ h s, x1 (ix3 0 h s) = X (ix3 1 h s)) : k0_pay7 x1 (k0_pay6 x0) = fun y => headMax X (y 0) := by
  funext y
  have ey : y = ix2 (n1 := 1) (y 0) 0 := by
    funext a
    match a with
    | ⟨0, _⟩ => rfl
    | ⟨1, _⟩ => exact Subsingleton.elim (α := Fin 1) _ _
  refine Eq.trans ?_ (headMax_eq X (y 0))
  refine (congrArg (k0_pay7 x1 (k0_pay6 x0)) ey).trans ?_
  refine (pay7_apply _ _ (y 0)).trans ?_
  rw [show (fun s => x0 (ix3 0 (y 0) s)) = _ from funext fun s => h0 (y 0) s, show (fun s => x1 (ix3 0 (y 0) s)) = _ from funext fun s => h1 (y 0) s]

/-- The same for eight heads. -/
theorem both8 (X : FVec Ideal S2x8x12288 .f32) (x0 x1 : Vec Ideal S1x8x12288 .f32) (h0 : ∀ h s, x0 (ix3 0 h s) = X (ix3 0 h s))
    (h1 : ∀ h s, x1 (ix3 0 h s) = X (ix3 1 h s)) : k0_pay9 x1 (k0_pay8 x0) = fun y => headMax X (y 0) := by
  funext y
  have ey : y = ix2 (n1 := 1) (y 0) 0 := by
    funext a
    match a with
    | ⟨0, _⟩ => rfl
    | ⟨1, _⟩ => exact Subsingleton.elim (α := Fin 1) _ _
  refine Eq.trans ?_ (headMax_eq X (y 0))
  refine (congrArg (k0_pay9 x1 (k0_pay8 x0)) ey).trans ?_
  refine (pay9_apply _ _ (y 0)).trans ?_
  rw [show (fun s => x0 (ix3 0 (y 0) s)) = _ from funext fun s => h0 (y 0) s, show (fun s => x1 (ix3 0 (y 0) s)) = _ from funext fun s => h1 (y 0) s]

/-! ## The arrays -/

variable (m : (ℓ : Loc nD τ sig) → Buf (Elt Ideal) ℓ) (c : Dev nD)

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![t.val, 0, 0] :=
  (by decide +kernel : ∀ t : Fin grid0.N, win0_1.index t = ![t.val, 0, 0])
theorem index2 : ∀ t : Fin cfg0.N, win0_2.index t = ![t.val, 0, 0] :=
  (by decide +kernel : ∀ t : Fin grid0.N, win0_2.index t = ![t.val, 0, 0])
theorem index3 : ∀ t : Fin cfg0.N, win0_3.index t = ![t.val, 0, 0] :=
  (by decide +kernel : ∀ t : Fin grid0.N, win0_3.index t = ![t.val, 0, 0])
theorem index4 : ∀ t : Fin cfg0.N, win0_4.index t = ![t.val, 0, 0] :=
  (by decide +kernel : ∀ t : Fin grid0.N, win0_4.index t = ![t.val, 0, 0])
theorem index5 : ∀ t : Fin cfg0.N, win0_5.index t = ![0, 0] :=
  (by decide +kernel : ∀ t : Fin grid0.N, win0_5.index t = ![0, 0])
theorem last5 : ∀ t : Fin cfg0.N, (cfg0.win 5).flush t = true → t.val = 1 :=
  (by decide +kernel : ∀ t : Fin grid0.N, win0_5.flush t = true → t.val = 1)
theorem covers5 : (cfg0.win 5).Covers := (by decide +kernel : win0_5.Covers)
theorem index6 : ∀ t : Fin cfg0.N, win0_6.index t = ![0, 0] :=
  (by decide +kernel : ∀ t : Fin grid0.N, win0_6.index t = ![0, 0])
theorem last6 : ∀ t : Fin cfg0.N, (cfg0.win 6).flush t = true → t.val = 1 :=
  (by decide +kernel : ∀ t : Fin grid0.N, win0_6.flush t = true → t.val = 1)
theorem covers6 : (cfg0.win 6).Covers := (by decide +kernel : win0_6.Covers)
theorem index7 : ∀ t : Fin cfg0.N, win0_7.index t = ![0, 0] :=
  (by decide +kernel : ∀ t : Fin grid0.N, win0_7.index t = ![0, 0])
theorem last7 : ∀ t : Fin cfg0.N, (cfg0.win 7).flush t = true → t.val = 1 :=
  (by decide +kernel : ∀ t : Fin grid0.N, win0_7.flush t = true → t.val = 1)
theorem covers7 : (cfg0.win 7).Covers := (by decide +kernel : win0_7.Covers)
theorem index8 : ∀ t : Fin cfg0.N, win0_8.index t = ![0, 0] :=
  (by decide +kernel : ∀ t : Fin grid0.N, win0_8.index t = ![0, 0])
theorem last8 : ∀ t : Fin cfg0.N, (cfg0.win 8).flush t = true → t.val = 1 :=
  (by decide +kernel : ∀ t : Fin grid0.N, win0_8.flush t = true → t.val = 1)
theorem covers8 : (cfg0.win 8).Covers := (by decide +kernel : win0_8.Covers)
theorem index9 : ∀ t : Fin cfg0.N, win0_9.index t = ![0, 0] :=
  (by decide +kernel : ∀ t : Fin grid0.N, win0_9.index t = ![0, 0])
theorem last9 : ∀ t : Fin cfg0.N, (cfg0.win 9).flush t = true → t.val = 1 :=
  (by decide +kernel : ∀ t : Fin grid0.N, win0_9.flush t = true → t.val = 1)
theorem covers9 : (cfg0.win 9).Covers := (by decide +kernel : win0_9.Covers)

/-- A block of an input holds the rows of one batch. -/
theorem iblk0 (t : Fin cfg0.N) (b : Fin 2) (hb : t.val = b.val) (h : Fin 56) (s : Fin 12288) :
    iblk m c 0 t (ix3 (n0 := 1) 0 h s) = m ((c : Thread nD τ).loc main_arg0) (ix3 b h s) := by
  have e := index0 t
  refine congrArg (m ((c : Thread nD τ).loc main_arg0)) (show ((cfg0.win 0).blk t).view.emb (ix3 (n0 := 1) 0 h s) = ix3 b h s from ?_)
  refine funext fun a => Fin.ext ?_
  match a with
  | ⟨0, _⟩ => show win0_0.index t 0 * 1 + 1 * 0 = b.val; rw [e]; show t.val * 1 + 1 * 0 = _; omega
  | ⟨1, _⟩ => show win0_0.index t 1 * 56 + 1 * h.val = h.val; rw [e]; show 0 * 56 + 1 * h.val = _; omega
  | ⟨2, _⟩ => show win0_0.index t 2 * 12288 + 1 * s.val = s.val; rw [e]; show 0 * 12288 + 1 * s.val = _; omega
theorem iblk1 (t : Fin cfg0.N) (b : Fin 2) (hb : t.val = b.val) (h : Fin 8) (s : Fin 12288) :
    iblk m c 1 t (ix3 (n0 := 1) 0 h s) = m ((c : Thread nD τ).loc main_arg1) (ix3 b h s) := by
  have e := index1 t
  refine congrArg (m ((c : Thread nD τ).loc main_arg1)) (show ((cfg0.win 1).blk t).view.emb (ix3 (n0 := 1) 0 h s) = ix3 b h s from ?_)
  refine funext fun a => Fin.ext ?_
  match a with
  | ⟨0, _⟩ => show win0_1.index t 0 * 1 + 1 * 0 = b.val; rw [e]; show t.val * 1 + 1 * 0 = _; omega
  | ⟨1, _⟩ => show win0_1.index t 1 * 8 + 1 * h.val = h.val; rw [e]; show 0 * 8 + 1 * h.val = _; omega
  | ⟨2, _⟩ => show win0_1.index t 2 * 12288 + 1 * s.val = s.val; rw [e]; show 0 * 12288 + 1 * s.val = _; omega
theorem iblk2 (t : Fin cfg0.N) (b : Fin 2) (hb : t.val = b.val) (h : Fin 8) (s : Fin 12288) :
    iblk m c 2 t (ix3 (n0 := 1) 0 h s) = m ((c : Thread nD τ).loc main_arg2) (ix3 b h s) := by
  have e := index2 t
  refine congrArg (m ((c : Thread nD τ).loc main_arg2)) (show ((cfg0.win 2).blk t).view.emb (ix3 (n0 := 1) 0 h s) = ix3 b h s from ?_)
  refine funext fun a => Fin.ext ?_
  match a with
  | ⟨0, _⟩ => show win0_2.index t 0 * 1 + 1 * 0 = b.val; rw [e]; show t.val * 1 + 1 * 0 = _; omega
  | ⟨1, _⟩ => show win0_2.index t 1 * 8 + 1 * h.val = h.val; rw [e]; show 0 * 8 + 1 * h.val = _; omega
  | ⟨2, _⟩ => show win0_2.index t 2 * 12288 + 1 * s.val = s.val; rw [e]; show 0 * 12288 + 1 * s.val = _; omega
theorem iblk3 (t : Fin cfg0.N) (b : Fin 2) (hb : t.val = b.val) (h : Fin 56) (s : Fin 12288) :
    iblk m c 3 t (ix3 (n0 := 1) 0 h s) = m ((c : Thread nD τ).loc main_arg3) (ix3 b h s) := by
  have e := index3 t
  refine congrArg (m ((c : Thread nD τ).loc main_arg3)) (show ((cfg0.win 3).blk t).view.emb (ix3 (n0 := 1) 0 h s) = ix3 b h s from ?_)
  refine funext fun a => Fin.ext ?_
  match a with
  | ⟨0, _⟩ => show win0_3.index t 0 * 1 + 1 * 0 = b.val; rw [e]; show t.val * 1 + 1 * 0 = _; omega
  | ⟨1, _⟩ => show win0_3.index t 1 * 56 + 1 * h.val = h.val; rw [e]; show 0 * 56 + 1 * h.val = _; omega
  | ⟨2, _⟩ => show win0_3.index t 2 * 12288 + 1 * s.val = s.val; rw [e]; show 0 * 12288 + 1 * s.val = _; omega
theorem iblk4 (t : Fin cfg0.N) (b : Fin 2) (hb : t.val = b.val) (h : Fin 56) (s : Fin 12288) :
    iblk m c 4 t (ix3 (n0 := 1) 0 h s) = m ((c : Thread nD τ).loc main_arg4) (ix3 b h s) := by
  have e := index4 t
  refine congrArg (m ((c : Thread nD τ).loc main_arg4)) (show ((cfg0.win 4).blk t).view.emb (ix3 (n0 := 1) 0 h s) = ix3 b h s from ?_)
  refine funext fun a => Fin.ext ?_
  match a with
  | ⟨0, _⟩ => show win0_4.index t 0 * 1 + 1 * 0 = b.val; rw [e]; show t.val * 1 + 1 * 0 = _; omega
  | ⟨1, _⟩ => show win0_4.index t 1 * 56 + 1 * h.val = h.val; rw [e]; show 0 * 56 + 1 * h.val = _; omega
  | ⟨2, _⟩ => show win0_4.index t 2 * 12288 + 1 * s.val = s.val; rw [e]; show 0 * 12288 + 1 * s.val = _; omega

/-- Output 0 holds the largest entry of each head of argument 0. -/
theorem final5 : (dats m 0 c).arrAt 5 cfg0.N = fun y => headMax (m ((c : Thread nD τ).loc main_arg0)) (y 0) := by
  refine (dats m 0 c).arrAt_eq_of_covers 5 _ covers5 fun t hf y => ?_
  obtain ⟨tv, ht⟩ := t
  obtain rfl : tv = 1 := last5 ⟨tv, ht⟩ hf
  have ey : ((cfg0.win 5).blk ⟨1, ht⟩).view.emb y = y := by
    have e := index5 ⟨1, ht⟩
    refine funext fun a => Fin.ext ?_
    match a with
    | ⟨0, _⟩ => show win0_5.index ⟨1, ht⟩ 0 * 56 + 1 * (y 0).val = (y 0).val; rw [e]; show 0 * 56 + 1 * (y 0).val = _; omega
    | ⟨1, _⟩ => show win0_5.index ⟨1, ht⟩ 1 * 1 + 1 * (y 1).val = (y 1).val; rw [e]; show 0 * 1 + 1 * (y 1).val = _; omega
  rw [after0_5, ey]
  have h : (outsAt0 m c 1 ht).1 = k0_pay7 (iblk m c 0 ⟨1, ht⟩) (k0_pay6 (iblk m c 0 ⟨0, Nat.lt_trans Nat.zero_lt_one ht⟩)) := by rw [second m c ht, first]
  have h2 := h.trans (both56 (m ((c : Thread nD τ).loc main_arg0)) _ _ (iblk0 m c ⟨0, Nat.lt_trans Nat.zero_lt_one ht⟩ 0 rfl) (iblk0 m c ⟨1, ht⟩ 1 rfl))
  exact congrFun h2 y

/-- Output 1 holds the largest entry of each head of argument 1. -/
theorem final6 : (dats m 0 c).arrAt 6 cfg0.N = fun y => headMax (m ((c : Thread nD τ).loc main_arg1)) (y 0) := by
  refine (dats m 0 c).arrAt_eq_of_covers 6 _ covers6 fun t hf y => ?_
  obtain ⟨tv, ht⟩ := t
  obtain rfl : tv = 1 := last6 ⟨tv, ht⟩ hf
  have ey : ((cfg0.win 6).blk ⟨1, ht⟩).view.emb y = y := by
    have e := index6 ⟨1, ht⟩
    refine funext fun a => Fin.ext ?_
    match a with
    | ⟨0, _⟩ => show win0_6.index ⟨1, ht⟩ 0 * 8 + 1 * (y 0).val = (y 0).val; rw [e]; show 0 * 8 + 1 * (y 0).val = _; omega
    | ⟨1, _⟩ => show win0_6.index ⟨1, ht⟩ 1 * 1 + 1 * (y 1).val = (y 1).val; rw [e]; show 0 * 1 + 1 * (y 1).val = _; omega
  rw [after0_6, ey]
  have h : (outsAt0 m c 1 ht).2.1 = k0_pay9 (iblk m c 1 ⟨1, ht⟩) (k0_pay8 (iblk m c 1 ⟨0, Nat.lt_trans Nat.zero_lt_one ht⟩)) := by rw [second m c ht, first]
  have h2 := h.trans (both8 (m ((c : Thread nD τ).loc main_arg1)) _ _ (iblk1 m c ⟨0, Nat.lt_trans Nat.zero_lt_one ht⟩ 0 rfl) (iblk1 m c ⟨1, ht⟩ 1 rfl))
  exact congrFun h2 y

/-- Output 2 holds the largest entry of each head of argument 2. -/
theorem final7 : (dats m 0 c).arrAt 7 cfg0.N = fun y => headMax (m ((c : Thread nD τ).loc main_arg2)) (y 0) := by
  refine (dats m 0 c).arrAt_eq_of_covers 7 _ covers7 fun t hf y => ?_
  obtain ⟨tv, ht⟩ := t
  obtain rfl : tv = 1 := last7 ⟨tv, ht⟩ hf
  have ey : ((cfg0.win 7).blk ⟨1, ht⟩).view.emb y = y := by
    have e := index7 ⟨1, ht⟩
    refine funext fun a => Fin.ext ?_
    match a with
    | ⟨0, _⟩ => show win0_7.index ⟨1, ht⟩ 0 * 8 + 1 * (y 0).val = (y 0).val; rw [e]; show 0 * 8 + 1 * (y 0).val = _; omega
    | ⟨1, _⟩ => show win0_7.index ⟨1, ht⟩ 1 * 1 + 1 * (y 1).val = (y 1).val; rw [e]; show 0 * 1 + 1 * (y 1).val = _; omega
  rw [after0_7, ey]
  have h : (outsAt0 m c 1 ht).2.2.1 = k0_pay1 (k0_pay10 (iblk m c 2 ⟨1, ht⟩)) (k0_pay10 (iblk m c 2 ⟨0, Nat.lt_trans Nat.zero_lt_one ht⟩)) := by rw [second m c ht, first]
  have h2 := h.trans (both8 (m ((c : Thread nD τ).loc main_arg2)) _ _ (iblk2 m c ⟨0, Nat.lt_trans Nat.zero_lt_one ht⟩ 0 rfl) (iblk2 m c ⟨1, ht⟩ 1 rfl))
  exact congrFun h2 y

/-- Output 3 holds the largest entry of each head of argument 3. -/
theorem final8 : (dats m 0 c).arrAt 8 cfg0.N = fun y => headMax (m ((c : Thread nD τ).loc main_arg3)) (y 0) := by
  refine (dats m 0 c).arrAt_eq_of_covers 8 _ covers8 fun t hf y => ?_
  obtain ⟨tv, ht⟩ := t
  obtain rfl : tv = 1 := last8 ⟨tv, ht⟩ hf
  have ey : ((cfg0.win 8).blk ⟨1, ht⟩).view.emb y = y := by
    have e := index8 ⟨1, ht⟩
    refine funext fun a => Fin.ext ?_
    match a with
    | ⟨0, _⟩ => show win0_8.index ⟨1, ht⟩ 0 * 56 + 1 * (y 0).val = (y 0).val; rw [e]; show 0 * 56 + 1 * (y 0).val = _; omega
    | ⟨1, _⟩ => show win0_8.index ⟨1, ht⟩ 1 * 1 + 1 * (y 1).val = (y 1).val; rw [e]; show 0 * 1 + 1 * (y 1).val = _; omega
  rw [after0_8, ey]
  have h : (outsAt0 m c 1 ht).2.2.2.1 = k0_pay3 (iblk m c 3 ⟨1, ht⟩) (k0_pay2 (iblk m c 3 ⟨0, Nat.lt_trans Nat.zero_lt_one ht⟩)) := by rw [second m c ht, first]
  have h2 := h.trans (both56 (m ((c : Thread nD τ).loc main_arg3)) _ _ (iblk3 m c ⟨0, Nat.lt_trans Nat.zero_lt_one ht⟩ 0 rfl) (iblk3 m c ⟨1, ht⟩ 1 rfl))
  exact congrFun h2 y

/-- Output 4 holds the largest entry of each head of argument 4. -/
theorem final9 : (dats m 0 c).arrAt 9 cfg0.N = fun y => headMax (m ((c : Thread nD τ).loc main_arg4)) (y 0) := by
  refine (dats m 0 c).arrAt_eq_of_covers 9 _ covers9 fun t hf y => ?_
  obtain ⟨tv, ht⟩ := t
  obtain rfl : tv = 1 := last9 ⟨tv, ht⟩ hf
  have ey : ((cfg0.win 9).blk ⟨1, ht⟩).view.emb y = y := by
    have e := index9 ⟨1, ht⟩
    refine funext fun a => Fin.ext ?_
    match a with
    | ⟨0, _⟩ => show win0_9.index ⟨1, ht⟩ 0 * 56 + 1 * (y 0).val = (y 0).val; rw [e]; show 0 * 56 + 1 * (y 0).val = _; omega
    | ⟨1, _⟩ => show win0_9.index ⟨1, ht⟩ 1 * 1 + 1 * (y 1).val = (y 1).val; rw [e]; show 0 * 1 + 1 * (y 1).val = _; omega
  rw [after0_9, ey]
  have h : (outsAt0 m c 1 ht).2.2.2.2 = k0_pay5 (iblk m c 4 ⟨1, ht⟩) (k0_pay4 (iblk m c 4 ⟨0, Nat.lt_trans Nat.zero_lt_one ht⟩)) := by rw [second m c ht, first]
  have h2 := h.trans (both56 (m ((c : Thread nD τ).loc main_arg4)) _ _ (iblk4 m c ⟨0, Nat.lt_trans Nat.zero_lt_one ht⟩ 0 rfl) (iblk4 m c ⟨1, ht⟩ 1 rfl))
  exact congrFun h2 y

end Ideal

end Cert.AmaxIdeal.At
-- ==== Proof.AmaxReferenceAt.lean ====
/- What the reference of the call for the maxima computes at the extended reals. -/
module

public import proofs.«01_k».proof.Proof.Gen.AmaxReferenceIdeal.Run
public import proofs.«01_k».proof.Proof.HeadMax

@[expose] public section

set_option maxRecDepth 16384

noncomputable section

namespace Cert.AmaxReferenceIdeal.At

open Cert.AmaxReferenceIdeal Cert.AmaxReferenceIdeal.Gen
open Idealize.ShloMosaic Idealize.ShloMosaic.TcCoe
open HeadMax

/-- The largest entries of fifty-six heads -/
theorem max56 (X : FVec Ideal S2x56x12288 .f32) :
    broadcastInDim S56x1 ![0] bcast_S56_S56x1_0 (Host.reduce FloatOps.maximumf X (constant S_ .f32 0xFF800000#32) reducesTo_S2x56x12288_S56_d0_2 h_S_)
      = fun y => headMax X (y 0) := by
  funext y
  show Host.reduce FloatOps.maximumf X (constant S_ .f32 0xFF800000#32) reducesTo_S2x56x12288_S56_d0_2 h_S_ _ = _
  rw [Host.reduce_eq_fold]; unfold headMax; rw [← ninf]
  exact fold_fiber _ reducesTo_S2x56x12288_S56_d0_2 rfl _ _ rfl _ _ _

/-- and of eight. -/
theorem max8 (X : FVec Ideal S2x8x12288 .f32) :
    broadcastInDim S8x1 ![0] bcast_S8_S8x1_0 (Host.reduce FloatOps.maximumf X (constant S_ .f32 0xFF800000#32) reducesTo_S2x8x12288_S8_d0_2 h_S_)
      = fun y => headMax X (y 0) := by
  funext y
  show Host.reduce FloatOps.maximumf X (constant S_ .f32 0xFF800000#32) reducesTo_S2x8x12288_S8_d0_2 h_S_ _ = _
  rw [Host.reduce_eq_fold]; unfold headMax; rw [← ninf]
  exact fold_fiber _ reducesTo_S2x8x12288_S8_d0_2 rfl _ _ rfl _ _ _

end Cert.AmaxReferenceIdeal.At
-- ==== Proof.AmaxClaim.lean ====
/- The call for the maxima and its reference compute the same five arrays. -/
module

public import proofs.«01_k».proof.Defs
public import proofs.«01_k».proof.Proof.AmaxValue
public import proofs.«01_k».proof.Proof.AmaxReferenceAt
public import proofs.«01_k».proof.Proof.Gen.AmaxReferenceIdeal.Run
public import Idealize.ShloMosaic.Lib.Quiescent

@[expose] public section

noncomputable section

namespace Cert.AmaxClaim

open Idealize.ShloMosaic Idealize.ShloMosaic.TcCoe Idealize.SL.Sem

/-- The reference runs, its arguments end unchanged and every counter at zero. -/
theorem reference_frame : Cert.quiescent_AmaxReferenceIdeal := fun m ρ _ =>
  (θ_run Cert.AmaxReferenceIdeal.defs _ _).mono
    (fun r h => ⟨fun c => (h c).2.2.2.2.2, Idealize.ShloMosaic.sem_eq_zero_of_no_sems (by decide) r.2⟩)
    (Cert.AmaxReferenceIdeal.Value.run (F := Ideal) m ρ)

/-- The five arrays of the kernel are the reference's: the largest entry of each head. -/
theorem algebraic : Cert.algebraic_AmaxIdeal_AmaxReferenceIdeal := fun m g m' g' _ hargs => by
  refine ⟨_, _, _, _, _, (θ_run Cert.AmaxIdeal.defs _ _).mono (fun r h c =>
      ⟨(h c).1.trans (Cert.AmaxIdeal.At.final5 m c), (h c).2.1.trans (Cert.AmaxIdeal.At.final6 m c),
        (h c).2.2.1.trans (Cert.AmaxIdeal.At.final7 m c), (h c).2.2.2.1.trans (Cert.AmaxIdeal.At.final8 m c),
        (h c).2.2.2.2.1.trans (Cert.AmaxIdeal.At.final9 m c), (h c).2.2.2.2.2⟩)
      (Cert.AmaxIdeal.Value.run_blocks m g), ?_⟩
  refine (θ_run Cert.AmaxReferenceIdeal.defs _ _).mono (fun r h c => ?_) (Cert.AmaxReferenceIdeal.Value.run (F := Ideal) m' g')
  obtain ⟨h0, h1, h2, h3, h4, hk⟩ := h c
  obtain ⟨e0, e1, e2, e3, e4⟩ := hargs c
  refine ⟨h0.trans ((Cert.AmaxReferenceIdeal.At.max56 _).trans ?_), h1.trans ((Cert.AmaxReferenceIdeal.At.max8 _).trans ?_),
    h2.trans ((Cert.AmaxReferenceIdeal.At.max8 _).trans ?_), h3.trans ((Cert.AmaxReferenceIdeal.At.max56 _).trans ?_),
    h4.trans ((Cert.AmaxReferenceIdeal.At.max56 _).trans ?_), hk⟩
  · rw [e0]; rfl
  · rw [e1]; rfl
  · rw [e2]; rfl
  · rw [e3]; rfl
  · rw [e4]; rfl

end Cert.AmaxClaim
-- ==== Proof.QuantValue.lean ====
/- What the quantiser's call leaves: the codes of the attention output by the scale of its head. -/
module

public import proofs.«01_k».proof.Proof.Gen.QuantIdeal.Value
public import Idealize.ShloMosaic.Lib.Pipeline.ValueKit.Geometry
public import Idealize.ShloMosaic.Lib.Pointwise
public import Idealize.ShloMosaic.Lib.Tactic

@[expose] public section

set_option maxRecDepth 16384

noncomputable section

namespace Cert.QuantIdeal.At

open Cert.QuantIdeal Cert.QuantIdeal.Gen
open Idealize.ShloMosaic Idealize.ShloMosaic.TcCoe
open Idealize.SL.Sem
open Idealize.ShloMosaic.Pipeline

theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable {F : FTy → Type} [FloatOps F]

/-! ## One block -/

theorem inbO (h : Fin 56) : ∀ a, (![0, h.val, 0, 0] : Fin 4 → Nat) a + S1x1x128x128.size a ≤ S1x56x128x128.size a := by revert h; decide
theorem inbS (h : Fin 56) : ∀ a, (![h.val, 0] : Fin 2 → Nat) a + S1x128.size a ≤ S56x128.size a := by revert h; decide
theorem inbT (h : Fin 56) : ∀ a, (![0, h.val, 0] : Fin 3 → Nat) a + S128x1x128.size a ≤ S128x56x128.size a := by revert h; decide

/-- What the body stores of head `h` into the scratch. -/
def piece (x0 : Vec F S1x56x128x128 .f32) (x1 : Vec F S56x128 .f32) (h : Fin 56) : View.Piece (Elt F) S128x56x128 .f32 :=
  ⟨Rect.unit ![0, h.val, 0] S128x1x128.size (inbT h),
    k0_pay3 (View.ld x0 (Rect.unit ![0, h.val, 0, 0] S1x1x128x128.size (inbO h))) (View.ld x1 (Rect.unit ![h.val, 0] S1x128.size (inbS h)))⟩

/-- The scratch after all heads. -/
def scratch (x0 : Vec F S1x56x128x128 .f32) (x1 : Vec F S56x128 .f32) : Vec F S128x56x128 .f32 :=
  View.canon ((List.finRange 56).reverse.map (piece x0 x1))

theorem read_scratch (v : View sig .tc .vmem S128x56x128 .f32) (x0 : Vec F S1x56x128x128 .f32) (x1 : Vec F S56x128 .f32)
    (L : List (View.Piece (Elt F) S128x56x128 .f32)) (h : L = (List.finRange 56).reverse.map (piece x0 x1)) :
    v.readCov L (Rect.unit ![0, 0, 0] ![128, 56, 128] inb_S128x56x128_S128x56x128_0_0_0).toLoadRect = scratch x0 x1 := by
  subst h
  rw [View.readCov_eq_canon']
  exact View.ld_unit_zero (S := S128x56x128) hz3 inb_S128x56x128_S128x56x128_0_0_0 _

/-- One code before its rounding: the quotient, cut off at the largest fp8 value on both sides. -/
def cut (o s : F .f32) : F .f32 :=
  FloatOps.minimumf (Scalar.ofBits .f32 0x43E00000#32) (FloatOps.maximumf (Scalar.ofBits .f32 0xC3E00000#32) (FloatOps.divf o s))

theorem pay3_apply (o : Vec F S1x1x128x128 .f32) (s : Vec F S1x128 .f32) (w d : Fin 128) :
    k0_pay3 o s (ix3 (n1 := 1) w 0 d) = cut (o (ix4 0 0 d w)) (s (ix2 0 w)) := by
  pointwise [k0_pay3, cut]

theorem pay2_apply (x : Vec F S128x56x128 .f32) (w d : Fin 128) (h : Fin 56) :
    k0_pay2 x (ix4 (n0 := 1) 0 w h d) = FloatOps.truncf .fp8e4m3 bitsLt_fp8e4m3_f32 (x (ix3 w h d)) := by
  pointwise [k0_pay2]

/-- An entry of the scratch. -/
theorem scratch_apply (x0 : Vec F S1x56x128x128 .f32) (x1 : Vec F S56x128 .f32) (w d : Fin 128) (h : Fin 56) :
    scratch x0 x1 (ix3 w h d) = cut (x0 (ix4 (n0 := 1) 0 h d w)) (x1 (ix2 h w)) := by
  unfold scratch
  refine (View.canon_apply_of_pieces (G := fun y : S128x56x128.Idx => cut (x0 (ix4 (n0 := 1) 0 (y 1) (y 2) (y 0))) (x1 (ix2 (y 1) (y 0)))) _ ?_ _ ?_).trans ?_
  · intro p hp x
    obtain ⟨k, -, rfl⟩ := List.mem_map.mp hp
    have hx : x = ix3 (n1 := 1) (x 0) 0 (x 2) := by
      funext a
      match a with
      | ⟨0, _⟩ => rfl
      | ⟨1, _⟩ => exact Subsingleton.elim (α := Fin 1) _ _
      | ⟨2, _⟩ => rfl
    refine (congrArg (piece x0 x1 k).2 hx).trans ((pay3_apply _ _ (x 0) (x 2)).trans ?_)
    have h1 : (x 1).val = 0 := by have := (x 1).isLt; show _ = _; change (x 1).val < 1 at this; omega
    refine congrArg₂ cut (congrArg x0 (funext fun a => Fin.ext ?_)) (congrArg x1 (funext fun a => Fin.ext ?_))
    · match a with
      | ⟨0, _⟩ => rfl
      | ⟨1, _⟩ => show k.val + 1 * 0 = k.val + 1 * (x 1).val; omega
      | ⟨2, _⟩ => rfl
      | ⟨3, _⟩ => rfl
    · match a with
      | ⟨0, _⟩ => show k.val + 1 * 0 = k.val + 1 * (x 1).val; omega
      | ⟨1, _⟩ => rfl
  · refine ⟨piece x0 x1 h, List.mem_map.mpr ⟨h, List.mem_reverse.mpr (List.mem_finRange h), rfl⟩, ?_⟩
    refine (Rect.mem_set_unit (inb := inbT h)).mpr fun a => ?_
    match a with
    | ⟨0, _⟩ => exact ⟨Nat.zero_le _, by show w.val < 0 + 128; omega⟩
    | ⟨1, _⟩ => exact ⟨Nat.le_refl _, by show h.val < h.val + 1; omega⟩
    | ⟨2, _⟩ => exact ⟨Nat.zero_le _, by show d.val < 0 + 128; omega⟩
  · rfl

variable (m : (ℓ : Loc nD τ sig) → Buf (Elt F) ℓ) (c : Dev nD)

/-- What a point leaves in the output block. -/
theorem block (t : Fin cfg0.N) : outsAt0 m c t = k0_pay2 (scratch (iblk m c 0 t) (iblk m c 1 t)) := by
  unfold outsAt0 out0_A_2
  refine (View.read_writes_eq_canon _ _ _ (fun y => by apply cover0_A_2)).trans ?_
  unfold kernelRun0_A
  dsimp only
  sl_unfold_words
  rw [View.canon_unit_zero hz4]
  simp only [View.readAt_eq_ld, Memref.IsWhole.read_unread]
  exact congrArg k0_pay2 (read_scratch _ _ _ _ rfl)

/-- An entry of it. -/
theorem block_apply (t : Fin cfg0.N) (w d : Fin 128) (h : Fin 56) : outsAt0 m c t (ix4 (n0 := 1) 0 w h d) =
    FloatOps.truncf .fp8e4m3 bitsLt_fp8e4m3_f32 (cut (iblk m c 0 t (ix4 (n0 := 1) 0 h d w)) (iblk m c 1 t (ix2 h w))) := by
  rw [block, pay2_apply, scratch_apply]

/-! ## The scales -/

/-- The scale of a head from its largest |entry|: one where that is zero, else its 448th part. -/
def scale56 (x : FVec F S56 .f32) : FVec F S56 .f32 :=
  select (cmpf .oeq x (broadcastInDim S56 ![] bcast_S_S56 (constant S_ .f32 0x00000000#32))) (broadcastInDim S56 ![] bcast_S_S56 (constant S_ .f32 0x3F800000#32))
    (mulf x (broadcastInDim S56 ![] bcast_S_S56 (constant S_ .f32 0x3B124925#32)))

/-- The same for eight heads. -/
def scale8 (x : FVec F S8 .f32) : FVec F S8 .f32 :=
  select (cmpf .oeq x (broadcastInDim S8 ![] bcast_S_S8 (constant S_ .f32 0x00000000#32))) (broadcastInDim S8 ![] bcast_S_S8 (constant S_ .f32 0x3F800000#32))
    (mulf x (broadcastInDim S8 ![] bcast_S_S8 (constant S_ .f32 0x3B124925#32)))

/-- The scales of the queries. -/
theorem scale_q : V m c main_v4 = scale56 (m ((c : Thread nD τ).loc main_arg1)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the keys. -/
theorem scale_k : V m c main_v9 = scale8 (m ((c : Thread nD τ).loc main_arg2)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the values. -/
theorem scale_v : V m c main_v14 = scale8 (m ((c : Thread nD τ).loc main_arg3)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the scores. -/
theorem scale_s : V m c main_v19 = scale56 (m ((c : Thread nD τ).loc main_arg4)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the outputs. -/
theorem scale_o : V m c main_v24 = scale56 (m ((c : Thread nD τ).loc main_arg5)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- What the call finds in the array of its second window: along each row the scale of the head. -/
theorem scale_rows : V m c main_v26 = broadcastInDim S56x128 ![0, 1] bcast_S56x1_S56x128_0_1 (broadcastInDim S56x1 ![0] bcast_S56_S56x1_0 (scale56 (m ((c : Thread nD τ).loc main_arg5)))) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-! ## The array -/

theorem index0 : ∀ t : Fin cfg0.N, win0_0.index t = ![t.val / 96, 0, 0, t.val % 96] :=
  (by decide +kernel : ∀ t : Fin grid0.N, win0_0.index t = ![t.val / 96, 0, 0, t.val % 96])
theorem index1 : ∀ t : Fin cfg0.N, win0_1.index t = ![0, 0] :=
  (by decide +kernel : ∀ t : Fin grid0.N, win0_1.index t = ![0, 0])
theorem index2 : ∀ t : Fin cfg0.N, win0_2.index t = ![t.val / 96, t.val % 96, 0, 0] :=
  (by decide +kernel : ∀ t : Fin grid0.N, win0_2.index t = ![t.val / 96, t.val % 96, 0, 0])
theorem covers2 : (cfg0.win 2).Covers := (by decide +kernel : win0_2.Covers)

theorem points (t : Fin cfg0.N) : t.val < 192 := t.isLt

/-- The batch of a point, -/
def bat (t : Fin cfg0.N) : Fin 2 := ⟨t.val / 96, by have := points t; omega⟩
/-- and the position of an entry of its block. -/
def pos (t : Fin cfg0.N) (w : Fin 128) : Fin 12288 := ⟨t.val % 96 * 128 + w.val, by have := points t; omega⟩

theorem iblk0 (t : Fin cfg0.N) (h : Fin 56) (d w : Fin 128) :
    iblk m c 0 t (ix4 (n0 := 1) 0 h d w) = m ((c : Thread nD τ).loc main_arg0) (ix4 (bat t) h d (pos t w)) := by
  have e := index0 t
  refine Eq.trans ?_ (congrFun (V_main_arg0 m c) _)
  refine congrArg (V m c main_arg0) (show ((cfg0.win 0).blk t).view.emb (ix4 (n0 := 1) 0 h d w) = ix4 (bat t) h d (pos t w) from ?_)
  refine funext fun a => Fin.ext ?_
  match a with
  | ⟨0, _⟩ => show win0_0.index t 0 * 1 + 1 * 0 = t.val / 96; rw [e]; show t.val / 96 * 1 + 1 * 0 = _; omega
  | ⟨1, _⟩ => show win0_0.index t 1 * 56 + 1 * h.val = h.val; rw [e]; show 0 * 56 + 1 * h.val = _; omega
  | ⟨2, _⟩ => show win0_0.index t 2 * 128 + 1 * d.val = d.val; rw [e]; show 0 * 128 + 1 * d.val = _; omega
  | ⟨3, _⟩ => show win0_0.index t 3 * 128 + 1 * w.val = t.val % 96 * 128 + w.val; rw [e]; show t.val % 96 * 128 + 1 * w.val = _; omega

theorem iblk1 (t : Fin cfg0.N) (h : Fin 56) (w : Fin 128) :
    iblk m c 1 t (ix2 h w) = scale56 (m ((c : Thread nD τ).loc main_arg5)) (ix1 h) := by
  have e := index1 t
  refine Eq.trans (congrArg (V m c main_v26) (show ((cfg0.win 1).blk t).view.emb (ix2 h w) = ix2 h w from ?_)) ?_
  · refine funext fun a => Fin.ext ?_
    match a with
    | ⟨0, _⟩ => show win0_1.index t 0 * 56 + 1 * h.val = h.val; rw [e]; show 0 * 56 + 1 * h.val = _; omega
    | ⟨1, _⟩ => show win0_1.index t 1 * 128 + 1 * w.val = w.val; rw [e]; show 0 * 128 + 1 * w.val = _; omega
  · refine (congrFun (scale_rows m c) _).trans ?_
    refine congrArg (scale56 (m ((c : Thread nD τ).loc main_arg5))) (funext fun a => Fin.ext ?_)
    match a with
    | ⟨0, _⟩ => rfl

/-- The codes that the call leaves: of each entry its quotient by the scale of its head, cut off and rounded. -/
def codes (X : FVec F S2x56x128x12288 .f32) (s : FVec F S56 .f32) : FVec F S2x12288x56x128 .fp8e4m3 := fun y =>
  FloatOps.truncf .fp8e4m3 bitsLt_fp8e4m3_f32 (cut (X (ix4 (y 0) (y 2) (y 3) (y 1))) (s (ix1 (y 2))))

theorem codes_apply (X : FVec F S2x56x128x12288 .f32) (s : FVec F S56 .f32) (b : Fin 2) (i : Fin 12288) (h : Fin 56) (d : Fin 128) :
    codes X s (ix4 b i h d) = FloatOps.truncf .fp8e4m3 bitsLt_fp8e4m3_f32 (cut (X (ix4 b h d i)) (s (ix1 h))) := rfl

/-- An entry that a point leaves of it, -/
theorem block_at (t : Fin cfg0.N) (w d : Fin 128) (h : Fin 56) : outsAt0 m c t (ix4 (n0 := 1) 0 w h d) =
    codes (m ((c : Thread nD τ).loc main_arg0)) (scale56 (m ((c : Thread nD τ).loc main_arg5))) (ix4 (bat t) (pos t w) h d) := by
  rw [block_apply, iblk0, iblk1, codes_apply]

/-- and the whole block. -/
theorem block_codes (t : Fin cfg0.N) (y : S1x128x56x128.Idx) : outsAt0 m c t y =
    codes (m ((c : Thread nD τ).loc main_arg0)) (scale56 (m ((c : Thread nD τ).loc main_arg5))) (ix4 (bat t) (pos t (y 1)) (y 2) (y 3)) := by
  have ey : y = ix4 (n0 := 1) 0 (y 1) (y 2) (y 3) := by
    funext a
    match a with
    | ⟨0, _⟩ => exact Subsingleton.elim (α := Fin 1) _ _
    | ⟨1, _⟩ => rfl
    | ⟨2, _⟩ => rfl
    | ⟨3, _⟩ => rfl
  exact (congrArg (outsAt0 m c t) ey).trans (block_at m c t (y 1) (y 3) (y 2))

/-- Where the entries of a block lie. -/
theorem emb2 (t : Fin cfg0.N) (y : S1x128x56x128.Idx) : ((cfg0.win 2).blk t).view.emb y = ix4 (bat t) (pos t (y 1)) (y 2) (y 3) := by
  have e := index2 t
  refine funext fun a => Fin.ext ?_
  match a with
  | ⟨0, _⟩ => have h0 : (y 0).val < 1 := (y 0).isLt; show win0_2.index t 0 * 1 + 1 * (y 0).val = t.val / 96; rw [e]; show t.val / 96 * 1 + 1 * (y 0).val = _; omega
  | ⟨1, _⟩ => show win0_2.index t 1 * 128 + 1 * (y 1).val = t.val % 96 * 128 + (y 1).val; rw [e]; show t.val % 96 * 128 + 1 * (y 1).val = _; omega
  | ⟨2, _⟩ => show win0_2.index t 2 * 56 + 1 * (y 2).val = (y 2).val; rw [e]; show 0 * 56 + 1 * (y 2).val = _; omega
  | ⟨3, _⟩ => show win0_2.index t 3 * 128 + 1 * (y 3).val = (y 3).val; rw [e]; show 0 * 128 + 1 * (y 3).val = _; omega

attribute [local irreducible] outsAt0 codes scale56

/-- The array of codes after the call. -/
theorem final2 : (dats m 0 c).arrAt 2 cfg0.N = codes (m ((c : Thread nD τ).loc main_arg0)) (scale56 (m ((c : Thread nD τ).loc main_arg5))) := by
  refine (dats m 0 c).arrAt_eq_of_covers 2 _ covers2 fun t hf y => ?_
  rw [after0_2]
  refine Eq.trans ?_ (congrArg (codes (m ((c : Thread nD τ).loc main_arg0)) (scale56 (m ((c : Thread nD τ).loc main_arg5)))) (emb2 t y)).symm
  exact block_codes m c t y

/-- The run: the five scales, the codes, and the arguments unchanged. -/
theorem run (ρ : Dev nD → PrngReg) : θ_run defs (onTc (τ := τ) (main (F := F))) ⟨m, fun _ => 0, ρ⟩ fun r => ∀ c : Dev nD,
      r.2.mem ((c : Thread nD τ).loc main_v4) = scale56 (m ((c : Thread nD τ).loc main_arg1))
      ∧ r.2.mem ((c : Thread nD τ).loc main_v9) = scale8 (m ((c : Thread nD τ).loc main_arg2))
      ∧ r.2.mem ((c : Thread nD τ).loc main_v14) = scale8 (m ((c : Thread nD τ).loc main_arg3))
      ∧ r.2.mem ((c : Thread nD τ).loc main_v19) = scale56 (m ((c : Thread nD τ).loc main_arg4))
      ∧ r.2.mem ((c : Thread nD τ).loc main_v27) = codes (m ((c : Thread nD τ).loc main_arg0)) (scale56 (m ((c : Thread nD τ).loc main_arg5)))
      ∧ r.2.mem ((c : Thread nD τ).loc main_v24) = scale56 (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).2 main_v4 (Pipeline.mem_restRefs_of main_v4 (by decide) (by decide))).trans (scale_q m c),
      ((h c).2 main_v9 (Pipeline.mem_restRefs_of main_v9 (by decide) (by decide))).trans (scale_k m c),
      ((h c).2 main_v14 (Pipeline.mem_restRefs_of main_v14 (by decide) (by decide))).trans (scale_v m c),
      ((h c).2 main_v19 (Pipeline.mem_restRefs_of main_v19 (by decide) (by decide))).trans (scale_s m c),
      (Value.post2 m r h c).trans (final2 m c),
      ((h c).2 main_v24 (Pipeline.mem_restRefs_of main_v24 (by decide) (by decide))).trans (scale_o m c),
      Value.kept_main_arg0 m r h c, Value.kept_main_arg1 m r h c, Value.kept_main_arg2 m r h c,
      Value.kept_main_arg3 m r h c, Value.kept_main_arg4 m r h c, Value.kept_main_arg5 m r h c⟩)
    (run_main m ρ)

end Cert.QuantIdeal.At
-- ==== Proof.QuantReferenceAt.lean ====
/- What the quantiser's reference leaves. -/
module

public import proofs.«01_k».proof.Proof.Gen.QuantReferenceIdeal.Value
public import proofs.«01_k».proof.Proof.QuantValue

@[expose] public section

set_option maxRecDepth 16384

noncomputable section

namespace Cert.QuantReferenceIdeal.At

open Cert.QuantReferenceIdeal Cert.QuantReferenceIdeal.Gen
open Idealize.ShloMosaic Idealize.ShloMosaic.TcCoe
open Idealize.SL.Sem
open Idealize.ShloMosaic.Pipeline
open Cert.QuantIdeal.At (scale56 scale8 codes cut)

variable {F : FTy → Type} [FloatOps F]
variable (m : (ℓ : Loc nD τ sig) → Buf (Elt F) ℓ) (c : Dev nD)

/-! ## The scales -/

/-- The scales of the queries. -/
theorem scale_q : V m c main_v4 = scale56 (m ((c : Thread nD τ).loc main_arg1)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the keys. -/
theorem scale_k : V m c main_v9 = scale8 (m ((c : Thread nD τ).loc main_arg2)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the values. -/
theorem scale_v : V m c main_v14 = scale8 (m ((c : Thread nD τ).loc main_arg3)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the scores. -/
theorem scale_s : V m c main_v19 = scale56 (m ((c : Thread nD τ).loc main_arg4)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The scales of the outputs. -/
theorem scale_o : V m c main_v24 = scale56 (m ((c : Thread nD τ).loc main_arg5)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-- The attention output with the position second. -/
theorem turned : V m c main_v25 = transpose S2x12288x56x128 [0, 3, 1, 2] (m ((c : Thread nD τ).loc main_arg0)) transposes_S2x56x128x12288_S2x12288x56x128_0_3_1_2 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp

/-- The scales of the outputs as a column. -/
theorem column : V m c main_v26 = broadcastInDim S56x1 ![0] bcast_S56_S56x1_0 (scale56 (m ((c : Thread nD τ).loc main_arg5))) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

/-! ## The array -/

theorem index0 : ∀ t : Fin cfg0.N, win0_0.index t = ![0, 0, 0, 0] :=
  (by decide +kernel : ∀ t : Fin grid0.N, win0_0.index t = ![0, 0, 0, 0])
theorem index1 : ∀ t : Fin cfg0.N, win0_1.index t = ![0, 0] :=
  (by decide +kernel : ∀ t : Fin grid0.N, win0_1.index t = ![0, 0])
theorem index2 : ∀ t : Fin cfg0.N, win0_2.index t = ![0, 0, 0, 0] :=
  (by decide +kernel : ∀ t : Fin grid0.N, win0_2.index t = ![0, 0, 0, 0])
theorem covers2 : (cfg0.win 2).Covers := (by decide +kernel : win0_2.Covers)

theorem emb0 (t : Fin cfg0.N) (y : S2x12288x56x128.Idx) : ((cfg0.win 0).blk t).view.emb y = y := by
  have e := index0 t
  refine funext fun a => Fin.ext ?_
  match a with
  | ⟨0, _⟩ => show win0_0.index t 0 * 2 + 1 * (y 0).val = (y 0).val; rw [e]; show 0 * 2 + 1 * (y 0).val = _; omega
  | ⟨1, _⟩ => show win0_0.index t 1 * 12288 + 1 * (y 1).val = (y 1).val; rw [e]; show 0 * 12288 + 1 * (y 1).val = _; omega
  | ⟨2, _⟩ => show win0_0.index t 2 * 56 + 1 * (y 2).val = (y 2).val; rw [e]; show 0 * 56 + 1 * (y 2).val = _; omega
  | ⟨3, _⟩ => show win0_0.index t 3 * 128 + 1 * (y 3).val = (y 3).val; rw [e]; show 0 * 128 + 1 * (y 3).val = _; omega
theorem emb1 (t : Fin cfg0.N) (y : S56x1.Idx) : ((cfg0.win 1).blk t).view.emb y = y := by
  have e := index1 t
  refine funext fun a => Fin.ext ?_
  match a with
  | ⟨0, _⟩ => show win0_1.index t 0 * 56 + 1 * (y 0).val = (y 0).val; rw [e]; show 0 * 56 + 1 * (y 0).val = _; omega
  | ⟨1, _⟩ => show win0_1.index t 1 * 1 + 1 * (y 1).val = (y 1).val; rw [e]; show 0 * 1 + 1 * (y 1).val = _; omega
theorem emb2 (t : Fin cfg0.N) (y : S2x12288x56x128.Idx) : ((cfg0.win 2).blk t).view.emb y = y := by
  have e := index2 t
  refine funext fun a => Fin.ext ?_
  match a with
  | ⟨0, _⟩ => show win0_2.index t 0 * 2 + 1 * (y 0).val = (y 0).val; rw [e]; show 0 * 2 + 1 * (y 0).val = _; omega
  | ⟨1, _⟩ => show win0_2.index t 1 * 12288 + 1 * (y 1).val = (y 1).val; rw [e]; show 0 * 12288 + 1 * (y 1).val = _; omega
  | ⟨2, _⟩ => show win0_2.index t 2 * 56 + 1 * (y 2).val = (y 2).val; rw [e]; show 0 * 56 + 1 * (y 2).val = _; omega
  | ⟨3, _⟩ => show win0_2.index t 3 * 128 + 1 * (y 3).val = (y 3).val; rw [e]; show 0 * 128 + 1 * (y 3).val = _; omega

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The attention output as the body finds it -/
theorem iblk0 (t : Fin cfg0.N) : iblk m c 0 t = transpose S2x12288x56x128 [0, 3, 1, 2] (m ((c : Thread nD τ).loc main_arg0)) transposes_S2x56x128x12288_S2x12288x56x128_0_3_1_2 :=
  Eq.trans (funext fun y => congrArg (V m c main_v25) (emb0 t y)) (turned m c)
/-- and the scales. -/
theorem iblk1 (t : Fin cfg0.N) : iblk m c 1 t = broadcastInDim S56x1 ![0] bcast_S56_S56x1_0 (scale56 (m ((c : Thread nD τ).loc main_arg5))) :=
  Eq.trans (funext fun y => congrArg (V m c main_v26) (emb1 t y)) (column m c)

/-- The body's codes of any array and any column of scales. -/
theorem out_codes (X : FVec F S2x56x128x12288 .f32) (s : FVec F S56 .f32) :
    out0_2 (transpose S2x12288x56x128 [0, 3, 1, 2] X transposes_S2x56x128x12288_S2x12288x56x128_0_3_1_2) (broadcastInDim S56x1 ![0] bcast_S56_S56x1_0 s) = codes X s := by
  funext y
  unfold out0_2
  refine (congrFun (congrArg View.canon ?_) y).trans ((Value.canon2_eq (transpose S2x12288x56x128 [0, 3, 1, 2] X transposes_S2x56x128x12288_S2x12288x56x128_0_3_1_2) (broadcastInDim S56x1 ![0] bcast_S56_S56x1_0 s) y).trans ?_)
  · rw [View.ld_unit_zero (S := S2x12288x56x128) hz4, View.ld_unit_zero (S := S56x1) hz2]
  · unfold codes cut
    dsimp only [Value.E2]
    refine congrArg (FloatOps.truncf .fp8e4m3 bitsLt_fp8e4m3_f32) (congrArg (FloatOps.minimumf _) (congrArg (FloatOps.maximumf _) (congrArg₂ FloatOps.divf ?_ ?_)))
    · refine congrArg X (funext fun a => Fin.ext ?_)
      match a with
      | ⟨0, _⟩ => rfl
      | ⟨1, _⟩ => rfl
      | ⟨2, _⟩ => rfl
      | ⟨3, _⟩ => rfl
    · refine congrArg s (funext fun a => Fin.ext ?_)
      match a with
      | ⟨0, _⟩ => rfl

/-- The array of codes after the call. -/
theorem final2 : (dats m 0 c).arrAt 2 cfg0.N = codes (m ((c : Thread nD τ).loc main_arg0)) (scale56 (m ((c : Thread nD τ).loc main_arg5))) := by
  have hb : ∀ t : Fin cfg0.N, out0_2 (iblk m c 0 t) (iblk m c 1 t) = codes (m ((c : Thread nD τ).loc main_arg0)) (scale56 (m ((c : Thread nD τ).loc main_arg5))) := fun t =>
    (congrArg₂ out0_2 (iblk0 m c t) (iblk1 m c t)).trans (out_codes _ _)
  generalize codes (m ((c : Thread nD τ).loc main_arg0)) (scale56 (m ((c : Thread nD τ).loc main_arg5))) = G at hb ⊢
  refine (dats m 0 c).arrAt_eq_of_covers 2 G covers2 fun t hf y => ?_
  rw [after0_2, hb t]
  exact (congrArg G (emb2 t y)).symm

/-- The run: the five scales, the codes, and the arguments unchanged. -/
theorem run (ρ : Dev nD → PrngReg) : θ_run defs (onTc (τ := τ) (main (F := F))) ⟨m, fun _ => 0, ρ⟩ fun r => ∀ c : Dev nD,
      r.2.mem ((c : Thread nD τ).loc main_v4) = scale56 (m ((c : Thread nD τ).loc main_arg1))
      ∧ r.2.mem ((c : Thread nD τ).loc main_v9) = scale8 (m ((c : Thread nD τ).loc main_arg2))
      ∧ r.2.mem ((c : Thread nD τ).loc main_v14) = scale8 (m ((c : Thread nD τ).loc main_arg3))
      ∧ r.2.mem ((c : Thread nD τ).loc main_v19) = scale56 (m ((c : Thread nD τ).loc main_arg4))
      ∧ r.2.mem ((c : Thread nD τ).loc main_v27) = codes (m ((c : Thread nD τ).loc main_arg0)) (scale56 (m ((c : Thread nD τ).loc main_arg5)))
      ∧ r.2.mem ((c : Thread nD τ).loc main_v24) = scale56 (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).2 main_v4 (Pipeline.mem_restRefs_of main_v4 (by decide) (by decide))).trans (scale_q m c),
      ((h c).2 main_v9 (Pipeline.mem_restRefs_of main_v9 (by decide) (by decide))).trans (scale_k m c),
      ((h c).2 main_v14 (Pipeline.mem_restRefs_of main_v14 (by decide) (by decide))).trans (scale_v m c),
      ((h c).2 main_v19 (Pipeline.mem_restRefs_of main_v19 (by decide) (by decide))).trans (scale_s m c),
      (Value.post2 m r h c).trans (final2 m c),
      ((h c).2 main_v24 (Pipeline.mem_restRefs_of main_v24 (by decide) (by decide))).trans (scale_o m c),
      Value.kept_main_arg0 m r h c, Value.kept_main_arg1 m r h c, Value.kept_main_arg2 m r h c,
      Value.kept_main_arg3 m r h c, Value.kept_main_arg4 m r h c, Value.kept_main_arg5 m r h c⟩)
    (run_main m ρ)

end Cert.QuantReferenceIdeal.At
-- ==== Proof.QuantClaim.lean ====
/- The quantiser's call and its reference compute the same scales and codes. -/
module

public import proofs.«01_k».proof.Defs
public import proofs.«01_k».proof.Proof.QuantValue
public import proofs.«01_k».proof.Proof.QuantReferenceAt
public import proofs.«01_k».proof.Proof.Gen.Quant.Frame
public import proofs.«01_k».proof.Proof.Gen.QuantReference.Frame

@[expose] public section

set_option maxRecDepth 16384

noncomputable section

namespace Cert.QuantClaim

open Idealize.ShloMosaic Idealize.ShloMosaic.TcCoe Idealize.SL.Sem
open Cert.QuantIdeal.At (scale56 scale8 codes)

/-- Over the extended reals the scales and the codes of the kernel are the reference's. -/
theorem algebraic : Cert.algebraic_QuantIdeal_QuantReferenceIdeal := fun m g m' g' _ hargs => by
  refine ⟨_, _, _, _, _, _, Cert.QuantIdeal.At.run m g, ?_⟩
  refine (θ_run Cert.QuantReferenceIdeal.defs _ _).mono (fun r h c => ?_) (Cert.QuantReferenceIdeal.At.run m' g')
  obtain ⟨h1, h2, h3, h4, h0, h5, hk⟩ := h c
  obtain ⟨e0, e1, e2, e3, e4, e5⟩ := hargs c
  rw [e1] at h1
  rw [e2] at h2
  rw [e3] at h3
  rw [e4] at h4
  rw [e0, e5] at h0
  rw [e5] at h5
  exact ⟨h1, h2, h3, h4, h0, h5, hk⟩

/-! ## The programs before the ideal pass are the ideal ones, read over words -/

/-- The kernel's table of bodies, -/
theorem bodies {F : FTy → Type} [FloatOps F] : (Cert.Quant.defs₀ (F := F)) = Cert.QuantIdeal.defs₀ (F := F) := by
  unfold Cert.Quant.defs₀ Cert.QuantIdeal.defs₀
  refine congrArg Defs.onTc (funext fun p => funext fun x => ?_)
  match p, x with
  | 0, (t, s) => rfl
  | ⟨_ + 1, h⟩, _ => exact absurd h (Nat.not_lt.2 (Nat.le_add_left _ _))

/-- its table with the pipeline's labels -/
theorem tables {F : FTy → Type} [FloatOps F] : (Cert.Quant.defs (F := F)) = Cert.QuantIdeal.defs (F := F) :=
  congrArg (Pipeline.defs Cert.QuantIdeal.pcfgs) bodies

/-- The reference's table of bodies, -/
theorem reference_bodies {F : FTy → Type} [FloatOps F] : (Cert.QuantReference.defs₀ (F := F)) = Cert.QuantReferenceIdeal.defs₀ (F := F) := by
  unfold Cert.QuantReference.defs₀ Cert.QuantReferenceIdeal.defs₀
  refine congrArg Defs.onTc (funext fun p => funext fun x => ?_)
  match p, x with
  | 0, (t, s) => rfl
  | ⟨_ + 1, h⟩, _ => exact absurd h (Nat.not_lt.2 (Nat.le_add_left _ _))

/-- its table with the pipeline's labels, -/
theorem reference_tables {F : FTy → Type} [FloatOps F] : (Cert.QuantReference.defs (F := F)) = Cert.QuantReferenceIdeal.defs (F := F) :=
  congrArg (Pipeline.defs Cert.QuantReferenceIdeal.pcfgs) reference_bodies

/-- and its main program. -/
theorem mains {F : FTy → Type} [FloatOps F] : (Cert.Quant.main (F := F)) = Cert.QuantIdeal.main (F := F) := by rfl

/-- and the reference's main program. -/
theorem reference_mains {F : FTy → Type} [FloatOps F] : (Cert.QuantReference.main (F := F)) = Cert.QuantReferenceIdeal.main (F := F) := by rfl

/-- So what the one run ends with, so does the other. -/
theorem run (m : (ℓ : Loc Cert.Quant.nD Cert.Quant.τ Cert.Quant.sig) → Buf (Elt Bits) ℓ) (g : Dev Cert.Quant.nD → PrngReg) (Q)
   (h : θ_run (Cert.QuantIdeal.defs (F := Bits)) (onTc (τ := Cert.QuantIdeal.τ) (Cert.QuantIdeal.main (F := Bits))) ⟨m, fun _ => 0, g⟩ Q) :
   θ_run (Cert.Quant.defs (F := Bits)) (onTc (τ := Cert.Quant.τ) (Cert.Quant.main (F := Bits))) ⟨m, fun _ => 0, g⟩ Q :=
  Eq.mpr (congrArg₂ (fun d p => θ_run d (onTc (τ := Cert.Quant.τ) p) ⟨m, fun _ => 0, g⟩ Q) tables mains) h

/-- The same of the reference. -/
theorem reference_run (m : (ℓ : Loc Cert.QuantReference.nD Cert.QuantReference.τ Cert.QuantReference.sig) → Buf (Elt Bits) ℓ) (g : Dev Cert.QuantReference.nD → PrngReg) (Q)
   (h : θ_run (Cert.QuantReferenceIdeal.defs (F := Bits)) (onTc (τ := Cert.QuantReferenceIdeal.τ) (Cert.QuantReferenceIdeal.main (F := Bits))) ⟨m, fun _ => 0, g⟩ Q) :
   θ_run (Cert.QuantReference.defs (F := Bits)) (onTc (τ := Cert.QuantReference.τ) (Cert.QuantReference.main (F := Bits))) ⟨m, fun _ => 0, g⟩ Q :=
  Eq.mpr (congrArg₂ (fun d p => θ_run d (onTc (τ := Cert.QuantReference.τ) p) ⟨m, fun _ => 0, g⟩ Q) reference_tables reference_mains) h

/-- Whatever the floats are, the scales and the codes of the kernel are the reference's, word for word. -/
theorem bitexact : Cert.bitexact_Quant_QuantReference := fun m g m' g' _ hargs => by
  have hk := run m g _ (Cert.QuantIdeal.At.run (F := Bits) m g)
  have hr := reference_run m' g' _ (Cert.QuantReferenceIdeal.At.run (F := Bits) m' g')
  refine ⟨fun c => scale56 (F := Bits) (m (c.tc.loc Cert.Quant.main_arg1)), fun c => scale8 (F := Bits) (m (c.tc.loc Cert.Quant.main_arg2)),
    fun c => scale8 (F := Bits) (m (c.tc.loc Cert.Quant.main_arg3)), fun c => scale56 (F := Bits) (m (c.tc.loc Cert.Quant.main_arg4)),
    fun c => codes (F := Bits) (m (c.tc.loc Cert.Quant.main_arg0)) (scale56 (F := Bits) (m (c.tc.loc Cert.Quant.main_arg5))),
    fun c => scale56 (F := Bits) (m (c.tc.loc Cert.Quant.main_arg5)), hk, ?_⟩
  refine (θ_run Cert.QuantReference.defs _ _).mono (fun r h c => ?_) hr
  obtain ⟨h1, h2, h3, h4, h0, h5, hk⟩ := h c
  obtain ⟨e0, e1, e2, e3, e4, e5⟩ := hargs c
  exact ⟨h1.trans (congrArg (scale56 (F := Bits)) e1), h2.trans (congrArg (scale8 (F := Bits)) e2), h3.trans (congrArg (scale8 (F := Bits)) e3), h4.trans (congrArg (scale56 (F := Bits)) e4),
    h0.trans (congrArg₂ (codes (F := Bits)) e0 (congrArg (scale56 (F := Bits)) e5)), h5.trans (congrArg (scale56 (F := Bits)) e5), hk⟩

end Cert.QuantClaim
-- ==== Proof.Rope.lean ====
/- The rotary embedding of one head vector, the largest absolute entry of one, and the angles both are taken at. -/
module

public import Idealize.ShloMosaic.Lib.Pointwise
public import Idealize.ShloMosaic.Lib.ValueIdxCoords
public import Idealize.ShloMosaic.PureOps.Ideal

@[expose] public section

noncomputable section

namespace Rope

open Idealize.ShloMosaic

variable {F : FTy → Type} [FloatOps F]

/-- The position of every token: the batch's offset and the token's place in the batch, as a float. -/
def pos (p : (⟨1, ![2]⟩ : Shape).Idx → BitVec 32) : FVec F ⟨2, ![2, 12288]⟩ .f32 :=
  sitofp .f32 (addi (broadcastInDim ⟨2, ![2, 12288]⟩ ![0, 1] (by decide) (broadcastInDim ⟨2, ![2, 1]⟩ ![0] (by decide) p))
    (broadcastInDim ⟨2, ![2, 12288]⟩ ![0, 1] (by decide) (broadcastInDim ⟨2, ![1, 12288]⟩ ![1] (by decide) (iotaInDim ⟨1, ![12288]⟩ 32 0))))

/-- The frequency of every pair of entries: 500000 to the power of minus twice its number over 128. -/
def freq : FVec F ⟨1, ![64]⟩ .f32 :=
  Host.powf (broadcastInDim ⟨1, ![64]⟩ ![] (by decide) (constant ⟨0, ![]⟩ .f32 0x48F42400#32))
    (Host.divf (Host.negf (mulf (broadcastInDim ⟨1, ![64]⟩ ![] (by decide) (constant ⟨0, ![]⟩ .f32 0x40000000#32)) (sitofp .f32 (iotaInDim ⟨1, ![64]⟩ 32 0))))
      (broadcastInDim ⟨1, ![64]⟩ ![] (by decide) (constant ⟨0, ![]⟩ .f32 0x43000000#32)))

/-- The angles of a token. -/
def angle (p : (⟨1, ![2]⟩ : Shape).Idx → BitVec 32) (b : Fin 2) (i : Fin 12288) : FVec F ⟨1, ![64]⟩ .f32 :=
  fun e => FloatOps.mulf (pos p (ix2 b i)) (freq e)

/-- Their cosines -/
def cosAt (p : (⟨1, ![2]⟩ : Shape).Idx → BitVec 32) (b : Fin 2) (i : Fin 12288) (e : Fin 64) : F .f32 := Host.cos (angle p b i) (ix1 e)

/-- and their sines. -/
def sinAt (p : (⟨1, ![2]⟩ : Shape).Idx → BitVec 32) (b : Fin 2) (i : Fin 12288) (e : Fin 64) : F .f32 := Host.sin (angle p b i) (ix1 e)

/-- A vector turned: its two halves are the two coordinates of sixty-four planes, each turned by its angle. -/
def turned (c s : Fin 64 → F .f32) (x : Fin 128 → F .f32) (d : Fin 128) : F .f32 :=
  if h : d.val < 64 then
    FloatOps.subf (FloatOps.mulf (x d) (c ⟨d.val, h⟩)) (FloatOps.mulf (x ⟨64 + d.val, by omega⟩) (s ⟨d.val, h⟩))
  else
    FloatOps.addf (FloatOps.mulf (x d) (c ⟨d.val - 64, by omega⟩)) (FloatOps.mulf (x ⟨d.val - 64, by omega⟩) (s ⟨d.val - 64, by omega⟩))

/-- An entry of the turned vector of head `h` of a token. -/
def head {n : Nat} (p : (⟨1, ![2]⟩ : Shape).Idx → BitVec 32) (X : FVec F ⟨4, ![2, 12288, n, 128]⟩ .bf16) (b : Fin 2) (i : Fin 12288) (h : Fin n)
    (d : Fin 128) : F .bf16 :=
  FloatOps.truncf .bf16 (by decide) (turned (cosAt p b i) (sinAt p b i) (fun e => FloatOps.extf .f32 (by decide) (X (ix4 b i h e))) d)

/-- The largest absolute entry of a vector. -/
def rowMax (x : Fin 128 → EReal) : EReal := (Finset.univ : Finset (Fin 128)).fold max ⊥ fun d => max (x d) (-x d)

/-- The turned vectors of all heads, head before token, -/
def keys {n : Nat} (p : (⟨1, ![2]⟩ : Shape).Idx → BitVec 32) (X : FVec F ⟨4, ![2, 12288, n, 128]⟩ .bf16) : FVec F ⟨4, ![2, n, 12288, 128]⟩ .bf16 :=
  fun y => head p X (y 0) (y 2) (y 1) (y 3)

/-- the same with the tokens along the last axis, -/
def queries {n : Nat} (p : (⟨1, ![2]⟩ : Shape).Idx → BitVec 32) (X : FVec F ⟨4, ![2, 12288, n, 128]⟩ .bf16) : FVec F ⟨4, ![2, n, 128, 12288]⟩ .bf16 :=
  fun y => head p X (y 0) (y 3) (y 1) (y 2)

/-- the vectors as they are, the tokens along the last axis, -/
def vals {n : Nat} (X : FVec F ⟨4, ![2, 12288, n, 128]⟩ .bf16) : FVec F ⟨4, ![2, n, 128, 12288]⟩ .bf16 :=
  fun y => X (ix4 (y 0) (y 3) (y 1) (y 2))

/-- the largest absolute entries of the turned vectors -/
def turnedRows {n : Nat} (p : (⟨1, ![2]⟩ : Shape).Idx → BitVec 32) (X : FVec Ideal ⟨4, ![2, 12288, n, 128]⟩ .bf16) : FVec Ideal ⟨3, ![2, n, 12288]⟩ .f32 :=
  fun y => rowMax fun d => head p X (y 0) (y 2) (y 1) d

/-- and of the vectors as they are. -/
def plainRows {n : Nat} (X : FVec Ideal ⟨4, ![2, 12288, n, 128]⟩ .bf16) : FVec Ideal ⟨3, ![2, n, 12288]⟩ .f32 :=
  fun y => rowMax fun d => X (ix4 (y 0) (y 2) (y 1) d)

end Rope
-- ==== Proof.PrepKVValue.lean ====
/- What the call that prepares the keys and the values leaves: the turned keys, the values, and the largest absolute entry of each head vector of both. -/
module

public import proofs.«01_k».proof.Proof.Gen.PrepKVIdeal.Value
public import proofs.«01_k».proof.Proof.Rope
public import proofs.«01_k».proof.Proof.HeadMax
public import Idealize.ShloMosaic.Lib.Pipeline.ValueKit.Geometry
public import Idealize.ShloMosaic.Lib.Pointwise
public import Idealize.ShloMosaic.Lib.Tactic

@[expose] public section

set_option maxRecDepth 16384

noncomputable section

namespace Cert.PrepKVIdeal.At

open Cert.PrepKVIdeal Cert.PrepKVIdeal.Gen
open Idealize.ShloMosaic Idealize.ShloMosaic.TcCoe
open Idealize.SL.Sem
open Idealize.ShloMosaic.Pipeline

variable {F : FTy → Type} [FloatOps F]

/-! ## One head of one block -/

theorem inbI (h : Fin 8) : ∀ a, (![0, 0, 2 * (h.val / 2), 0] : Fin 4 → Nat) a + S1x1024x2x128.size a ≤ S1x1024x8x128.size a := by revert h; decide
theorem inbA (h : Fin 8) : ∀ a, (![0, h.val, 0, 0] : Fin 4 → Nat) a + S1x1x1024x128.size a ≤ S1x8x1024x128.size a := by revert h; decide
theorem inbB (h : Fin 8) : ∀ a, (![0, h.val, 0, 0] : Fin 4 → Nat) a + S1x1x128x1024.size a ≤ S1x8x128x1024.size a := by revert h; decide
theorem inbR (h : Fin 8) : ∀ a, (![0, h.val, 0] : Fin 3 → Nat) a + S1x1x1024.size a ≤ S1x8x1024.size a := by revert h; decide

/-- Which of the two heads of its pair a head is. -/
def par (h : Fin 8) : Fin 2 := ⟨h.val % 2, Nat.mod_lt _ (by decide)⟩

/-- A head taken out of its pair, its tokens along the last axis. -/
def half (h : Fin 8) (x : Vec F S1x1024x8x128 .bf16) : FVec F S128x1024 .f32 :=
  transpose S128x1024 [1, 0] (extf .f32 (shapeCast S1024x128 (rowsOfParity (par h) S1x1024x1x128
    (View.ld x (Rect.unit ![0, 0, 2 * (h.val / 2), 0] S1x1024x2x128.size (inbI h)))
    bitcasts_S1x1024x2x128_w16_S1x1024x1x128_w32) shapeCasts_S1x1024x1x128_S1024x128)) transposes_S1024x128_p1_0_S128x1024

/-- The cosines or the sines of a block. -/
def trig (v : Vec F S1x64x1024 .f32) : FVec F S64x1024 .f32 :=
  shapeCast S64x1024 (View.ld v (Rect.unit (s := S1x64x1024) ![0, 0, 0] S1x64x1024.size inb_S1x64x1024_S1x64x1024_0_0_0)) shapeCasts_S1x64x1024_S64x1024

/-- The upper and the lower half of the entries of all tokens -/
def upper (x : FVec F S128x1024 .f32) : FVec F S64x1024 .f32 := extractStridedSlice S64x1024 ![0, 0] x slices_S128x1024_o0_0_S64x1024
def lower (x : FVec F S128x1024 .f32) : FVec F S64x1024 .f32 := extractStridedSlice S64x1024 ![64, 0] x slices_S128x1024_o64_0_S64x1024

/-- and all tokens turned. -/
def rot (c s : FVec F S64x1024 .f32) (x : FVec F S128x1024 .f32) : FVec F S128x1024 .bf16 :=
  truncf .bf16 (concatenate S128x1024 0 [⟨S64x1024, subf (mulf (upper x) c) (mulf (lower x) s)⟩, ⟨S64x1024, addf (mulf (lower x) c) (mulf (upper x) s)⟩]
    concatenates_S64x1024_S64x1024_S128x1024_d0) bitsLt_bf16_f32

/-- The largest absolute entry of every token. -/
def rows (x : FVec F S128x1024 .bf16) : FVec F S1x1x1024 .f32 :=
  shapeCast S1x1x1024 (shapeCast S1x1024 (multiReduction .maximumf [0] S1024 (absf (extf .f32 x bitsLt_bf16_f32)) 0xFF800000#32 reduces_S128x1024_S1024 (.inl rfl) rfl)
    shapeCasts_S1024_S1x1024) shapeCasts_S1x1024_S1x1x1024

/-- The turned keys of a head -/
def keys (x0 : Vec F S1x1024x8x128 .bf16) (x2 x3 : Vec F S1x64x1024 .f32) (h : Fin 8) : FVec F S128x1024 .bf16 := rot (trig x2) (trig x3) (half h x0)

/-- and its values. -/
def vals (x1 : Vec F S1x1024x8x128 .bf16) (h : Fin 8) : FVec F S128x1024 .bf16 := truncf .bf16 (half h x1) bitsLt_bf16_f32

/-- What is stored of a head into the first output, -/
def piece4 (x0 : Vec F S1x1024x8x128 .bf16) (x2 x3 : Vec F S1x64x1024 .f32) (h : Fin 8) : View.Piece (Elt F) S1x8x1024x128 .bf16 :=
  ⟨Rect.unit ![0, h.val, 0, 0] S1x1x1024x128.size (inbA h),
    shapeCast S1x1x1024x128 (transpose S1024x128 [1, 0] (keys x0 x2 x3 h) transposes_S128x1024_p1_0_S1024x128) shapeCasts_S1024x128_S1x1x1024x128⟩

/-- into the second, -/
def piece5 (x1 : Vec F S1x1024x8x128 .bf16) (h : Fin 8) : View.Piece (Elt F) S1x8x128x1024 .bf16 :=
  ⟨Rect.unit ![0, h.val, 0, 0] S1x1x128x1024.size (inbB h), shapeCast S1x1x128x1024 (vals x1 h) shapeCasts_S128x1024_S1x1x128x1024⟩

/-- and the largest absolute entries of its vectors, stored into the third and the fourth. -/
def rowPiece (R : Fin 8 → FVec F S1x1x1024 .f32) (h : Fin 8) : View.Piece (Elt F) S1x8x1024 .f32 :=
  ⟨Rect.unit ![0, h.val, 0] S1x1x1024.size (inbR h), R h⟩

/-- The blocks are made of these pieces. -/
theorem out4 (x0 x1 : Vec F S1x1024x8x128 .bf16) (x2 x3 : Vec F S1x64x1024 .f32) :
    out0_4 x0 x1 x2 x3 = View.canon ((List.finRange 8).reverse.map (piece4 x0 x2 x3)) := rfl
theorem out5 (x0 x1 : Vec F S1x1024x8x128 .bf16) (x2 x3 : Vec F S1x64x1024 .f32) :
    out0_5 x0 x1 x2 x3 = View.canon ((List.finRange 8).reverse.map (piece5 x1)) := rfl
theorem out6 (x0 x1 : Vec F S1x1024x8x128 .bf16) (x2 x3 : Vec F S1x64x1024 .f32) :
    out0_6 x0 x1 x2 x3 = View.canon ((List.finRange 8).reverse.map (rowPiece fun h => rows (keys x0 x2 x3 h))) := rfl
theorem out7 (x0 x1 : Vec F S1x1024x8x128 .bf16) (x2 x3 : Vec F S1x64x1024 .f32) :
    out0_7 x0 x1 x2 x3 = View.canon ((List.finRange 8).reverse.map (rowPiece fun h => rows (vals x1 h))) := rfl

/-! ## Its entries -/

theorem half_apply (h : Fin 8) (x : Vec F S1x1024x8x128 .bf16) (d : Fin 128) (w : Fin 1024) :
    half h x (ix2 d w) = FloatOps.extf .f32 bitsLt_bf16_f32 (x (ix4 (n0 := 1) 0 w h d)) := by
  have e : half h x (ix2 d w) = FloatOps.extf .f32 bitsLt_bf16_f32 (View.ld x (Rect.unit ![0, 0, 2 * (h.val / 2), 0] S1x1024x2x128.size (inbI h)) (ix4 (n0 := 1) 0 w (par h) d)) := by
    pointwise [half]
  refine e.trans (congrArg _ (congrArg x (funext fun a => Fin.ext ?_)))
  match a with
  | ⟨0, _⟩ => rfl
  | ⟨1, _⟩ => show 0 + 1 * w.val = w.val; omega
  | ⟨2, _⟩ => show 2 * (h.val / 2) + 1 * (h.val % 2) = h.val; omega
  | ⟨3, _⟩ => show 0 + 1 * d.val = d.val; omega

theorem trig_apply (v : Vec F S1x64x1024 .f32) (e : Fin 64) (w : Fin 1024) : trig v (ix2 e w) = v (ix3 (n0 := 1) 0 e w) := by
  have e : trig v (ix2 e w) = View.ld v (Rect.unit (s := S1x64x1024) ![0, 0, 0] S1x64x1024.size inb_S1x64x1024_S1x64x1024_0_0_0) (ix3 (n0 := 1) 0 e w) := by
    pointwise [trig]
  refine e.trans (congrArg v (funext fun a => Fin.ext ?_))
  match a with
  | ⟨0, _⟩ => rfl
  | ⟨1, _⟩ => show 0 + 1 * _ = _; omega
  | ⟨2, _⟩ => show 0 + 1 * w.val = w.val; omega

theorem rot_apply (c s : FVec F S64x1024 .f32) (x : FVec F S128x1024 .f32) (d : Fin 128) (w : Fin 1024) :
    rot c s x (ix2 d w) = FloatOps.truncf .bf16 bitsLt_bf16_f32 (Rope.turned (fun e => c (ix2 e w)) (fun e => s (ix2 e w)) (fun e => x (ix2 e w)) d) := by
  pointwise [rot, upper, lower, Rope.turned]
  by_cases h : d.val < 64
  · rw [dif_pos h, dif_pos h]
  · have e : (⟨64 + (d.val - 64), by omega⟩ : Fin 128) = d := Fin.ext (by show 64 + (d.val - 64) = d.val; omega)
    rw [dif_neg h, dif_neg h, e]

theorem rows_apply (x : FVec Ideal S128x1024 .bf16) (w : Fin 1024) :
    rows x (ix3 (n0 := 1) (n1 := 1) 0 0 w) = Rope.rowMax fun d => x (ix2 d w) := by
  pointwise [rows, Rope.rowMax]
  rw [HeadMax.ninf]
  rfl

/-- The parts of an index of which some axes have one place only. -/
theorem ix1024x128 (y : S1x1x1024x128.Idx) : y = ix4 (n0 := 1) (n1 := 1) 0 0 (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl
theorem ix128x1024 (y : S1x1x128x1024.Idx) : y = ix4 (n0 := 1) (n1 := 1) 0 0 (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl
theorem ix1024 (y : S1x1x1024.Idx) : y = ix3 (n0 := 1) (n1 := 1) 0 0 (y 2) := by
  funext a
  match a with
  | ⟨0, _⟩ => exact Subsingleton.elim (α := Fin 1) _ _
  | ⟨1, _⟩ => exact Subsingleton.elim (α := Fin 1) _ _
  | ⟨2, _⟩ => rfl

/-- What the four stores hold at an index of theirs. -/
theorem piece4_apply (x0 : Vec F S1x1024x8x128 .bf16) (x2 x3 : Vec F S1x64x1024 .f32) (h : Fin 8) (w : Fin 1024) (d : Fin 128) :
    (piece4 x0 x2 x3 h).2 (ix4 (n0 := 1) (n1 := 1) 0 0 w d) = keys x0 x2 x3 h (ix2 d w) := by
  show shapeCast S1x1x1024x128 (transpose S1024x128 [1, 0] (keys x0 x2 x3 h) transposes_S128x1024_p1_0_S1024x128) shapeCasts_S1024x128_S1x1x1024x128 _ = _
  generalize keys x0 x2 x3 h = k
  pointwise
theorem piece5_apply (x1 : Vec F S1x1024x8x128 .bf16) (h : Fin 8) (w : Fin 1024) (d : Fin 128) :
    (piece5 x1 h).2 (ix4 (n0 := 1) (n1 := 1) 0 0 d w) = vals x1 h (ix2 d w) := by
  show shapeCast S1x1x128x1024 (vals x1 h) shapeCasts_S128x1024_S1x1x128x1024 _ = _
  generalize vals x1 h = k
  pointwise

/-- An entry of the first block, -/
theorem out4_apply (x0 x1 : Vec F S1x1024x8x128 .bf16) (x2 x3 : Vec F S1x64x1024 .f32) (h : Fin 8) (w : Fin 1024) (d : Fin 128) :
    out0_4 x0 x1 x2 x3 (ix4 (n0 := 1) 0 h w d) = keys x0 x2 x3 h (ix2 d w) := by
  rw [out4]
  refine (View.canon_apply_of_pieces (G := fun y : S1x8x1024x128.Idx => keys x0 x2 x3 (y 1) (ix2 (y 3) (y 2))) _ ?_ _ ?_).trans ?_
  · intro p hp x
    obtain ⟨k, -, rfl⟩ := List.mem_map.mp hp
    refine (congrArg (piece4 x0 x2 x3 k).2 (ix1024x128 x)).trans ((piece4_apply x0 x2 x3 k (x 2) (x 3)).trans ?_)
    have h1 : (x 1).val = 0 := by have := (x 1).isLt; show _ = _; change (x 1).val < 1 at this; omega
    have e1 : (⟨k.val + 1 * (x 1).val, by rw [h1]; omega⟩ : Fin 8) = k := Fin.ext (by show k.val + 1 * (x 1).val = k.val; omega)
    have e2 : (⟨0 + 1 * (x 2).val, by have : (x 2).val < 1024 := (x 2).isLt; omega⟩ : Fin 1024) = x 2 := Fin.ext (by show 0 + 1 * (x 2).val = _; omega)
    have e3 : (⟨0 + 1 * (x 3).val, by have : (x 3).val < 128 := (x 3).isLt; omega⟩ : Fin 128) = x 3 := Fin.ext (by show 0 + 1 * (x 3).val = _; omega)
    show _ = keys x0 x2 x3 ⟨k.val + 1 * (x 1).val, _⟩ (ix2 (⟨0 + 1 * (x 3).val, _⟩ : Fin 128) (⟨0 + 1 * (x 2).val, _⟩ : Fin 1024))
    rw [e1, e2, e3]
  · refine ⟨piece4 x0 x2 x3 h, List.mem_map.mpr ⟨h, List.mem_reverse.mpr (List.mem_finRange h), rfl⟩, ?_⟩
    refine (Rect.mem_set_unit (inb := inbA h)).mpr fun a => ?_
    match a with
    | ⟨0, _⟩ => exact ⟨Nat.zero_le _, by show 0 < 0 + 1; omega⟩
    | ⟨1, _⟩ => exact ⟨Nat.le_refl _, by show h.val < h.val + 1; omega⟩
    | ⟨2, _⟩ => exact ⟨Nat.zero_le _, by show w.val < 0 + 1024; omega⟩
    | ⟨3, _⟩ => exact ⟨Nat.zero_le _, by show d.val < 0 + 128; omega⟩
  · rfl

/-- of the second, -/
theorem out5_apply (x0 x1 : Vec F S1x1024x8x128 .bf16) (x2 x3 : Vec F S1x64x1024 .f32) (h : Fin 8) (w : Fin 1024) (d : Fin 128) :
    out0_5 x0 x1 x2 x3 (ix4 (n0 := 1) 0 h d w) = vals x1 h (ix2 d w) := by
  rw [out5]
  refine (View.canon_apply_of_pieces (G := fun y : S1x8x128x1024.Idx => vals x1 (y 1) (ix2 (y 2) (y 3))) _ ?_ _ ?_).trans ?_
  · intro p hp x
    obtain ⟨k, -, rfl⟩ := List.mem_map.mp hp
    refine (congrArg (piece5 x1 k).2 (ix128x1024 x)).trans ((piece5_apply x1 k (x 3) (x 2)).trans ?_)
    have h1 : (x 1).val = 0 := by have := (x 1).isLt; show _ = _; change (x 1).val < 1 at this; omega
    have e1 : (⟨k.val + 1 * (x 1).val, by rw [h1]; omega⟩ : Fin 8) = k := Fin.ext (by show k.val + 1 * (x 1).val = k.val; omega)
    have e2 : (⟨0 + 1 * (x 2).val, by have : (x 2).val < 128 := (x 2).isLt; omega⟩ : Fin 128) = x 2 := Fin.ext (by show 0 + 1 * (x 2).val = _; omega)
    have e3 : (⟨0 + 1 * (x 3).val, by have : (x 3).val < 1024 := (x 3).isLt; omega⟩ : Fin 1024) = x 3 := Fin.ext (by show 0 + 1 * (x 3).val = _; omega)
    show _ = vals x1 ⟨k.val + 1 * (x 1).val, _⟩ (ix2 (⟨0 + 1 * (x 2).val, _⟩ : Fin 128) (⟨0 + 1 * (x 3).val, _⟩ : Fin 1024))
    rw [e1, e2, e3]
  · refine ⟨piece5 x1 h, List.mem_map.mpr ⟨h, List.mem_reverse.mpr (List.mem_finRange h), rfl⟩, ?_⟩
    refine (Rect.mem_set_unit (inb := inbB h)).mpr fun a => ?_
    match a with
    | ⟨0, _⟩ => exact ⟨Nat.zero_le _, by show 0 < 0 + 1; omega⟩
    | ⟨1, _⟩ => exact ⟨Nat.le_refl _, by show h.val < h.val + 1; omega⟩
    | ⟨2, _⟩ => exact ⟨Nat.zero_le _, by show d.val < 0 + 128; omega⟩
    | ⟨3, _⟩ => exact ⟨Nat.zero_le _, by show w.val < 0 + 1024; omega⟩
  · rfl

/-- and of a block of maxima, of whichever vectors. -/
theorem rows_block (R : Fin 8 → FVec F S1x1x1024 .f32) (h : Fin 8) (w : Fin 1024) :
    View.canon ((List.finRange 8).reverse.map (rowPiece R))
      (ix3 (n0 := 1) 0 h w) = R h (ix3 (n0 := 1) (n1 := 1) 0 0 w) := by
  refine (View.canon_apply_of_pieces (G := fun y : S1x8x1024.Idx => R (y 1) (ix3 (n0 := 1) (n1 := 1) 0 0 (y 2))) _ ?_ _ ?_).trans ?_
  · intro p hp x
    obtain ⟨k, -, rfl⟩ := List.mem_map.mp hp
    refine (congrArg (rowPiece R k).2 (ix1024 x)).trans ?_
    have h1 : (x 1).val = 0 := by have := (x 1).isLt; show _ = _; change (x 1).val < 1 at this; omega
    have e1 : (⟨k.val + 1 * (x 1).val, by rw [h1]; omega⟩ : Fin 8) = k := Fin.ext (by show k.val + 1 * (x 1).val = k.val; omega)
    have e2 : (⟨0 + 1 * (x 2).val, by have : (x 2).val < 1024 := (x 2).isLt; omega⟩ : Fin 1024) = x 2 := Fin.ext (by show 0 + 1 * (x 2).val = _; omega)
    show R k (ix3 (n0 := 1) (n1 := 1) 0 0 (x 2)) = R ⟨k.val + 1 * (x 1).val, _⟩ (ix3 (n0 := 1) (n1 := 1) 0 0 (⟨0 + 1 * (x 2).val, _⟩ : Fin 1024))
    rw [e1, e2]
  · refine ⟨rowPiece R h, List.mem_map.mpr ⟨h, List.mem_reverse.mpr (List.mem_finRange h), rfl⟩, ?_⟩
    refine (Rect.mem_set_unit (inb := inbR h)).mpr fun a => ?_
    match a with
    | ⟨0, _⟩ => exact ⟨Nat.zero_le _, by show 0 < 0 + 1; omega⟩
    | ⟨1, _⟩ => exact ⟨Nat.le_refl _, by show h.val < h.val + 1; omega⟩
    | ⟨2, _⟩ => exact ⟨Nat.zero_le _, by show w.val < 0 + 1024; omega⟩
  · rfl

/-! ## The array -/

variable (m : (ℓ : Loc nD τ sig) → Buf (Elt F) ℓ) (c : Dev nD)

theorem index0 : ∀ t : Fin cfg0.N, win0_0.index t = ![t.val / 12, t.val % 12, 0, 0] :=
  (by decide +kernel : ∀ t : Fin grid0.N, win0_0.index t = ![t.val / 12, t.val % 12, 0, 0])
theorem index1 : ∀ t : Fin cfg0.N, win0_1.index t = ![t.val / 12, t.val % 12, 0, 0] :=
  (by decide +kernel : ∀ t : Fin grid0.N, win0_1.index t = ![t.val / 12, t.val % 12, 0, 0])
theorem index2 : ∀ t : Fin cfg0.N, win0_2.index t = ![t.val / 12, 0, t.val % 12] :=
  (by decide +kernel : ∀ t : Fin grid0.N, win0_2.index t = ![t.val / 12, 0, t.val % 12])
theorem index3 : ∀ t : Fin cfg0.N, win0_3.index t = ![t.val / 12, 0, t.val % 12] :=
  (by decide +kernel : ∀ t : Fin grid0.N, win0_3.index t = ![t.val / 12, 0, t.val % 12])
theorem index4 : ∀ t : Fin cfg0.N, win0_4.index t = ![t.val / 12, 0, t.val % 12, 0] :=
  (by decide +kernel : ∀ t : Fin grid0.N, win0_4.index t = ![t.val / 12, 0, t.val % 12, 0])
theorem index5 : ∀ t : Fin cfg0.N, win0_5.index t = ![t.val / 12, 0, 0, t.val % 12] :=
  (by decide +kernel : ∀ t : Fin grid0.N, win0_5.index t = ![t.val / 12, 0, 0, t.val % 12])
theorem index6 : ∀ t : Fin cfg0.N, win0_6.index t = ![t.val / 12, 0, t.val % 12] :=
  (by decide +kernel : ∀ t : Fin grid0.N, win0_6.index t = ![t.val / 12, 0, t.val % 12])
theorem index7 : ∀ t : Fin cfg0.N, win0_7.index t = ![t.val / 12, 0, t.val % 12] :=
  (by decide +kernel : ∀ t : Fin grid0.N, win0_7.index t = ![t.val / 12, 0, t.val % 12])
theorem covers4 : (cfg0.win 4).Covers := (by decide +kernel : win0_4.Covers)
theorem covers5 : (cfg0.win 5).Covers := (by decide +kernel : win0_5.Covers)
theorem covers6 : (cfg0.win 6).Covers := (by decide +kernel : win0_6.Covers)
theorem covers7 : (cfg0.win 7).Covers := (by decide +kernel : win0_7.Covers)

theorem points (t : Fin cfg0.N) : t.val < 24 := t.isLt

/-- The batch of a point, -/
def bat (t : Fin cfg0.N) : Fin 2 := ⟨t.val / 12, by have := points t; omega⟩
/-- and the place of a token of its block. -/
def tok (t : Fin cfg0.N) (w : Fin 1024) : Fin 12288 := ⟨t.val % 12 * 1024 + w.val, by have := points t; omega⟩

theorem iblk0 (t : Fin cfg0.N) (w : Fin 1024) (h : Fin 8) (d : Fin 128) :
    iblk m c 0 t (ix4 (n0 := 1) 0 w h d) = m ((c : Thread nD τ).loc main_arg0) (ix4 (bat t) (tok t w) h d) := by
  have e := index0 t
  refine Eq.trans ?_ (congrFun (V_main_arg0 m c) _)
  refine congrArg (V m c main_arg0) (show ((cfg0.win 0).blk t).view.emb (ix4 (n0 := 1) 0 w h d) = ix4 (bat t) (tok t w) h d from ?_)
  refine funext fun a => Fin.ext ?_
  match a with
  | ⟨0, _⟩ => show win0_0.index t 0 * 1 + 1 * 0 = t.val / 12; rw [e]; show t.val / 12 * 1 + 1 * 0 = _; omega
  | ⟨1, _⟩ => show win0_0.index t 1 * 1024 + 1 * w.val = t.val % 12 * 1024 + w.val; rw [e]; show t.val % 12 * 1024 + 1 * w.val = _; omega
  | ⟨2, _⟩ => show win0_0.index t 2 * 8 + 1 * h.val = h.val; rw [e]; show 0 * 8 + 1 * h.val = _; omega
  | ⟨3, _⟩ => show win0_0.index t 3 * 128 + 1 * d.val = d.val; rw [e]; show 0 * 128 + 1 * d.val = _; omega

theorem iblk1 (t : Fin cfg0.N) (w : Fin 1024) (h : Fin 8) (d : Fin 128) :
    iblk m c 1 t (ix4 (n0 := 1) 0 w h d) = m ((c : Thread nD τ).loc main_arg1) (ix4 (bat t) (tok t w) h d) := by
  have e := index1 t
  refine Eq.trans ?_ (congrFun (V_main_arg1 m c) _)
  refine congrArg (V m c main_arg1) (show ((cfg0.win 1).blk t).view.emb (ix4 (n0 := 1) 0 w h d) = ix4 (bat t) (tok t w) h d from ?_)
  refine funext fun a => Fin.ext ?_
  match a with
  | ⟨0, _⟩ => show win0_1.index t 0 * 1 + 1 * 0 = t.val / 12; rw [e]; show t.val / 12 * 1 + 1 * 0 = _; omega
  | ⟨1, _⟩ => show win0_1.index t 1 * 1024 + 1 * w.val = t.val % 12 * 1024 + w.val; rw [e]; show t.val % 12 * 1024 + 1 * w.val = _; omega
  | ⟨2, _⟩ => show win0_1.index t 2 * 8 + 1 * h.val = h.val; rw [e]; show 0 * 8 + 1 * h.val = _; omega
  | ⟨3, _⟩ => show win0_1.index t 3 * 128 + 1 * d.val = d.val; rw [e]; show 0 * 128 + 1 * d.val = _; omega

/-- The angles as the host lays them out. -/
def angles (p : IVec S2 32) : FVec F S2x64x12288 .f32 :=
  mulf (broadcastInDim S2x64x12288 ![0, 1, 2] bcast_S2x1x12288_S2x64x12288_0_1_2 (broadcastInDim S2x1x12288 ![0, 2] bcast_S2x12288_S2x1x12288_0_2 (Rope.pos p)))
    (broadcastInDim S2x64x12288 ![0, 1, 2] bcast_S1x64x1_S2x64x12288_0_1_2 (broadcastInDim S1x64x1 ![1, 2] bcast_S64x1_S1x64x1_1_2 (broadcastInDim S64x1 ![0] bcast_S64_S64x1_0 Rope.freq)))

theorem angles_apply (p : IVec S2 32) (b : Fin 2) (i : Fin 12288) (e : Fin 64) : (angles p : FVec F _ _) (ix3 b e i) = Rope.angle p b i (ix1 e) := by
  show _ = FloatOps.mulf (Rope.pos p (ix2 b i)) (Rope.freq (ix1 e))
  unfold angles
  generalize (Rope.pos p : FVec F _ _) = u
  generalize (Rope.freq : FVec F _ _) = v
  pointwise

/-- What the call finds in the arrays of its third and its fourth window. -/
theorem host_cos : V m c main_v21 = Host.cos (angles (m ((c : Thread nD τ).loc main_arg2))) := by
  simp only [V, hostOps0]
  after_results_simp
  rfl
theorem host_sin : V m c main_v22 = Host.sin (angles (m ((c : Thread nD τ).loc main_arg2))) := by
  simp only [V, hostOps0]
  after_results_simp
  rfl

theorem iblk2 (t : Fin cfg0.N) (e : Fin 64) (w : Fin 1024) :
    iblk m c 2 t (ix3 (n0 := 1) 0 e w) = Rope.cosAt (m ((c : Thread nD τ).loc main_arg2)) (bat t) (tok t w) e := by
  have h := index2 t
  refine Eq.trans (congrArg (V m c main_v21) (show ((cfg0.win 2).blk t).view.emb (ix3 (n0 := 1) 0 e w) = ix3 (bat t) e (tok t w) from ?_)) ?_
  · refine funext fun a => Fin.ext ?_
    match a with
    | ⟨0, _⟩ => show win0_2.index t 0 * 1 + 1 * 0 = t.val / 12; rw [h]; show t.val / 12 * 1 + 1 * 0 = _; omega
    | ⟨1, _⟩ => show win0_2.index t 1 * 64 + 1 * e.val = e.val; rw [h]; show 0 * 64 + 1 * e.val = _; omega
    | ⟨2, _⟩ => show win0_2.index t 2 * 1024 + 1 * w.val = t.val % 12 * 1024 + w.val; rw [h]; show t.val % 12 * 1024 + 1 * w.val = _; omega
  · exact (congrFun (host_cos m c) _).trans (congrArg (FloatOps.hostUnary .cos) (angles_apply _ (bat t) (tok t w) e))

theorem iblk3 (t : Fin cfg0.N) (e : Fin 64) (w : Fin 1024) :
    iblk m c 3 t (ix3 (n0 := 1) 0 e w) = Rope.sinAt (m ((c : Thread nD τ).loc main_arg2)) (bat t) (tok t w) e := by
  have h := index3 t
  refine Eq.trans (congrArg (V m c main_v22) (show ((cfg0.win 3).blk t).view.emb (ix3 (n0 := 1) 0 e w) = ix3 (bat t) e (tok t w) from ?_)) ?_
  · refine funext fun a => Fin.ext ?_
    match a with
    | ⟨0, _⟩ => show win0_3.index t 0 * 1 + 1 * 0 = t.val / 12; rw [h]; show t.val / 12 * 1 + 1 * 0 = _; omega
    | ⟨1, _⟩ => show win0_3.index t 1 * 64 + 1 * e.val = e.val; rw [h]; show 0 * 64 + 1 * e.val = _; omega
    | ⟨2, _⟩ => show win0_3.index t 2 * 1024 + 1 * w.val = t.val % 12 * 1024 + w.val; rw [h]; show t.val % 12 * 1024 + 1 * w.val = _; omega
  · exact (congrFun (host_sin m c) _).trans (congrArg (FloatOps.hostUnary .sin) (angles_apply _ (bat t) (tok t w) e))

/-- The turned vectors of a point's block -/
theorem keys_at (t : Fin cfg0.N) (h : Fin 8) (d : Fin 128) (w : Fin 1024) :
    keys (iblk m c 0 t) (iblk m c 2 t) (iblk m c 3 t) h (ix2 d w) =
      Rope.head (m ((c : Thread nD τ).loc main_arg2)) (m ((c : Thread nD τ).loc main_arg0)) (bat t) (tok t w) h d := by
  refine (rot_apply _ _ _ d w).trans (congrArg (FloatOps.truncf .bf16 bitsLt_bf16_f32) ?_)
  congr 1
  · funext e
    exact (trig_apply _ e w).trans (iblk2 m c t e w)
  · funext e
    exact (trig_apply _ e w).trans (iblk3 m c t e w)
  · funext e
    exact (half_apply h _ e w).trans (congrArg (FloatOps.extf .f32 bitsLt_bf16_f32) (iblk0 m c t w h e))

/-- and the vectors as they are. -/
theorem vals_at (t : Fin cfg0.N) (h : Fin 8) (d : Fin 128) (w : Fin 1024) :
    vals (iblk m c 1 t) h (ix2 d w) = FloatOps.truncf .bf16 bitsLt_bf16_f32 (FloatOps.extf .f32 bitsLt_bf16_f32 (m ((c : Thread nD τ).loc main_arg1) (ix4 (bat t) (tok t w) h d))) :=
  congrArg (FloatOps.truncf .bf16 bitsLt_bf16_f32) ((half_apply h _ d w).trans (congrArg (FloatOps.extf .f32 bitsLt_bf16_f32) (iblk1 m c t w h d)))

/-- Where the entries of the output blocks lie. -/
theorem emb4 (t : Fin cfg0.N) (y : S1x8x1024x128.Idx) : ((cfg0.win 4).blk t).view.emb y = ix4 (bat t) (y 1) (tok t (y 2)) (y 3) := by
  have e := index4 t
  refine funext fun a => Fin.ext ?_
  match a with
  | ⟨0, _⟩ => have h0 : (y 0).val < 1 := (y 0).isLt; show win0_4.index t 0 * 1 + 1 * (y 0).val = t.val / 12; rw [e]; show t.val / 12 * 1 + 1 * (y 0).val = _; omega
  | ⟨1, _⟩ => show win0_4.index t 1 * 8 + 1 * (y 1).val = (y 1).val; rw [e]; show 0 * 8 + 1 * (y 1).val = _; omega
  | ⟨2, _⟩ => show win0_4.index t 2 * 1024 + 1 * (y 2).val = t.val % 12 * 1024 + (y 2).val; rw [e]; show t.val % 12 * 1024 + 1 * (y 2).val = _; omega
  | ⟨3, _⟩ => show win0_4.index t 3 * 128 + 1 * (y 3).val = (y 3).val; rw [e]; show 0 * 128 + 1 * (y 3).val = _; omega
theorem emb5 (t : Fin cfg0.N) (y : S1x8x128x1024.Idx) : ((cfg0.win 5).blk t).view.emb y = ix4 (bat t) (y 1) (y 2) (tok t (y 3)) := by
  have e := index5 t
  refine funext fun a => Fin.ext ?_
  match a with
  | ⟨0, _⟩ => have h0 : (y 0).val < 1 := (y 0).isLt; show win0_5.index t 0 * 1 + 1 * (y 0).val = t.val / 12; rw [e]; show t.val / 12 * 1 + 1 * (y 0).val = _; omega
  | ⟨1, _⟩ => show win0_5.index t 1 * 8 + 1 * (y 1).val = (y 1).val; rw [e]; show 0 * 8 + 1 * (y 1).val = _; omega
  | ⟨2, _⟩ => show win0_5.index t 2 * 128 + 1 * (y 2).val = (y 2).val; rw [e]; show 0 * 128 + 1 * (y 2).val = _; omega
  | ⟨3, _⟩ => show win0_5.index t 3 * 1024 + 1 * (y 3).val = t.val % 12 * 1024 + (y 3).val; rw [e]; show t.val % 12 * 1024 + 1 * (y 3).val = _; omega
theorem emb6 (t : Fin cfg0.N) (y : S1x8x1024.Idx) : ((cfg0.win 6).blk t).view.emb y = ix3 (bat t) (y 1) (tok t (y 2)) := by
  have e := index6 t
  refine funext fun a => Fin.ext ?_
  match a with
  | ⟨0, _⟩ => have h0 : (y 0).val < 1 := (y 0).isLt; show win0_6.index t 0 * 1 + 1 * (y 0).val = t.val / 12; rw [e]; show t.val / 12 * 1 + 1 * (y 0).val = _; omega
  | ⟨1, _⟩ => show win0_6.index t 1 * 8 + 1 * (y 1).val = (y 1).val; rw [e]; show 0 * 8 + 1 * (y 1).val = _; omega
  | ⟨2, _⟩ => show win0_6.index t 2 * 1024 + 1 * (y 2).val = t.val % 12 * 1024 + (y 2).val; rw [e]; show t.val % 12 * 1024 + 1 * (y 2).val = _; omega
theorem emb7 (t : Fin cfg0.N) (y : S1x8x1024.Idx) : ((cfg0.win 7).blk t).view.emb y = ix3 (bat t) (y 1) (tok t (y 2)) := by
  have e := index7 t
  refine funext fun a => Fin.ext ?_
  match a with
  | ⟨0, _⟩ => have h0 : (y 0).val < 1 := (y 0).isLt; show win0_7.index t 0 * 1 + 1 * (y 0).val = t.val / 12; rw [e]; show t.val / 12 * 1 + 1 * (y 0).val = _; omega
  | ⟨1, _⟩ => show win0_7.index t 1 * 8 + 1 * (y 1).val = (y 1).val; rw [e]; show 0 * 8 + 1 * (y 1).val = _; omega
  | ⟨2, _⟩ => show win0_7.index t 2 * 1024 + 1 * (y 2).val = t.val % 12 * 1024 + (y 2).val; rw [e]; show t.val % 12 * 1024 + 1 * (y 2).val = _; omega

/-- The places in a block whose first axis has one place only. -/
theorem in1024x128 (y : S1x8x1024x128.Idx) : y = ix4 (n0 := 1) 0 (y 1) (y 2) (y 3) := by
  funext a
  match a with
  | ⟨0, _⟩ => exact Subsingleton.elim (α := Fin 1) _ _
  | ⟨1, _⟩ => rfl
  | ⟨2, _⟩ => rfl
  | ⟨3, _⟩ => rfl
theorem in128x1024 (y : S1x8x128x1024.Idx) : y = ix4 (n0 := 1) 0 (y 1) (y 2) (y 3) := by
  funext a
  match a with
  | ⟨0, _⟩ => exact Subsingleton.elim (α := Fin 1) _ _
  | ⟨1, _⟩ => rfl
  | ⟨2, _⟩ => rfl
  | ⟨3, _⟩ => rfl
theorem in1024 (y : S1x8x1024.Idx) : y = ix3 (n0 := 1) 0 (y 1) (y 2) := by
  funext a
  match a with
  | ⟨0, _⟩ => exact Subsingleton.elim (α := Fin 1) _ _
  | ⟨1, _⟩ => rfl
  | ⟨2, _⟩ => rfl

theorem keys_block (t : Fin cfg0.N) (y : S1x8x1024x128.Idx) : out0_4 (iblk m c 0 t) (iblk m c 1 t) (iblk m c 2 t) (iblk m c 3 t) y =
    Rope.keys (m ((c : Thread nD τ).loc main_arg2)) (m ((c : Thread nD τ).loc main_arg0)) (ix4 (bat t) (y 1) (tok t (y 2)) (y 3)) :=
  (congrArg (out0_4 (iblk m c 0 t) (iblk m c 1 t) (iblk m c 2 t) (iblk m c 3 t)) (in1024x128 y)).trans
    ((out4_apply _ _ _ _ (y 1) (y 2) (y 3)).trans (keys_at m c t (y 1) (y 3) (y 2)))

theorem vals_block (t : Fin cfg0.N) (y : S1x8x128x1024.Idx) : out0_5 (iblk m c 0 t) (iblk m c 1 t) (iblk m c 2 t) (iblk m c 3 t) y =
    FloatOps.truncf .bf16 bitsLt_bf16_f32 (FloatOps.extf .f32 bitsLt_bf16_f32 (Rope.vals (m ((c : Thread nD τ).loc main_arg1)) (ix4 (bat t) (y 1) (y 2) (tok t (y 3))))) :=
  (congrArg (out0_5 (iblk m c 0 t) (iblk m c 1 t) (iblk m c 2 t) (iblk m c 3 t)) (in128x1024 y)).trans
    ((out5_apply _ _ _ _ (y 1) (y 3) (y 2)).trans (vals_at m c t (y 1) (y 2) (y 3)))

section Ideal

variable (m : (ℓ : Loc nD τ sig) → Buf (Elt Ideal) ℓ) (c : Dev nD)

theorem keyRows_block (t : Fin cfg0.N) (y : S1x8x1024.Idx) : out0_6 (iblk m c 0 t) (iblk m c 1 t) (iblk m c 2 t) (iblk m c 3 t) y =
    Rope.turnedRows (m ((c : Thread nD τ).loc main_arg2)) (m ((c : Thread nD τ).loc main_arg0)) (ix3 (bat t) (y 1) (tok t (y 2))) := by
  refine (congrArg (out0_6 (iblk m c 0 t) (iblk m c 1 t) (iblk m c 2 t) (iblk m c 3 t)) (in1024 y)).trans ?_
  rw [out6]
  refine (rows_block _ (y 1) (y 2)).trans ((rows_apply _ (y 2)).trans ?_)
  exact congrArg Rope.rowMax (funext fun d => keys_at m c t (y 1) d (y 2))

theorem valRows_block (t : Fin cfg0.N) (y : S1x8x1024.Idx) : out0_7 (iblk m c 0 t) (iblk m c 1 t) (iblk m c 2 t) (iblk m c 3 t) y =
    Rope.plainRows (m ((c : Thread nD τ).loc main_arg1)) (ix3 (bat t) (y 1) (tok t (y 2))) := by
  refine (congrArg (out0_7 (iblk m c 0 t) (iblk m c 1 t) (iblk m c 2 t) (iblk m c 3 t)) (in1024 y)).trans ?_
  rw [out7]
  refine (rows_block _ (y 1) (y 2)).trans ((rows_apply _ (y 2)).trans ?_)
  exact congrArg Rope.rowMax (funext fun d => vals_at m c t (y 1) d (y 2))

attribute [local irreducible] out0_4 out0_5 out0_6 out0_7 Rope.keys Rope.vals Rope.turnedRows Rope.plainRows

/-- The four arrays after the call. -/
theorem final4 : (dats m 0 c).arrAt 4 cfg0.N = (Rope.keys (m ((c : Thread nD τ).loc main_arg2)) (m ((c : Thread nD τ).loc main_arg0)) : FVec Ideal S2x8x12288x128 .bf16) := by
  refine (dats m 0 c).arrAt_eq_of_covers 4 _ covers4 fun t hf y => ?_
  rw [after0_4]
  refine (keys_block m c t y).trans ?_
  rw [emb4 t y]
  rfl
theorem final5 : (dats m 0 c).arrAt 5 cfg0.N = (Rope.vals (m ((c : Thread nD τ).loc main_arg1)) : FVec Ideal S2x8x128x12288 .bf16) := by
  refine (dats m 0 c).arrAt_eq_of_covers 5 _ covers5 fun t hf y => ?_
  rw [after0_5]
  refine (vals_block m c t y).trans ?_
  rw [emb5 t y]
  rfl
theorem final6 : (dats m 0 c).arrAt 6 cfg0.N = Rope.turnedRows (m ((c : Thread nD τ).loc main_arg2)) (m ((c : Thread nD τ).loc main_arg0)) := by
  refine (dats m 0 c).arrAt_eq_of_covers 6 _ covers6 fun t hf y => ?_
  rw [after0_6]
  exact (keyRows_block m c t y).trans (congrArg (Rope.turnedRows (m ((c : Thread nD τ).loc main_arg2)) (m ((c : Thread nD τ).loc main_arg0))) (emb6 t y)).symm
theorem final7 : (dats m 0 c).arrAt 7 cfg0.N = Rope.plainRows (m ((c : Thread nD τ).loc main_arg1)) := by
  refine (dats m 0 c).arrAt_eq_of_covers 7 _ covers7 fun t hf y => ?_
  rw [after0_7]
  exact (valRows_block m c t y).trans (congrArg (Rope.plainRows (m ((c : Thread nD τ).loc main_arg1))) (emb7 t y)).symm

end Ideal

end Cert.PrepKVIdeal.At
-- ==== Proof.PrepKVReferenceAt.lean ====
/- What the reference of the call that prepares the keys and the values computes, entry by entry. -/
module

public import proofs.«01_k».proof.Proof.Gen.PrepKVReferenceIdeal.Run
public import proofs.«01_k».proof.Proof.Rope
public import proofs.«01_k».proof.Proof.HeadMax

@[expose] public section

set_option maxRecDepth 16384

noncomputable section

namespace Cert.PrepKVReferenceIdeal.At

open Cert.PrepKVReferenceIdeal Cert.PrepKVReferenceIdeal.Gen
open Idealize.ShloMosaic Idealize.ShloMosaic.TcCoe

variable {F : FTy → Type} [FloatOps F]

/-- A cosine or a sine of every token for every head -/
def spread (v : FVec F S2x12288x64 .f32) : FVec F S2x12288x8x64 .f32 :=
  broadcastInDim S2x12288x8x64 ![0, 1, 2, 3] bcast_S2x12288x1x64_S2x12288x8x64_0_1_2_3 (broadcastInDim S2x12288x1x64 ![0, 1, 3] bcast_S2x12288x64_S2x12288x1x64_0_1_3 v)

/-- of these angles. -/
def angles (p : IVec S2 32) : FVec F S2x12288x64 .f32 :=
  mulf (broadcastInDim S2x12288x64 ![0, 1, 2] bcast_S2x12288x1_S2x12288x64_0_1_2 (broadcastInDim S2x12288x1 ![0, 1] bcast_S2x12288_S2x12288x1_0_1 (Rope.pos p)))
    (broadcastInDim S2x12288x64 ![0, 1, 2] bcast_S1x1x64_S2x12288x64_0_1_2 (broadcastInDim S1x1x64 ![2] bcast_S64_S1x1x64_2 Rope.freq))

/-- The turned vectors before their rounding. -/
def turn (c s : FVec F S2x12288x8x64 .f32) (X : FVec F S2x12288x8x128 .bf16) : FVec F S2x12288x8x128 .f32 :=
  concatenate S2x12288x8x128 3
    [⟨S2x12288x8x64, subf (mulf (extf .f32 (extractStridedSlice S2x12288x8x64 ![0, 0, 0, 0] X slices_S2x12288x8x128_S2x12288x8x64_0_0_0_0) bitsLt_bf16_f32) c)
        (mulf (extf .f32 (extractStridedSlice S2x12288x8x64 ![0, 0, 0, 64] X slices_S2x12288x8x128_S2x12288x8x64_0_0_0_64) bitsLt_bf16_f32) s)⟩,
      ⟨S2x12288x8x64, addf (mulf (extf .f32 (extractStridedSlice S2x12288x8x64 ![0, 0, 0, 64] X slices_S2x12288x8x128_S2x12288x8x64_0_0_0_64) bitsLt_bf16_f32) c)
        (mulf (extf .f32 (extractStridedSlice S2x12288x8x64 ![0, 0, 0, 0] X slices_S2x12288x8x128_S2x12288x8x64_0_0_0_0) bitsLt_bf16_f32) s)⟩]
    concatenates_S2x12288x8x64_S2x12288x8x64_S2x12288x8x128_d3

/-- The turned keys. -/
def keys (p : IVec S2 32) (X : FVec F S2x12288x8x128 .bf16) : FVec F S2x12288x8x128 .bf16 :=
  truncf .bf16 (turn (spread (Host.cos (angles p))) (spread (Host.sin (angles p))) X) bitsLt_bf16_f32

/-- The largest absolute entries of all vectors. -/
def rows (X : FVec F S2x12288x8x128 .bf16) : FVec F S2x8x12288 .f32 :=
  transpose S2x8x12288 [0, 2, 1] (extf .f32 (Host.reduce FloatOps.maximumf (Host.absf X) (constant S_ .bf16 0xFF80#16) reducesTo_S2x12288x8x128_S2x12288x8_d3 h_S_)
    bitsLt_bf16_f32) transposes_S2x12288x8_S2x8x12288_0_2_1

variable (m : (ℓ : Loc nD τ sig) → Buf (Elt F) ℓ) (c : Dev nD)

/-- The results in these terms. -/
theorem res46 : Value.res_main_v46 m c = transpose S2x8x12288x128 [0, 2, 1, 3] (keys (m ((c.tc : Thread nD τ).loc main_arg2)) (m ((c.tc : Thread nD τ).loc main_arg0)))
    transposes_S2x12288x8x128_S2x8x12288x128_0_2_1_3 := rfl
theorem res48 : Value.res_main_v48 m c = rows (keys (m ((c.tc : Thread nD τ).loc main_arg2)) (m ((c.tc : Thread nD τ).loc main_arg0))) := rfl

/-! ## The entries -/

theorem spread_apply (v : FVec F S2x12288x64 .f32) (b : Fin 2) (i : Fin 12288) (h : Fin 8) (e : Fin 64) : spread v (ix4 b i h e) = v (ix3 b i e) := by
  pointwise [spread]

theorem angles_apply (p : IVec S2 32) (b : Fin 2) (i : Fin 12288) (e : Fin 64) : (angles p : FVec F _ _) (ix3 b i e) = Rope.angle p b i (ix1 e) := by
  show _ = FloatOps.mulf (Rope.pos p (ix2 b i)) (Rope.freq (ix1 e))
  unfold angles
  generalize (Rope.pos p : FVec F _ _) = u
  generalize (Rope.freq : FVec F _ _) = v
  pointwise

theorem turn_apply (c s : FVec F S2x12288x8x64 .f32) (X : FVec F S2x12288x8x128 .bf16) (b : Fin 2) (i : Fin 12288) (h : Fin 8) (d : Fin 128) :
    turn c s X (ix4 b i h d) = Rope.turned (fun e => c (ix4 b i h e)) (fun e => s (ix4 b i h e)) (fun e => FloatOps.extf .f32 bitsLt_bf16_f32 (X (ix4 b i h e))) d := by
  pointwise [turn, Rope.turned]
  by_cases h : d.val < 64
  · rw [dif_pos h, dif_pos h]
  · have e : (⟨64 + (d.val - 64), by omega⟩ : Fin 128) = d := Fin.ext (by show 64 + (d.val - 64) = d.val; omega)
    rw [dif_neg h, dif_neg h, e]

theorem keys_apply (p : IVec S2 32) (X : FVec F S2x12288x8x128 .bf16) (b : Fin 2) (i : Fin 12288) (h : Fin 8) (d : Fin 128) :
    keys p X (ix4 b i h d) = Rope.head p X b i h d := by
  refine congrArg (FloatOps.truncf .bf16 bitsLt_bf16_f32) ((turn_apply _ _ X b i h d).trans ?_)
  congr 1
  · funext e
    exact (spread_apply _ b i h e).trans (congrArg (FloatOps.hostUnary .cos) (angles_apply p b i e))
  · funext e
    exact (spread_apply _ b i h e).trans (congrArg (FloatOps.hostUnary .sin) (angles_apply p b i e))

theorem rows_apply (X : FVec Ideal S2x12288x8x128 .bf16) (b : Fin 2) (i : Fin 12288) (h : Fin 8) :
    rows X (ix3 b h i) = Rope.rowMax fun d => X (ix4 b i h d) := by
  pointwise [rows, Rope.rowMax]
  rw [show Ideal.ofBits .bf16 0xFF80#16 = (⊥ : EReal) from by simp [Ideal.ofBits, Ideal.ieee]]
  rfl

end Cert.PrepKVReferenceIdeal.At
-- ==== Proof.PrepKVClaim.lean ====
/- The call that prepares the keys and the values and its reference compute the same four arrays. -/
module

public import proofs.«01_k».proof.Defs
public import proofs.«01_k».proof.Proof.PrepKVValue
public import proofs.«01_k».proof.Proof.PrepKVReferenceAt
public import Idealize.ShloMosaic.Lib.Bf16Pair
public import Idealize.ShloMosaic.Lib.Quiescent

@[expose] public section

noncomputable section

namespace Cert.PrepKVClaim

open Idealize.ShloMosaic Idealize.ShloMosaic.TcCoe Idealize.SL.Sem

/-- Each of the two places where the words are taken apart is an instance of the rule. -/
theorem preserves : Cert.preserves_PrepKV_PrepKVIdeal :=
  ⟨IdealRules.bf16_pair.statement _ _, IdealRules.bf16_pair.statement _ _⟩

/-- The reference runs, its arguments end unchanged and every counter at zero. -/
theorem reference_frame : Cert.quiescent_PrepKVReferenceIdeal := fun m ρ _ =>
  (θ_run Cert.PrepKVReferenceIdeal.defs _ _).mono
    (fun r h => ⟨fun c => (h c).2.2.2.2, Idealize.ShloMosaic.sem_eq_zero_of_no_sems (by decide) r.2⟩)
    (Cert.PrepKVReferenceIdeal.Value.run (F := Ideal) m ρ)

section Reference

open Cert.PrepKVReferenceIdeal Cert.PrepKVReferenceIdeal.Gen

/-- The reference's transposed arrays, entry by entry. -/
theorem keys_eq (p : IVec S2 32) (X : FVec Ideal S2x12288x8x128 .bf16) :
    transpose S2x8x12288x128 [0, 2, 1, 3] (At.keys p X) transposes_S2x12288x8x128_S2x8x12288x128_0_2_1_3 = Rope.keys p X := by
  funext y
  refine Eq.trans ?_ (At.keys_apply p X (y 0) (y 2) (y 1) (y 3))
  generalize At.keys p X = k
  pointwise
theorem vals_eq (X : FVec Ideal S2x12288x8x128 .bf16) :
    transpose S2x8x128x12288 [0, 2, 3, 1] X transposes_S2x12288x8x128_S2x8x128x12288_0_2_3_1 = Rope.vals X := by
  funext y
  pointwise [Rope.vals]
theorem rows_eq (X : FVec Ideal S2x12288x8x128 .bf16) : At.rows X = Rope.plainRows X := by
  funext y
  refine Eq.trans (congrArg (At.rows X) (?_ : y = ix3 (y 0) (y 1) (y 2))) (At.rows_apply X (y 0) (y 2) (y 1))
  funext a
  match a with
  | ⟨0, _⟩ => rfl
  | ⟨1, _⟩ => rfl
  | ⟨2, _⟩ => rfl
theorem turnedRows_eq (p : IVec S2 32) (X : FVec Ideal S2x12288x8x128 .bf16) : At.rows (At.keys p X) = Rope.turnedRows p X := by
  refine (rows_eq _).trans (funext fun y => ?_)
  exact congrArg Rope.rowMax (funext fun d => At.keys_apply p X (y 0) (y 2) (y 1) d)

end Reference

/-- The four arrays of the kernel are the reference's: the turned keys, the values, and the largest absolute entries. -/
theorem algebraic : Cert.algebraic_PrepKVIdeal_PrepKVReferenceIdeal := fun m g m' g' _ hargs => by
  refine ⟨_, _, _, _, (θ_run Cert.PrepKVIdeal.defs _ _).mono (fun r h c =>
      ⟨(h c).1.trans (Cert.PrepKVIdeal.At.final4 m c), (h c).2.1.trans (Cert.PrepKVIdeal.At.final5 m c),
        (h c).2.2.1.trans (Cert.PrepKVIdeal.At.final6 m c), (h c).2.2.2.1.trans (Cert.PrepKVIdeal.At.final7 m c), (h c).2.2.2.2⟩)
      (Cert.PrepKVIdeal.Value.run_blocks m g), ?_⟩
  refine (θ_run Cert.PrepKVReferenceIdeal.defs _ _).mono (fun r h c => ?_) (Cert.PrepKVReferenceIdeal.Value.run (F := Ideal) m' g')
  obtain ⟨h0, h1, h2, h3, hk⟩ := h c
  obtain ⟨e0, e1, e2⟩ := hargs c
  refine ⟨(h0.trans ((Cert.PrepKVReferenceIdeal.At.res46 m' c).trans (keys_eq _ _))).trans ?_, (h1.trans (vals_eq _)).trans ?_,
    (h2.trans ((Cert.PrepKVReferenceIdeal.At.res48 m' c).trans (turnedRows_eq _ _))).trans ?_, (h3.trans (rows_eq _)).trans ?_, hk⟩
  · rw [e0, e2]
  · rw [e1]
  · rw [e0, e2]
  · rw [e1]

end Cert.PrepKVClaim
-- ==== Proof.PrepQValue.lean ====
/- What the call that prepares the queries leaves: the turned queries and the largest absolute entry of each. -/
module

public import proofs.«01_k».proof.Proof.Gen.PrepQIdeal.Value
public import proofs.«01_k».proof.Proof.Rope
public import proofs.«01_k».proof.Proof.HeadMax
public import Idealize.ShloMosaic.Lib.Pipeline.ValueKit.Geometry
public import Idealize.ShloMosaic.Lib.Pointwise
public import Idealize.ShloMosaic.Lib.Tactic

@[expose] public section

set_option maxRecDepth 16384

noncomputable section

namespace Cert.PrepQIdeal.At

open Cert.PrepQIdeal Cert.PrepQIdeal.Gen
open Idealize.ShloMosaic Idealize.ShloMosaic.TcCoe
open Idealize.SL.Sem
open Idealize.ShloMosaic.Pipeline

variable {F : FTy → Type} [FloatOps F]

/-! ## One head of one block -/

theorem inbI (h : Fin 56) : ∀ a, (![0, 0, 2 * (h.val / 2), 0] : Fin 4 → Nat) a + S1x256x2x128.size a ≤ S1x256x56x128.size a := by revert h; decide
theorem inbB (h : Fin 56) : ∀ a, (![0, h.val, 0, 0] : Fin 4 → Nat) a + S1x1x128x256.size a ≤ S1x56x128x256.size a := by revert h; decide
theorem inbR (h : Fin 56) : ∀ a, (![0, h.val, 0] : Fin 3 → Nat) a + S1x1x256.size a ≤ S1x56x256.size a := by revert h; decide

/-- Which of the two heads of its pair a head is. -/
def par (h : Fin 56) : Fin 2 := ⟨h.val % 2, Nat.mod_lt _ (by decide)⟩

/-- A head taken out of its pair, its tokens along the last axis. -/
def half (h : Fin 56) (x : Vec F S1x256x56x128 .bf16) : FVec F S128x256 .f32 :=
  transpose S128x256 [1, 0] (extf .f32 (shapeCast S256x128 (rowsOfParity (par h) S1x256x1x128
    (View.ld x (Rect.unit ![0, 0, 2 * (h.val / 2), 0] S1x256x2x128.size (inbI h)))
    bitcasts_S1x256x2x128_w16_S1x256x1x128_w32) shapeCasts_S1x256x1x128_S256x128)) transposes_S256x128_p1_0_S128x256

/-- The cosines or the sines of a block. -/
def trig (v : Vec F S1x64x256 .f32) : FVec F S64x256 .f32 :=
  shapeCast S64x256 (View.ld v (Rect.unit (s := S1x64x256) ![0, 0, 0] S1x64x256.size inb_S1x64x256_S1x64x256_0_0_0)) shapeCasts_S1x64x256_S64x256

/-- The upper and the lower half of the entries of all tokens -/
def upper (x : FVec F S128x256 .f32) : FVec F S64x256 .f32 := extractStridedSlice S64x256 ![0, 0] x slices_S128x256_o0_0_S64x256
def lower (x : FVec F S128x256 .f32) : FVec F S64x256 .f32 := extractStridedSlice S64x256 ![64, 0] x slices_S128x256_o64_0_S64x256

/-- and all tokens turned. -/
def rot (c s : FVec F S64x256 .f32) (x : FVec F S128x256 .f32) : FVec F S128x256 .bf16 :=
  truncf .bf16 (concatenate S128x256 0 [⟨S64x256, subf (mulf (upper x) c) (mulf (lower x) s)⟩, ⟨S64x256, addf (mulf (lower x) c) (mulf (upper x) s)⟩]
    concatenates_S64x256_S64x256_S128x256_d0) bitsLt_bf16_f32

/-- The largest absolute entry of every token. -/
def rows (x : FVec F S128x256 .bf16) : FVec F S1x1x256 .f32 :=
  shapeCast S1x1x256 (shapeCast S1x256 (multiReduction .maximumf [0] S256 (absf (extf .f32 x bitsLt_bf16_f32)) 0xFF800000#32 reduces_S128x256_S256 (.inl rfl) rfl)
    shapeCasts_S256_S1x256) shapeCasts_S1x256_S1x1x256

/-- The turned queries of a head. -/
def qs (x0 : Vec F S1x256x56x128 .bf16) (x1 x2 : Vec F S1x64x256 .f32) (h : Fin 56) : FVec F S128x256 .bf16 := rot (trig x1) (trig x2) (half h x0)

/-- What is stored of a head into the first output, -/
def piece3 (x0 : Vec F S1x256x56x128 .bf16) (x1 x2 : Vec F S1x64x256 .f32) (h : Fin 56) : View.Piece (Elt F) S1x56x128x256 .bf16 :=
  ⟨Rect.unit ![0, h.val, 0, 0] S1x1x128x256.size (inbB h), shapeCast S1x1x128x256 (qs x0 x1 x2 h) shapeCasts_S128x256_S1x1x128x256⟩

/-- and the largest absolute entries of its vectors, stored into the second. -/
def rowPiece (R : Fin 56 → FVec F S1x1x256 .f32) (h : Fin 56) : View.Piece (Elt F) S1x56x256 .f32 :=
  ⟨Rect.unit ![0, h.val, 0] S1x1x256.size (inbR h), R h⟩

/-- The blocks are made of these pieces. -/
theorem out3 (x0 : Vec F S1x256x56x128 .bf16) (x1 x2 : Vec F S1x64x256 .f32) :
    out0_3 x0 x1 x2 = View.canon ((List.finRange 56).reverse.map (piece3 x0 x1 x2)) := rfl
theorem out4 (x0 : Vec F S1x256x56x128 .bf16) (x1 x2 : Vec F S1x64x256 .f32) :
    out0_4 x0 x1 x2 = View.canon ((List.finRange 56).reverse.map (rowPiece fun h => rows (qs x0 x1 x2 h))) := rfl

/-! ## Its entries -/

theorem half_apply (h : Fin 56) (x : Vec F S1x256x56x128 .bf16) (d : Fin 128) (w : Fin 256) :
    half h x (ix2 d w) = FloatOps.extf .f32 bitsLt_bf16_f32 (x (ix4 (n0 := 1) 0 w h d)) := by
  have e : half h x (ix2 d w) = FloatOps.extf .f32 bitsLt_bf16_f32 (View.ld x (Rect.unit ![0, 0, 2 * (h.val / 2), 0] S1x256x2x128.size (inbI h)) (ix4 (n0 := 1) 0 w (par h) d)) := by
    pointwise [half]
  refine e.trans (congrArg _ (congrArg x (funext fun a => Fin.ext ?_)))
  match a with
  | ⟨0, _⟩ => rfl
  | ⟨1, _⟩ => show 0 + 1 * w.val = w.val; omega
  | ⟨2, _⟩ => show 2 * (h.val / 2) + 1 * (h.val % 2) = h.val; omega
  | ⟨3, _⟩ => show 0 + 1 * d.val = d.val; omega

theorem trig_apply (v : Vec F S1x64x256 .f32) (e : Fin 64) (w : Fin 256) : trig v (ix2 e w) = v (ix3 (n0 := 1) 0 e w) := by
  have e : trig v (ix2 e w) = View.ld v (Rect.unit (s := S1x64x256) ![0, 0, 0] S1x64x256.size inb_S1x64x256_S1x64x256_0_0_0) (ix3 (n0 := 1) 0 e w) := by
    pointwise [trig]
  refine e.trans (congrArg v (funext fun a => Fin.ext ?_))
  match a with
  | ⟨0, _⟩ => rfl
  | ⟨1, _⟩ => show 0 + 1 * _ = _; omega
  | ⟨2, _⟩ => show 0 + 1 * w.val = w.val; omega

theorem rot_apply (c s : FVec F S64x256 .f32) (x : FVec F S128x256 .f32) (d : Fin 128) (w : Fin 256) :
    rot c s x (ix2 d w) = FloatOps.truncf .bf16 bitsLt_bf16_f32 (Rope.turned (fun e => c (ix2 e w)) (fun e => s (ix2 e w)) (fun e => x (ix2 e w)) d) := by
  pointwise [rot, upper, lower, Rope.turned]
  by_cases h : d.val < 64
  · rw [dif_pos h, dif_pos h]
  · have e : (⟨64 + (d.val - 64), by omega⟩ : Fin 128) = d := Fin.ext (by show 64 + (d.val - 64) = d.val; omega)
    rw [dif_neg h, dif_neg h, e]

theorem rows_apply (x : FVec Ideal S128x256 .bf16) (w : Fin 256) :
    rows x (ix3 (n0 := 1) (n1 := 1) 0 0 w) = Rope.rowMax fun d => x (ix2 d w) := by
  pointwise [rows, Rope.rowMax]
  rw [HeadMax.ninf]
  rfl

/-- The parts of an index of which some axes have one place only. -/
theorem ix128x256 (y : S1x1x128x256.Idx) : y = ix4 (n0 := 1) (n1 := 1) 0 0 (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl
theorem ix256 (y : S1x1x256.Idx) : y = ix3 (n0 := 1) (n1 := 1) 0 0 (y 2) := by
  funext a
  match a with
  | ⟨0, _⟩ => exact Subsingleton.elim (α := Fin 1) _ _
  | ⟨1, _⟩ => exact Subsingleton.elim (α := Fin 1) _ _
  | ⟨2, _⟩ => rfl

/-- What the first store holds at an index of its own. -/
theorem piece3_apply (x0 : Vec F S1x256x56x128 .bf16) (x1 x2 : Vec F S1x64x256 .f32) (h : Fin 56) (w : Fin 256) (d : Fin 128) :
    (piece3 x0 x1 x2 h).2 (ix4 (n0 := 1) (n1 := 1) 0 0 d w) = qs x0 x1 x2 h (ix2 d w) := by
  show shapeCast S1x1x128x256 (qs x0 x1 x2 h) shapeCasts_S128x256_S1x1x128x256 _ = _
  generalize qs x0 x1 x2 h = k
  pointwise

/-- An entry of the first block, -/
theorem out3_apply (x0 : Vec F S1x256x56x128 .bf16) (x1 x2 : Vec F S1x64x256 .f32) (h : Fin 56) (w : Fin 256) (d : Fin 128) :
    out0_3 x0 x1 x2 (ix4 (n0 := 1) 0 h d w) = qs x0 x1 x2 h (ix2 d w) := by
  rw [out3]
  refine (View.canon_apply_of_pieces (G := fun y : S1x56x128x256.Idx => qs x0 x1 x2 (y 1) (ix2 (y 2) (y 3))) _ ?_ _ ?_).trans ?_
  · intro p hp x
    obtain ⟨k, -, rfl⟩ := List.mem_map.mp hp
    refine (congrArg (piece3 x0 x1 x2 k).2 (ix128x256 x)).trans ((piece3_apply x0 x1 x2 k (x 3) (x 2)).trans ?_)
    have h1 : (x 1).val = 0 := by have := (x 1).isLt; show _ = _; change (x 1).val < 1 at this; omega
    have e1 : (⟨k.val + 1 * (x 1).val, by rw [h1]; omega⟩ : Fin 56) = k := Fin.ext (by show k.val + 1 * (x 1).val = k.val; omega)
    have e2 : (⟨0 + 1 * (x 2).val, by have : (x 2).val < 128 := (x 2).isLt; omega⟩ : Fin 128) = x 2 := Fin.ext (by show 0 + 1 * (x 2).val = _; omega)
    have e3 : (⟨0 + 1 * (x 3).val, by have : (x 3).val < 256 := (x 3).isLt; omega⟩ : Fin 256) = x 3 := Fin.ext (by show 0 + 1 * (x 3).val = _; omega)
    show _ = qs x0 x1 x2 ⟨k.val + 1 * (x 1).val, _⟩ (ix2 (⟨0 + 1 * (x 2).val, _⟩ : Fin 128) (⟨0 + 1 * (x 3).val, _⟩ : Fin 256))
    rw [e1, e2, e3]
  · refine ⟨piece3 x0 x1 x2 h, List.mem_map.mpr ⟨h, List.mem_reverse.mpr (List.mem_finRange h), rfl⟩, ?_⟩
    refine (Rect.mem_set_unit (inb := inbB h)).mpr fun a => ?_
    match a with
    | ⟨0, _⟩ => exact ⟨Nat.zero_le _, by show 0 < 0 + 1; omega⟩
    | ⟨1, _⟩ => exact ⟨Nat.le_refl _, by show h.val < h.val + 1; omega⟩
    | ⟨2, _⟩ => exact ⟨Nat.zero_le _, by show d.val < 0 + 128; omega⟩
    | ⟨3, _⟩ => exact ⟨Nat.zero_le _, by show w.val < 0 + 256; omega⟩
  · rfl

/-- and of a block of maxima, of whichever vectors. -/
theorem rows_block (R : Fin 56 → FVec F S1x1x256 .f32) (h : Fin 56) (w : Fin 256) :
    View.canon ((List.finRange 56).reverse.map (rowPiece R))
      (ix3 (n0 := 1) 0 h w) = R h (ix3 (n0 := 1) (n1 := 1) 0 0 w) := by
  refine (View.canon_apply_of_pieces (G := fun y : S1x56x256.Idx => R (y 1) (ix3 (n0 := 1) (n1 := 1) 0 0 (y 2))) _ ?_ _ ?_).trans ?_
  · intro p hp x
    obtain ⟨k, -, rfl⟩ := List.mem_map.mp hp
    refine (congrArg (rowPiece R k).2 (ix256 x)).trans ?_
    have h1 : (x 1).val = 0 := by have := (x 1).isLt; show _ = _; change (x 1).val < 1 at this; omega
    have e1 : (⟨k.val + 1 * (x 1).val, by rw [h1]; omega⟩ : Fin 56) = k := Fin.ext (by show k.val + 1 * (x 1).val = k.val; omega)
    have e2 : (⟨0 + 1 * (x 2).val, by have : (x 2).val < 256 := (x 2).isLt; omega⟩ : Fin 256) = x 2 := Fin.ext (by show 0 + 1 * (x 2).val = _; omega)
    show R k (ix3 (n0 := 1) (n1 := 1) 0 0 (x 2)) = R ⟨k.val + 1 * (x 1).val, _⟩ (ix3 (n0 := 1) (n1 := 1) 0 0 (⟨0 + 1 * (x 2).val, _⟩ : Fin 256))
    rw [e1, e2]
  · refine ⟨rowPiece R h, List.mem_map.mpr ⟨h, List.mem_reverse.mpr (List.mem_finRange h), rfl⟩, ?_⟩
    refine (Rect.mem_set_unit (inb := inbR h)).mpr fun a => ?_
    match a with
    | ⟨0, _⟩ => exact ⟨Nat.zero_le _, by show 0 < 0 + 1; omega⟩
    | ⟨1, _⟩ => exact ⟨Nat.le_refl _, by show h.val < h.val + 1; omega⟩
    | ⟨2, _⟩ => exact ⟨Nat.zero_le _, by show w.val < 0 + 256; omega⟩
  · rfl

/-! ## The array -/

variable (m : (ℓ : Loc nD τ sig) → Buf (Elt F) ℓ) (c : Dev nD)

theorem index0 : ∀ t : Fin cfg0.N, win0_0.index t = ![t.val / 48, t.val % 48, 0, 0] :=
  (by decide +kernel : ∀ t : Fin grid0.N, win0_0.index t = ![t.val / 48, t.val % 48, 0, 0])
theorem index1 : ∀ t : Fin cfg0.N, win0_1.index t = ![t.val / 48, 0, t.val % 48] :=
  (by decide +kernel : ∀ t : Fin grid0.N, win0_1.index t = ![t.val / 48, 0, t.val % 48])
theorem index2 : ∀ t : Fin cfg0.N, win0_2.index t = ![t.val / 48, 0, t.val % 48] :=
  (by decide +kernel : ∀ t : Fin grid0.N, win0_2.index t = ![t.val / 48, 0, t.val % 48])
theorem index3 : ∀ t : Fin cfg0.N, win0_3.index t = ![t.val / 48, 0, 0, t.val % 48] :=
  (by decide +kernel : ∀ t : Fin grid0.N, win0_3.index t = ![t.val / 48, 0, 0, t.val % 48])
theorem index4 : ∀ t : Fin cfg0.N, win0_4.index t = ![t.val / 48, 0, t.val % 48] :=
  (by decide +kernel : ∀ t : Fin grid0.N, win0_4.index t = ![t.val / 48, 0, t.val % 48])
theorem covers3 : (cfg0.win 3).Covers := (by decide +kernel : win0_3.Covers)
theorem covers4 : (cfg0.win 4).Covers := (by decide +kernel : win0_4.Covers)

theorem points (t : Fin cfg0.N) : t.val < 96 := t.isLt

/-- The batch of a point, -/
def bat (t : Fin cfg0.N) : Fin 2 := ⟨t.val / 48, by have := points t; omega⟩
/-- and the place of a token of its block. -/
def tok (t : Fin cfg0.N) (w : Fin 256) : Fin 12288 := ⟨t.val % 48 * 256 + w.val, by have := points t; omega⟩

theorem iblk0 (t : Fin cfg0.N) (w : Fin 256) (h : Fin 56) (d : Fin 128) :
    iblk m c 0 t (ix4 (n0 := 1) 0 w h d) = m ((c : Thread nD τ).loc main_arg0) (ix4 (bat t) (tok t w) h d) := by
  have e := index0 t
  refine Eq.trans ?_ (congrFun (V_main_arg0 m c) _)
  refine congrArg (V m c main_arg0) (show ((cfg0.win 0).blk t).view.emb (ix4 (n0 := 1) 0 w h d) = ix4 (bat t) (tok t w) h d from ?_)
  refine funext fun a => Fin.ext ?_
  match a with
  | ⟨0, _⟩ => show win0_0.index t 0 * 1 + 1 * 0 = t.val / 48; rw [e]; show t.val / 48 * 1 + 1 * 0 = _; omega
  | ⟨1, _⟩ => show win0_0.index t 1 * 256 + 1 * w.val = t.val % 48 * 256 + w.val; rw [e]; show t.val % 48 * 256 + 1 * w.val = _; omega
  | ⟨2, _⟩ => show win0_0.index t 2 * 56 + 1 * h.val = h.val; rw [e]; show 0 * 56 + 1 * h.val = _; omega
  | ⟨3, _⟩ => show win0_0.index t 3 * 128 + 1 * d.val = d.val; rw [e]; show 0 * 128 + 1 * d.val = _; omega

/-- The angles as the host lays them out. -/
def angles (p : IVec S2 32) : FVec F S2x64x12288 .f32 :=
  mulf (broadcastInDim S2x64x12288 ![0, 1, 2] bcast_S2x1x12288_S2x64x12288_0_1_2 (broadcastInDim S2x1x12288 ![0, 2] bcast_S2x12288_S2x1x12288_0_2 (Rope.pos p)))
    (broadcastInDim S2x64x12288 ![0, 1, 2] bcast_S1x64x1_S2x64x12288_0_1_2 (broadcastInDim S1x64x1 ![1, 2] bcast_S64x1_S1x64x1_1_2 (broadcastInDim S64x1 ![0] bcast_S64_S64x1_0 Rope.freq)))

theorem angles_apply (p : IVec S2 32) (b : Fin 2) (i : Fin 12288) (e : Fin 64) : (angles p : FVec F _ _) (ix3 b e i) = Rope.angle p b i (ix1 e) := by
  show _ = FloatOps.mulf (Rope.pos p (ix2 b i)) (Rope.freq (ix1 e))
  unfold angles
  generalize (Rope.pos p : FVec F _ _) = u
  generalize (Rope.freq : FVec F _ _) = v
  pointwise

/-- What the call finds in the arrays of its third and its fourth window. -/
theorem host_cos : V m c main_v21 = Host.cos (angles (m ((c : Thread nD τ).loc main_arg1))) := by
  simp only [V, hostOps0]
  after_results_simp
  rfl
theorem host_sin : V m c main_v22 = Host.sin (angles (m ((c : Thread nD τ).loc main_arg1))) := by
  simp only [V, hostOps0]
  after_results_simp
  rfl

theorem iblk1 (t : Fin cfg0.N) (e : Fin 64) (w : Fin 256) :
    iblk m c 1 t (ix3 (n0 := 1) 0 e w) = Rope.cosAt (m ((c : Thread nD τ).loc main_arg1)) (bat t) (tok t w) e := by
  have h := index1 t
  refine Eq.trans (congrArg (V m c main_v21) (show ((cfg0.win 1).blk t).view.emb (ix3 (n0 := 1) 0 e w) = ix3 (bat t) e (tok t w) from ?_)) ?_
  · refine funext fun a => Fin.ext ?_
    match a with
    | ⟨0, _⟩ => show win0_1.index t 0 * 1 + 1 * 0 = t.val / 48; rw [h]; show t.val / 48 * 1 + 1 * 0 = _; omega
    | ⟨1, _⟩ => show win0_1.index t 1 * 64 + 1 * e.val = e.val; rw [h]; show 0 * 64 + 1 * e.val = _; omega
    | ⟨2, _⟩ => show win0_1.index t 2 * 256 + 1 * w.val = t.val % 48 * 256 + w.val; rw [h]; show t.val % 48 * 256 + 1 * w.val = _; omega
  · exact (congrFun (host_cos m c) _).trans (congrArg (FloatOps.hostUnary .cos) (angles_apply _ (bat t) (tok t w) e))

theorem iblk2 (t : Fin cfg0.N) (e : Fin 64) (w : Fin 256) :
    iblk m c 2 t (ix3 (n0 := 1) 0 e w) = Rope.sinAt (m ((c : Thread nD τ).loc main_arg1)) (bat t) (tok t w) e := by
  have h := index2 t
  refine Eq.trans (congrArg (V m c main_v22) (show ((cfg0.win 2).blk t).view.emb (ix3 (n0 := 1) 0 e w) = ix3 (bat t) e (tok t w) from ?_)) ?_
  · refine funext fun a => Fin.ext ?_
    match a with
    | ⟨0, _⟩ => show win0_2.index t 0 * 1 + 1 * 0 = t.val / 48; rw [h]; show t.val / 48 * 1 + 1 * 0 = _; omega
    | ⟨1, _⟩ => show win0_2.index t 1 * 64 + 1 * e.val = e.val; rw [h]; show 0 * 64 + 1 * e.val = _; omega
    | ⟨2, _⟩ => show win0_2.index t 2 * 256 + 1 * w.val = t.val % 48 * 256 + w.val; rw [h]; show t.val % 48 * 256 + 1 * w.val = _; omega
  · exact (congrFun (host_sin m c) _).trans (congrArg (FloatOps.hostUnary .sin) (angles_apply _ (bat t) (tok t w) e))

/-- The turned vectors of a point's block. -/
theorem query_at (t : Fin cfg0.N) (h : Fin 56) (d : Fin 128) (w : Fin 256) :
    qs (iblk m c 0 t) (iblk m c 1 t) (iblk m c 2 t) h (ix2 d w) =
      Rope.head (m ((c : Thread nD τ).loc main_arg1)) (m ((c : Thread nD τ).loc main_arg0)) (bat t) (tok t w) h d := by
  refine (rot_apply _ _ _ d w).trans (congrArg (FloatOps.truncf .bf16 bitsLt_bf16_f32) ?_)
  congr 1
  · funext e
    exact (trig_apply _ e w).trans (iblk1 m c t e w)
  · funext e
    exact (trig_apply _ e w).trans (iblk2 m c t e w)
  · funext e
    exact (half_apply h _ e w).trans (congrArg (FloatOps.extf .f32 bitsLt_bf16_f32) (iblk0 m c t w h e))

/-- Where the entries of the output blocks lie. -/
theorem emb3 (t : Fin cfg0.N) (y : S1x56x128x256.Idx) : ((cfg0.win 3).blk t).view.emb y = ix4 (bat t) (y 1) (y 2) (tok t (y 3)) := by
  have e := index3 t
  refine funext fun a => Fin.ext ?_
  match a with
  | ⟨0, _⟩ => have h0 : (y 0).val < 1 := (y 0).isLt; show win0_3.index t 0 * 1 + 1 * (y 0).val = t.val / 48; rw [e]; show t.val / 48 * 1 + 1 * (y 0).val = _; omega
  | ⟨1, _⟩ => show win0_3.index t 1 * 56 + 1 * (y 1).val = (y 1).val; rw [e]; show 0 * 56 + 1 * (y 1).val = _; omega
  | ⟨2, _⟩ => show win0_3.index t 2 * 128 + 1 * (y 2).val = (y 2).val; rw [e]; show 0 * 128 + 1 * (y 2).val = _; omega
  | ⟨3, _⟩ => show win0_3.index t 3 * 256 + 1 * (y 3).val = t.val % 48 * 256 + (y 3).val; rw [e]; show t.val % 48 * 256 + 1 * (y 3).val = _; omega
theorem emb4 (t : Fin cfg0.N) (y : S1x56x256.Idx) : ((cfg0.win 4).blk t).view.emb y = ix3 (bat t) (y 1) (tok t (y 2)) := by
  have e := index4 t
  refine funext fun a => Fin.ext ?_
  match a with
  | ⟨0, _⟩ => have h0 : (y 0).val < 1 := (y 0).isLt; show win0_4.index t 0 * 1 + 1 * (y 0).val = t.val / 48; rw [e]; show t.val / 48 * 1 + 1 * (y 0).val = _; omega
  | ⟨1, _⟩ => show win0_4.index t 1 * 56 + 1 * (y 1).val = (y 1).val; rw [e]; show 0 * 56 + 1 * (y 1).val = _; omega
  | ⟨2, _⟩ => show win0_4.index t 2 * 256 + 1 * (y 2).val = t.val % 48 * 256 + (y 2).val; rw [e]; show t.val % 48 * 256 + 1 * (y 2).val = _; omega
/-- The places in a block whose first axis has one place only. -/
theorem in128x256 (y : S1x56x128x256.Idx) : y = ix4 (n0 := 1) 0 (y 1) (y 2) (y 3) := by
  funext a
  match a with
  | ⟨0, _⟩ => exact Subsingleton.elim (α := Fin 1) _ _
  | ⟨1, _⟩ => rfl
  | ⟨2, _⟩ => rfl
  | ⟨3, _⟩ => rfl
theorem in256 (y : S1x56x256.Idx) : y = ix3 (n0 := 1) 0 (y 1) (y 2) := by
  funext a
  match a with
  | ⟨0, _⟩ => exact Subsingleton.elim (α := Fin 1) _ _
  | ⟨1, _⟩ => rfl
  | ⟨2, _⟩ => rfl

theorem queries_block (t : Fin cfg0.N) (y : S1x56x128x256.Idx) : out0_3 (iblk m c 0 t) (iblk m c 1 t) (iblk m c 2 t) y =
    Rope.queries (m ((c : Thread nD τ).loc main_arg1)) (m ((c : Thread nD τ).loc main_arg0)) (ix4 (bat t) (y 1) (y 2) (tok t (y 3))) :=
  (congrArg (out0_3 (iblk m c 0 t) (iblk m c 1 t) (iblk m c 2 t)) (in128x256 y)).trans
    ((out3_apply _ _ _ (y 1) (y 3) (y 2)).trans (query_at m c t (y 1) (y 2) (y 3)))

section Ideal

variable (m : (ℓ : Loc nD τ sig) → Buf (Elt Ideal) ℓ) (c : Dev nD)

theorem qRows_block (t : Fin cfg0.N) (y : S1x56x256.Idx) : out0_4 (iblk m c 0 t) (iblk m c 1 t) (iblk m c 2 t) y =
    Rope.turnedRows (m ((c : Thread nD τ).loc main_arg1)) (m ((c : Thread nD τ).loc main_arg0)) (ix3 (bat t) (y 1) (tok t (y 2))) := by
  refine (congrArg (out0_4 (iblk m c 0 t) (iblk m c 1 t) (iblk m c 2 t)) (in256 y)).trans ?_
  rw [out4]
  refine (rows_block _ (y 1) (y 2)).trans ((rows_apply _ (y 2)).trans ?_)
  exact congrArg Rope.rowMax (funext fun d => query_at m c t (y 1) d (y 2))

attribute [local irreducible] out0_3 out0_4 Rope.queries Rope.turnedRows

/-- The two arrays after the call. -/
theorem final3 : (dats m 0 c).arrAt 3 cfg0.N = (Rope.queries (m ((c : Thread nD τ).loc main_arg1)) (m ((c : Thread nD τ).loc main_arg0)) : FVec Ideal S2x56x128x12288 .bf16) := by
  refine (dats m 0 c).arrAt_eq_of_covers 3 _ covers3 fun t hf y => ?_
  rw [after0_3]
  refine (queries_block m c t y).trans ?_
  rw [emb3 t y]
  rfl
theorem final4 : (dats m 0 c).arrAt 4 cfg0.N = Rope.turnedRows (m ((c : Thread nD τ).loc main_arg1)) (m ((c : Thread nD τ).loc main_arg0)) := by
  refine (dats m 0 c).arrAt_eq_of_covers 4 _ covers4 fun t hf y => ?_
  rw [after0_4]
  exact (qRows_block m c t y).trans (congrArg (Rope.turnedRows (m ((c : Thread nD τ).loc main_arg1)) (m ((c : Thread nD τ).loc main_arg0))) (emb4 t y)).symm

end Ideal

end Cert.PrepQIdeal.At
-- ==== Proof.PrepQReferenceAt.lean ====
/- What the reference of the call that prepares the queries computes, entry by entry. -/
module

public import proofs.«01_k».proof.Proof.Gen.PrepQReferenceIdeal.Run
public import proofs.«01_k».proof.Proof.Rope
public import proofs.«01_k».proof.Proof.HeadMax

@[expose] public section

set_option maxRecDepth 16384

noncomputable section

namespace Cert.PrepQReferenceIdeal.At

open Cert.PrepQReferenceIdeal Cert.PrepQReferenceIdeal.Gen
open Idealize.ShloMosaic Idealize.ShloMosaic.TcCoe

variable {F : FTy → Type} [FloatOps F]

/-- A cosine or a sine of every token for every head -/
def spread (v : FVec F S2x12288x64 .f32) : FVec F S2x12288x56x64 .f32 :=
  broadcastInDim S2x12288x56x64 ![0, 1, 2, 3] bcast_S2x12288x1x64_S2x12288x56x64_0_1_2_3 (broadcastInDim S2x12288x1x64 ![0, 1, 3] bcast_S2x12288x64_S2x12288x1x64_0_1_3 v)

/-- of these angles. -/
def angles (p : IVec S2 32) : FVec F S2x12288x64 .f32 :=
  mulf (broadcastInDim S2x12288x64 ![0, 1, 2] bcast_S2x12288x1_S2x12288x64_0_1_2 (broadcastInDim S2x12288x1 ![0, 1] bcast_S2x12288_S2x12288x1_0_1 (Rope.pos p)))
    (broadcastInDim S2x12288x64 ![0, 1, 2] bcast_S1x1x64_S2x12288x64_0_1_2 (broadcastInDim S1x1x64 ![2] bcast_S64_S1x1x64_2 Rope.freq))

/-- The turned vectors before their rounding. -/
def turn (c s : FVec F S2x12288x56x64 .f32) (X : FVec F S2x12288x56x128 .bf16) : FVec F S2x12288x56x128 .f32 :=
  concatenate S2x12288x56x128 3
    [⟨S2x12288x56x64, subf (mulf (extf .f32 (extractStridedSlice S2x12288x56x64 ![0, 0, 0, 0] X slices_S2x12288x56x128_S2x12288x56x64_0_0_0_0) bitsLt_bf16_f32) c)
        (mulf (extf .f32 (extractStridedSlice S2x12288x56x64 ![0, 0, 0, 64] X slices_S2x12288x56x128_S2x12288x56x64_0_0_0_64) bitsLt_bf16_f32) s)⟩,
      ⟨S2x12288x56x64, addf (mulf (extf .f32 (extractStridedSlice S2x12288x56x64 ![0, 0, 0, 64] X slices_S2x12288x56x128_S2x12288x56x64_0_0_0_64) bitsLt_bf16_f32) c)
        (mulf (extf .f32 (extractStridedSlice S2x12288x56x64 ![0, 0, 0, 0] X slices_S2x12288x56x128_S2x12288x56x64_0_0_0_0) bitsLt_bf16_f32) s)⟩]
    concatenates_S2x12288x56x64_S2x12288x56x64_S2x12288x56x128_d3

/-- The turned queries. -/
def queries (p : IVec S2 32) (X : FVec F S2x12288x56x128 .bf16) : FVec F S2x12288x56x128 .bf16 :=
  truncf .bf16 (turn (spread (Host.cos (angles p))) (spread (Host.sin (angles p))) X) bitsLt_bf16_f32

/-- The largest absolute entries of all vectors. -/
def rows (X : FVec F S2x12288x56x128 .bf16) : FVec F S2x56x12288 .f32 :=
  transpose S2x56x12288 [0, 2, 1] (extf .f32 (Host.reduce FloatOps.maximumf (Host.absf X) (constant S_ .bf16 0xFF80#16) reducesTo_S2x12288x56x128_S2x12288x56_d3 h_S_)
    bitsLt_bf16_f32) transposes_S2x12288x56_S2x56x12288_0_2_1

variable (m : (ℓ : Loc nD τ sig) → Buf (Elt F) ℓ) (c : Dev nD)

/-- The results in these terms. -/
theorem res43 : Value.res_main_v43 m c = transpose S2x56x128x12288 [0, 2, 3, 1] (queries (m ((c.tc : Thread nD τ).loc main_arg1)) (m ((c.tc : Thread nD τ).loc main_arg0)))
    transposes_S2x12288x56x128_S2x56x128x12288_0_2_3_1 := rfl
theorem res44 : Value.res_main_v44 m c = rows (queries (m ((c.tc : Thread nD τ).loc main_arg1)) (m ((c.tc : Thread nD τ).loc main_arg0))) := rfl

/-! ## The entries -/

theorem spread_apply (v : FVec F S2x12288x64 .f32) (b : Fin 2) (i : Fin 12288) (h : Fin 56) (e : Fin 64) : spread v (ix4 b i h e) = v (ix3 b i e) := by
  pointwise [spread]

theorem angles_apply (p : IVec S2 32) (b : Fin 2) (i : Fin 12288) (e : Fin 64) : (angles p : FVec F _ _) (ix3 b i e) = Rope.angle p b i (ix1 e) := by
  show _ = FloatOps.mulf (Rope.pos p (ix2 b i)) (Rope.freq (ix1 e))
  unfold angles
  generalize (Rope.pos p : FVec F _ _) = u
  generalize (Rope.freq : FVec F _ _) = v
  pointwise

theorem turn_apply (c s : FVec F S2x12288x56x64 .f32) (X : FVec F S2x12288x56x128 .bf16) (b : Fin 2) (i : Fin 12288) (h : Fin 56) (d : Fin 128) :
    turn c s X (ix4 b i h d) = Rope.turned (fun e => c (ix4 b i h e)) (fun e => s (ix4 b i h e)) (fun e => FloatOps.extf .f32 bitsLt_bf16_f32 (X (ix4 b i h e))) d := by
  pointwise [turn, Rope.turned]
  by_cases h : d.val < 64
  · rw [dif_pos h, dif_pos h]
  · have e : (⟨64 + (d.val - 64), by omega⟩ : Fin 128) = d := Fin.ext (by show 64 + (d.val - 64) = d.val; omega)
    rw [dif_neg h, dif_neg h, e]

theorem queries_apply (p : IVec S2 32) (X : FVec F S2x12288x56x128 .bf16) (b : Fin 2) (i : Fin 12288) (h : Fin 56) (d : Fin 128) :
    queries p X (ix4 b i h d) = Rope.head p X b i h d := by
  refine congrArg (FloatOps.truncf .bf16 bitsLt_bf16_f32) ((turn_apply _ _ X b i h d).trans ?_)
  congr 1
  · funext e
    exact (spread_apply _ b i h e).trans (congrArg (FloatOps.hostUnary .cos) (angles_apply p b i e))
  · funext e
    exact (spread_apply _ b i h e).trans (congrArg (FloatOps.hostUnary .sin) (angles_apply p b i e))

theorem rows_apply (X : FVec Ideal S2x12288x56x128 .bf16) (b : Fin 2) (i : Fin 12288) (h : Fin 56) :
    rows X (ix3 b h i) = Rope.rowMax fun d => X (ix4 b i h d) := by
  pointwise [rows, Rope.rowMax]
  rw [show Ideal.ofBits .bf16 0xFF80#16 = (⊥ : EReal) from by simp [Ideal.ofBits, Ideal.ieee]]
  rfl

end Cert.PrepQReferenceIdeal.At
-- ==== Proof.PrepQClaim.lean ====
/- The call that prepares the queries and its reference compute the same two arrays. -/
module

public import proofs.«01_k».proof.Defs
public import proofs.«01_k».proof.Proof.PrepQValue
public import proofs.«01_k».proof.Proof.PrepQReferenceAt
public import Idealize.ShloMosaic.Lib.Bf16Pair
public import Idealize.ShloMosaic.Lib.Quiescent

@[expose] public section

noncomputable section

namespace Cert.PrepQClaim

open Idealize.ShloMosaic Idealize.ShloMosaic.TcCoe Idealize.SL.Sem

/-- Each of the two places where the words are taken apart is an instance of the rule. -/
theorem preserves : Cert.preserves_PrepQ_PrepQIdeal :=
  ⟨IdealRules.bf16_pair.statement _ _, IdealRules.bf16_pair.statement _ _⟩

/-- The reference runs, its arguments end unchanged and every counter at zero. -/
theorem reference_frame : Cert.quiescent_PrepQReferenceIdeal := fun m ρ _ =>
  (θ_run Cert.PrepQReferenceIdeal.defs _ _).mono
    (fun r h => ⟨fun c => (h c).2.2, Idealize.ShloMosaic.sem_eq_zero_of_no_sems (by decide) r.2⟩)
    (Cert.PrepQReferenceIdeal.Value.run (F := Ideal) m ρ)

section Reference

open Cert.PrepQReferenceIdeal Cert.PrepQReferenceIdeal.Gen

/-- The reference's transposed arrays, entry by entry. -/
theorem queries_eq (p : IVec S2 32) (X : FVec Ideal S2x12288x56x128 .bf16) :
    transpose S2x56x128x12288 [0, 2, 3, 1] (At.queries p X) transposes_S2x12288x56x128_S2x56x128x12288_0_2_3_1 = Rope.queries p X := by
  funext y
  refine Eq.trans ?_ (At.queries_apply p X (y 0) (y 3) (y 1) (y 2))
  generalize At.queries p X = k
  pointwise
theorem rows_eq (X : FVec Ideal S2x12288x56x128 .bf16) : At.rows X = Rope.plainRows X := by
  funext y
  refine Eq.trans (congrArg (At.rows X) (?_ : y = ix3 (y 0) (y 1) (y 2))) (At.rows_apply X (y 0) (y 2) (y 1))
  funext a
  match a with
  | ⟨0, _⟩ => rfl
  | ⟨1, _⟩ => rfl
  | ⟨2, _⟩ => rfl
theorem turnedRows_eq (p : IVec S2 32) (X : FVec Ideal S2x12288x56x128 .bf16) : At.rows (At.queries p X) = Rope.turnedRows p X := by
  refine (rows_eq _).trans (funext fun y => ?_)
  exact congrArg Rope.rowMax (funext fun d => At.queries_apply p X (y 0) (y 2) (y 1) d)

end Reference

/-- The two arrays of the kernel are the reference's: the turned queries and their largest absolute entries. -/
theorem algebraic : Cert.algebraic_PrepQIdeal_PrepQReferenceIdeal := fun m g m' g' _ hargs => by
  refine ⟨_, _, (θ_run Cert.PrepQIdeal.defs _ _).mono (fun r h c =>
      ⟨(h c).1.trans (Cert.PrepQIdeal.At.final3 m c), (h c).2.1.trans (Cert.PrepQIdeal.At.final4 m c), (h c).2.2⟩)
      (Cert.PrepQIdeal.Value.run_blocks m g), ?_⟩
  refine (θ_run Cert.PrepQReferenceIdeal.defs _ _).mono (fun r h c => ?_) (Cert.PrepQReferenceIdeal.Value.run (F := Ideal) m' g')
  obtain ⟨h0, h1, hk⟩ := h c
  obtain ⟨e0, e1⟩ := hargs c
  refine ⟨(h0.trans ((Cert.PrepQReferenceIdeal.At.res43 m' c).trans (queries_eq _ _))).trans ?_,
    (h1.trans ((Cert.PrepQReferenceIdeal.At.res44 m' c).trans (turnedRows_eq _ _))).trans ?_, hk⟩
  · rw [e0, e1]
  · rw [e0, e1]

end Cert.PrepQClaim
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Amax
public import proofs.«01_k».proof.Proof.Gen.Amax.Frame
public import proofs.«01_k».proof.Proof.Gen.AmaxIdeal
public import proofs.«01_k».proof.Proof.Gen.AmaxIdeal.Value
public import proofs.«01_k».proof.Proof.Gen.AmaxReferenceIdeal
public import proofs.«01_k».proof.Proof.Gen.AmaxReferenceIdeal.Run
public import proofs.«01_k».proof.Proof.Gen.Quant
public import proofs.«01_k».proof.Proof.Gen.Quant.Frame
public import proofs.«01_k».proof.Proof.Gen.QuantIdeal
public import proofs.«01_k».proof.Proof.Gen.QuantIdeal.Value
public import proofs.«01_k».proof.Proof.Gen.QuantReference
public import proofs.«01_k».proof.Proof.Gen.QuantReference.Frame
public import proofs.«01_k».proof.Proof.Gen.QuantReferenceIdeal
public import proofs.«01_k».proof.Proof.Gen.QuantReferenceIdeal.Value
public import proofs.«01_k».proof.Proof.Gen.PrepKV
public import proofs.«01_k».proof.Proof.Gen.PrepKV.Frame
public import proofs.«01_k».proof.Proof.Gen.PrepKVIdeal
public import proofs.«01_k».proof.Proof.Gen.PrepKVIdeal.Value
public import proofs.«01_k».proof.Proof.Gen.PrepKVReferenceIdeal
public import proofs.«01_k».proof.Proof.Gen.PrepKVReferenceIdeal.Run
public import proofs.«01_k».proof.Proof.Gen.PrepQ
public import proofs.«01_k».proof.Proof.Gen.PrepQ.Frame
public import proofs.«01_k».proof.Proof.Gen.PrepQIdeal
public import proofs.«01_k».proof.Proof.Gen.PrepQIdeal.Value
public import proofs.«01_k».proof.Proof.Gen.PrepQReferenceIdeal
public import proofs.«01_k».proof.Proof.Gen.PrepQReferenceIdeal.Run
public import proofs.«01_k».proof.Proof.Gen.Pre_finite_scores
public import proofs.«01_k».proof.Proof.Body
public import proofs.«01_k».proof.Proof.BodyIdeal
public import proofs.«01_k».proof.Proof.Arrays
public import proofs.«01_k».proof.Proof.Finite
public import proofs.«01_k».proof.Proof.AmaxClaim
public import proofs.«01_k».proof.Proof.QuantClaim
public import proofs.«01_k».proof.Proof.PrepKVClaim
public import proofs.«01_k».proof.Proof.PrepQClaim
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, its arguments end unchanged and every counter at zero. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- On finite queries and keys the kernel's three results are the reference's. -/
theorem algebraic : Cert.algebraic_KernelIdeal_ReferenceIdeal_pre_finite_scores := fun m g m' g' hpre hargs => by
  have hq := fun c => Cert.Pre_finite_scores.Finite.q_real _ _ _ (hpre c)
  have hk := fun c => Cert.Pre_finite_scores.Finite.k_real _ _ _ (hpre c)
  refine ⟨_, _, _, (θ_run Cert.KernelIdeal.defs _ _).mono (fun r h c =>
      ⟨(h.1.out_eq c 3).trans (Cert.KernelIdeal.Arrays.final3 m c (hq c) (hk c)),
        (h.1.out_eq c 4).trans (Cert.KernelIdeal.Arrays.final4 m c (hq c) (hk c)),
        (h.1.out_eq c 5).trans (Cert.KernelIdeal.Arrays.final5 m c (hq c) (hk c)), h.2.1 c⟩)
      (θ_run_and (Cert.KernelIdeal.Body.run_main m g) (Cert.KernelIdeal.Body.frame m g)), ?_⟩
  refine (θ_run Cert.ReferenceIdeal.defs _ _).mono (fun r h c => ?_) (Cert.ReferenceIdeal.At.run m' g')
  obtain ⟨h0, h1, h2, h3⟩ := h c
  obtain ⟨e0, e1, e2⟩ := hargs c
  rw [e0, e1, e2] at h0 h2
  rw [e0, e1] at h1
  exact ⟨h0, h1, h2, h3⟩

theorem claim : Cert.Claim :=
  ⟨Cert.Kernel.Gen.facts, Cert.KernelIdeal.Gen.facts, Cert.ReferenceIdeal.Gen.facts,
    Cert.Amax.Gen.facts, Cert.AmaxIdeal.Gen.facts, Cert.AmaxReferenceIdeal.Gen.facts,
    Cert.Quant.Gen.facts, Cert.QuantIdeal.Gen.facts, Cert.QuantReference.Gen.facts, Cert.QuantReferenceIdeal.Gen.facts,
    Cert.PrepKV.Gen.facts, Cert.PrepKVIdeal.Gen.facts, Cert.PrepKVReferenceIdeal.Gen.facts,
    Cert.PrepQ.Gen.facts, Cert.PrepQIdeal.Gen.facts, Cert.PrepQReferenceIdeal.Gen.facts,
    Cert.Pre_finite_scores.Gen.facts,
    fun m ρ _ => Cert.Kernel.Body.frame m ρ,
    fun m ρ _ => Cert.KernelIdeal.Body.frame m ρ,
    fun m ρ _ => Cert.KernelIdeal.Body.frame m ρ,
    reference_frame,
    fun m ρ _ => reference_frame m ρ trivial,
    fun m ρ _ => Cert.Amax.Gen.frame m ρ,
    fun m ρ _ => Cert.AmaxIdeal.Gen.frame m ρ,
    Cert.AmaxClaim.reference_frame,
    fun m ρ _ => Cert.Quant.Gen.frame m ρ,
    fun m ρ _ => Cert.QuantIdeal.Gen.frame m ρ,
    fun m ρ _ => Cert.QuantReference.Gen.frame m ρ,
    fun m ρ _ => Cert.QuantReferenceIdeal.Gen.frame m ρ,
    fun m ρ _ => Cert.PrepKV.Gen.frame m ρ,
    fun m ρ _ => Cert.PrepKVIdeal.Gen.frame m ρ,
    Cert.PrepKVClaim.reference_frame,
    fun m ρ _ => Cert.PrepQ.Gen.frame m ρ,
    fun m ρ _ => Cert.PrepQIdeal.Gen.frame m ρ,
    Cert.PrepQClaim.reference_frame,
    IdealRules.named_const.statement Cert.KernelIdeal.κ "scale_log2e" .f32 0x3E0293EE#32 _ rfl,
    algebraic,
    trivial,
    Cert.AmaxClaim.algebraic,
    trivial,
    Cert.QuantClaim.algebraic,
    Cert.QuantClaim.bitexact,
    Cert.PrepKVClaim.preserves,
    Cert.PrepKVClaim.algebraic,
    Cert.PrepQClaim.preserves,
    Cert.PrepQClaim.algebraic⟩

end Cert.Proof

end
